-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7)
      ∧ r.2.mem ((c.tc : Thread Cert.OutKernel.nD Cert.OutKernel.τ).loc Cert.OutKernel.main_arg8) = m ((c.tc : Thread Cert.OutKernel.nD Cert.OutKernel.τ).loc Cert.OutKernel.main_arg8)
      ∧ r.2.mem ((c.tc : Thread Cert.OutKernel.nD Cert.OutKernel.τ).loc Cert.OutKernel.main_arg9) = m ((c.tc : Thread Cert.OutKernel.nD Cert.OutKernel.τ).loc Cert.OutKernel.main_arg9))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
      ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
      ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8)
      ∧ r.2.mem ((c.tc : Thread Cert.OutReferenceIdeal.nD Cert.OutReferenceIdeal.τ).loc Cert.OutReferenceIdeal.main_arg9) = m ((c.tc : Thread Cert.OutReferenceIdeal.nD Cert.OutReferenceIdeal.τ).loc Cert.OutReferenceIdeal.main_arg9))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5)
      ∧ r.2.mem ((c.tc : Thread Cert.ProjKernel.nD Cert.ProjKernel.τ).loc Cert.ProjKernel.main_arg6) = m ((c.tc : Thread Cert.ProjKernel.nD Cert.ProjKernel.τ).loc Cert.ProjKernel.main_arg6)
      ∧ r.2.mem ((c.tc : Thread Cert.ProjKernel.nD Cert.ProjKernel.τ).loc Cert.ProjKernel.main_arg7) = m ((c.tc : Thread Cert.ProjKernel.nD Cert.ProjKernel.τ).loc Cert.ProjKernel.main_arg7)
      ∧ r.2.mem ((c.tc : Thread Cert.ProjKernel.nD Cert.ProjKernel.τ).loc Cert.ProjKernel.main_arg8) = m ((c.tc : Thread Cert.ProjKernel.nD Cert.ProjKernel.τ).loc Cert.ProjKernel.main_arg8)
      ∧ r.2.mem ((c.tc : Thread Cert.ProjKernel.nD Cert.ProjKernel.τ).loc Cert.ProjKernel.main_arg9) = m ((c.tc : Thread Cert.ProjKernel.nD Cert.ProjKernel.τ).loc Cert.ProjKernel.main_arg9)
      ∧ r.2.mem ((c.tc : Thread Cert.ProjKernel.nD Cert.ProjKernel.τ).loc Cert.ProjKernel.main_arg10) = m ((c.tc : Thread Cert.ProjKernel.nD Cert.ProjKernel.τ).loc Cert.ProjKernel.main_arg10))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
      ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
      ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
      ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
      ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
      ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7)
      ∧ r.2.mem ((c.tc : Thread Cert.ProjReferenceIdeal.nD Cert.ProjReferenceIdeal.τ).loc Cert.ProjReferenceIdeal.main_arg8) = m ((c.tc : Thread Cert.ProjReferenceIdeal.nD Cert.ProjReferenceIdeal.τ).loc Cert.ProjReferenceIdeal.main_arg8)
      ∧ r.2.mem ((c.tc : Thread Cert.ProjReferenceIdeal.nD Cert.ProjReferenceIdeal.τ).loc Cert.ProjReferenceIdeal.main_arg9) = m ((c.tc : Thread Cert.ProjReferenceIdeal.nD Cert.ProjReferenceIdeal.τ).loc Cert.ProjReferenceIdeal.main_arg9)
      ∧ r.2.mem ((c.tc : Thread Cert.ProjReferenceIdeal.nD Cert.ProjReferenceIdeal.τ).loc Cert.ProjReferenceIdeal.main_arg10) = m ((c.tc : Thread Cert.ProjReferenceIdeal.nD Cert.ProjReferenceIdeal.τ).loc Cert.ProjReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)
      ∧ m' ((c.tc : Thread Cert.OutReferenceIdeal.nD Cert.OutReferenceIdeal.τ).loc Cert.OutReferenceIdeal.main_arg8) = m ((c.tc : Thread Cert.OutKernelIdeal.nD Cert.OutKernelIdeal.τ).loc Cert.OutKernelIdeal.main_arg8)
      ∧ m' ((c.tc : Thread Cert.OutReferenceIdeal.nD Cert.OutReferenceIdeal.τ).loc Cert.OutReferenceIdeal.main_arg9) = m ((c.tc : Thread Cert.OutKernelIdeal.nD Cert.OutKernelIdeal.τ).loc Cert.OutKernelIdeal.main_arg9)) →
    ∃ (v0 : (c : Dev Cert.OutKernelIdeal.nD) → Buf (Elt Ideal) ((c.tc : Thread Cert.OutKernelIdeal.nD Cert.OutKernelIdeal.τ).loc Cert.OutKernelIdeal.main_v14)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v14) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7)
          ∧ r.2.mem ((c.tc : Thread Cert.OutKernelIdeal.nD Cert.OutKernelIdeal.τ).loc Cert.OutKernelIdeal.main_arg8) = m ((c.tc : Thread Cert.OutKernelIdeal.nD Cert.OutKernelIdeal.τ).loc Cert.OutKernelIdeal.main_arg8)
          ∧ r.2.mem ((c.tc : Thread Cert.OutKernelIdeal.nD Cert.OutKernelIdeal.τ).loc Cert.OutKernelIdeal.main_arg9) = m ((c.tc : Thread Cert.OutKernelIdeal.nD Cert.OutKernelIdeal.τ).loc Cert.OutKernelIdeal.main_arg9))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v57) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8)
          ∧ r.2.mem ((c.tc : Thread Cert.OutReferenceIdeal.nD Cert.OutReferenceIdeal.τ).loc Cert.OutReferenceIdeal.main_arg9) = m' ((c.tc : Thread Cert.OutReferenceIdeal.nD Cert.OutReferenceIdeal.τ).loc Cert.OutReferenceIdeal.main_arg9))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v6)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v6) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v25) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_ProjKernel_ProjKernelIdeal : Prop :=
  IdealRules.named_const.Statement Cert.ProjKernelIdeal.κ "inv_qk_dim" .f32 0x3BAAAAAB#32 ((1 / 192 : ℝ) : EReal)

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)
      ∧ m' ((c.tc : Thread Cert.ProjReferenceIdeal.nD Cert.ProjReferenceIdeal.τ).loc Cert.ProjReferenceIdeal.main_arg6) = m ((c.tc : Thread Cert.ProjKernelIdeal.nD Cert.ProjKernelIdeal.τ).loc Cert.ProjKernelIdeal.main_arg6)
      ∧ m' ((c.tc : Thread Cert.ProjReferenceIdeal.nD Cert.ProjReferenceIdeal.τ).loc Cert.ProjReferenceIdeal.main_arg7) = m ((c.tc : Thread Cert.ProjKernelIdeal.nD Cert.ProjKernelIdeal.τ).loc Cert.ProjKernelIdeal.main_arg7)
      ∧ m' ((c.tc : Thread Cert.ProjReferenceIdeal.nD Cert.ProjReferenceIdeal.τ).loc Cert.ProjReferenceIdeal.main_arg8) = m ((c.tc : Thread Cert.ProjKernelIdeal.nD Cert.ProjKernelIdeal.τ).loc Cert.ProjKernelIdeal.main_arg8)
      ∧ m' ((c.tc : Thread Cert.ProjReferenceIdeal.nD Cert.ProjReferenceIdeal.τ).loc Cert.ProjReferenceIdeal.main_arg9) = m ((c.tc : Thread Cert.ProjKernelIdeal.nD Cert.ProjKernelIdeal.τ).loc Cert.ProjKernelIdeal.main_arg9)
      ∧ m' ((c.tc : Thread Cert.ProjReferenceIdeal.nD Cert.ProjReferenceIdeal.τ).loc Cert.ProjReferenceIdeal.main_arg10) = m ((c.tc : Thread Cert.ProjKernelIdeal.nD Cert.ProjKernelIdeal.τ).loc Cert.ProjKernelIdeal.main_arg10)) →
    ∃ (v0 : (c : Dev Cert.ProjKernelIdeal.nD) → Buf (Elt Ideal) ((c.tc : Thread Cert.ProjKernelIdeal.nD Cert.ProjKernelIdeal.τ).loc Cert.ProjKernelIdeal.main_v88_0)) (v1 : (c : Dev Cert.ProjKernelIdeal.nD) → Buf (Elt Ideal) ((c.tc : Thread Cert.ProjKernelIdeal.nD Cert.ProjKernelIdeal.τ).loc Cert.ProjKernelIdeal.main_v88_1)) (v2 : (c : Dev Cert.ProjKernelIdeal.nD) → Buf (Elt Ideal) ((c.tc : Thread Cert.ProjKernelIdeal.nD Cert.ProjKernelIdeal.τ).loc Cert.ProjKernelIdeal.main_v88_2)) (v3 : (c : Dev Cert.ProjKernelIdeal.nD) → Buf (Elt Ideal) ((c.tc : Thread Cert.ProjKernelIdeal.nD Cert.ProjKernelIdeal.τ).loc Cert.ProjKernelIdeal.main_v88_3)) (v4 : (c : Dev Cert.ProjKernelIdeal.nD) → Buf (Elt Ideal) ((c.tc : Thread Cert.ProjKernelIdeal.nD Cert.ProjKernelIdeal.τ).loc Cert.ProjKernelIdeal.main_v88_4)) (v5 : (c : Dev Cert.ProjKernelIdeal.nD) → Buf (Elt Ideal) ((c.tc : Thread Cert.ProjKernelIdeal.nD Cert.ProjKernelIdeal.τ).loc Cert.ProjKernelIdeal.main_v88_5)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v88_0) = v0 c
          ∧ r.2.mem ((c.tc : Thread Cert.ProjKernelIdeal.nD Cert.ProjKernelIdeal.τ).loc Cert.ProjKernelIdeal.main_v88_1) = v1 c
          ∧ r.2.mem ((c.tc : Thread Cert.ProjKernelIdeal.nD Cert.ProjKernelIdeal.τ).loc Cert.ProjKernelIdeal.main_v88_2) = v2 c
          ∧ r.2.mem ((c.tc : Thread Cert.ProjKernelIdeal.nD Cert.ProjKernelIdeal.τ).loc Cert.ProjKernelIdeal.main_v88_3) = v3 c
          ∧ r.2.mem ((c.tc : Thread Cert.ProjKernelIdeal.nD Cert.ProjKernelIdeal.τ).loc Cert.ProjKernelIdeal.main_v88_4) = v4 c
          ∧ r.2.mem ((c.tc : Thread Cert.ProjKernelIdeal.nD Cert.ProjKernelIdeal.τ).loc Cert.ProjKernelIdeal.main_v88_5) = v5 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5)
          ∧ r.2.mem ((c.tc : Thread Cert.ProjKernelIdeal.nD Cert.ProjKernelIdeal.τ).loc Cert.ProjKernelIdeal.main_arg6) = m ((c.tc : Thread Cert.ProjKernelIdeal.nD Cert.ProjKernelIdeal.τ).loc Cert.ProjKernelIdeal.main_arg6)
          ∧ r.2.mem ((c.tc : Thread Cert.ProjKernelIdeal.nD Cert.ProjKernelIdeal.τ).loc Cert.ProjKernelIdeal.main_arg7) = m ((c.tc : Thread Cert.ProjKernelIdeal.nD Cert.ProjKernelIdeal.τ).loc Cert.ProjKernelIdeal.main_arg7)
          ∧ r.2.mem ((c.tc : Thread Cert.ProjKernelIdeal.nD Cert.ProjKernelIdeal.τ).loc Cert.ProjKernelIdeal.main_arg8) = m ((c.tc : Thread Cert.ProjKernelIdeal.nD Cert.ProjKernelIdeal.τ).loc Cert.ProjKernelIdeal.main_arg8)
          ∧ r.2.mem ((c.tc : Thread Cert.ProjKernelIdeal.nD Cert.ProjKernelIdeal.τ).loc Cert.ProjKernelIdeal.main_arg9) = m ((c.tc : Thread Cert.ProjKernelIdeal.nD Cert.ProjKernelIdeal.τ).loc Cert.ProjKernelIdeal.main_arg9)
          ∧ r.2.mem ((c.tc : Thread Cert.ProjKernelIdeal.nD Cert.ProjKernelIdeal.τ).loc Cert.ProjKernelIdeal.main_arg10) = m ((c.tc : Thread Cert.ProjKernelIdeal.nD Cert.ProjKernelIdeal.τ).loc Cert.ProjKernelIdeal.main_arg10))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v193) = v0 c
          ∧ r.2.mem ((c.tc : Thread Cert.ProjReferenceIdeal.nD Cert.ProjReferenceIdeal.τ).loc Cert.ProjReferenceIdeal.main_v195) = v1 c
          ∧ r.2.mem ((c.tc : Thread Cert.ProjReferenceIdeal.nD Cert.ProjReferenceIdeal.τ).loc Cert.ProjReferenceIdeal.main_v197) = v2 c
          ∧ r.2.mem ((c.tc : Thread Cert.ProjReferenceIdeal.nD Cert.ProjReferenceIdeal.τ).loc Cert.ProjReferenceIdeal.main_v200) = v3 c
          ∧ r.2.mem ((c.tc : Thread Cert.ProjReferenceIdeal.nD Cert.ProjReferenceIdeal.τ).loc Cert.ProjReferenceIdeal.main_v203) = v4 c
          ∧ r.2.mem ((c.tc : Thread Cert.ProjReferenceIdeal.nD Cert.ProjReferenceIdeal.τ).loc Cert.ProjReferenceIdeal.main_v205) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7)
          ∧ r.2.mem ((c.tc : Thread Cert.ProjReferenceIdeal.nD Cert.ProjReferenceIdeal.τ).loc Cert.ProjReferenceIdeal.main_arg8) = m' ((c.tc : Thread Cert.ProjReferenceIdeal.nD Cert.ProjReferenceIdeal.τ).loc Cert.ProjReferenceIdeal.main_arg8)
          ∧ r.2.mem ((c.tc : Thread Cert.ProjReferenceIdeal.nD Cert.ProjReferenceIdeal.τ).loc Cert.ProjReferenceIdeal.main_arg9) = m' ((c.tc : Thread Cert.ProjReferenceIdeal.nD Cert.ProjReferenceIdeal.τ).loc Cert.ProjReferenceIdeal.main_arg9)
          ∧ r.2.mem ((c.tc : Thread Cert.ProjReferenceIdeal.nD Cert.ProjReferenceIdeal.τ).loc Cert.ProjReferenceIdeal.main_arg10) = m' ((c.tc : Thread Cert.ProjReferenceIdeal.nD Cert.ProjReferenceIdeal.τ).loc Cert.ProjReferenceIdeal.main_arg10))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts) (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutKernel_OutKernelIdeal
    ∧ algebraic_OutKernelIdeal_OutReferenceIdeal (hOutKernelIdeal := hOutKernelIdeal) (hOutReferenceIdeal := hOutReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
-- ==== Pre_finite.lean ====
abbrev S2x8192x4x192 : Shape := ⟨4, ![2, 8192, 4, 192]⟩
abbrev S2x8192x4x128 : Shape := ⟨4, ![2, 8192, 4, 128]⟩
abbrev S_ : Shape := ⟨0, ![]⟩

class Facts : Prop where
  bcast_S_S2x8192x4x192 : S_.BroadcastsInDim S2x8192x4x192 (![] : Fin 0 → Fin S2x8192x4x192.rank)
  reducesTo_S2x8192x4x192_S_d0_1_2_3 : S2x8192x4x192.ReducesTo [0, 1, 2, 3] S_
  h_S_ : 0 < S_.numel

variable [Facts]

def fn {F : FTy → Type} [FloatOps F] (main_arg0 : FVec F S2x8192x4x192 .f32) (main_arg1 : FVec F S2x8192x4x192 .f32) (main_arg2 : FVec F S2x8192x4x128 .f32) : IVec S_ 1 :=
  let main_v0 : FVec F S2x8192x4x192 .f32 := Host.absf main_arg0
  let main_cst : FVec F S_ .f32 := constant S_ .f32 0x7F800000#32
  let main_v1 : FVec F S2x8192x4x192 .f32 := broadcastInDim S2x8192x4x192 ![] bcast_S_S2x8192x4x192 main_cst
  let main_v2 : IVec S2x8192x4x192 1 := cmpf .olt main_v0 main_v1
  let main_c : IVec S_ 1 := constantI S_ 1 1#1
  let main_v3 : IVec S_ 1 := (fun x v => Host.reduce IntOp.andi x v reducesTo_S2x8192x4x192_S_d0_1_2_3 h_S_) main_v2 main_c
  let main_v4 : FVec F S2x8192x4x192 .f32 := Host.absf main_arg1
  let main_cst_0 : FVec F S_ .f32 := constant S_ .f32 0x7F800000#32
  let main_v5 : FVec F S2x8192x4x192 .f32 := broadcastInDim S2x8192x4x192 ![] bcast_S_S2x8192x4x192 main_cst_0
  let main_v6 : IVec S2x8192x4x192 1 := cmpf .olt main_v4 main_v5
  let main_c_1 : IVec S_ 1 := constantI S_ 1 1#1
  let main_v7 : IVec S_ 1 := (fun x v => Host.reduce IntOp.andi x v reducesTo_S2x8192x4x192_S_d0_1_2_3 h_S_) main_v6 main_c_1
  let main_v8 : IVec S_ 1 := andi main_v3 main_v7
  main_v8
-- ==== Kernel.lean ====
abbrev S2x8192x4x192 : Shape := ⟨4, ![2, 8192, 4, 192]⟩
abbrev S2x8192x4x128 : Shape := ⟨4, ![2, 8192, 4, 128]⟩
abbrev S_ : Shape := ⟨0, ![]⟩
abbrev S2x8192x4x256 : Shape := ⟨4, ![2, 8192, 4, 256]⟩
abbrev S2x8192x1024 : Shape := ⟨3, ![2, 8192, 1024]⟩
abbrev S2x8192x512 : Shape := ⟨3, ![2, 8192, 512]⟩
abbrev S1x8192x256 : Shape := ⟨3, ![1, 8192, 256]⟩
abbrev S1x8192x128 : Shape := ⟨3, ![1, 8192, 128]⟩
abbrev S2048x128 : Shape := ⟨2, ![2048, 128]⟩
abbrev S2048x256 : Shape := ⟨2, ![2048, 256]⟩
abbrev S2048x512 : Shape := ⟨2, ![2048, 512]⟩
abbrev S512x128 : Shape := ⟨2, ![512, 128]⟩
abbrev S1x2048x256 : Shape := ⟨3, ![1, 2048, 256]⟩
abbrev S1x512x256 : Shape := ⟨3, ![1, 512, 256]⟩
abbrev S512x256 : Shape := ⟨2, ![512, 256]⟩
abbrev S1x1536x256 : Shape := ⟨3, ![1, 1536, 256]⟩
abbrev S1536x256 : Shape := ⟨2, ![1536, 256]⟩
abbrev S1536x512 : Shape := ⟨2, ![1536, 512]⟩
abbrev S2048 : Shape := ⟨1, ![2048]⟩
abbrev S2048x1 : Shape := ⟨2, ![2048, 1]⟩
abbrev S1x512x128 : Shape := ⟨3, ![1, 512, 128]⟩
abbrev S1x1024x256 : Shape := ⟨3, ![1, 1024, 256]⟩
abbrev S1024x256 : Shape := ⟨2, ![1024, 256]⟩
abbrev S1024x512 : Shape := ⟨2, ![1024, 512]⟩
abbrev S1536x128 : Shape := ⟨2, ![1536, 128]⟩
abbrev S1536 : Shape := ⟨1, ![1536]⟩
abbrev S1536x1 : Shape := ⟨2, ![1536, 1]⟩
abbrev S512x512 : Shape := ⟨2, ![512, 512]⟩
abbrev S1024x128 : Shape := ⟨2, ![1024, 128]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x2048x128 : Shape := ⟨3, ![1, 2048, 128]⟩

abbrev nBuf : Space → Nat
  | .hbm => 22
  | .vmem => 12
  | .smem => 0
  | _ => 0

abbrev bufTy : (tb : Table) → Fin (tcTables nBuf tb) → BufTy
  | .hbm, ⟨0, _⟩ => ⟨S2x8192x4x192, .f32⟩
  | .hbm, ⟨1, _⟩ => ⟨S2x8192x4x192, .f32⟩
  | .hbm, ⟨2, _⟩ => ⟨S2x8192x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8192x4x192, .f32⟩
  | .hbm, ⟨8, _⟩ => ⟨S2x8192x4x192, .f32⟩
  | .hbm, ⟨9, _⟩ => ⟨S_, .i32⟩
  | .hbm, ⟨10, _⟩ => ⟨S_, .f32⟩
  | .hbm, ⟨11, _⟩ => ⟨S2x8192x4x256, .f32⟩
  | .hbm, ⟨12, _⟩ => ⟨S2x8192x1024, .f32⟩
  | .hbm, ⟨13, _⟩ => ⟨S2x8192x1024, .bf16⟩
  | .hbm, ⟨14, _⟩ => ⟨S_, .i32⟩
  | .hbm, ⟨15, _⟩ => ⟨S_, .f32⟩
  | .hbm, ⟨16, _⟩ => ⟨S2x8192x4x256, .f32⟩
  | .hbm, ⟨17, _⟩ => ⟨S2x8192x1024, .f32⟩
  | .hbm, ⟨18, _⟩ => ⟨S2x8192x1024, .bf16⟩
  | .hbm, ⟨19, _⟩ => ⟨S2x8192x512, .f32⟩
  | .hbm, ⟨20, _⟩ => ⟨S2x8192x512, .bf16⟩
  | .hbm, ⟨21, _⟩ => ⟨S2x8192x512, .f32⟩
  | .local _ .vmem, ⟨0, _⟩ => ⟨S1x8192x256, .bf16⟩
  | .local _ .vmem, ⟨1, _⟩ => ⟨S1x8192x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .f32⟩
  | .local _ .vmem, ⟨7, _⟩ => ⟨S1x8192x128, .f32⟩
  | .local _ .vmem, ⟨8, _⟩ => ⟨S2048x128, .f32⟩
  | .local _ .vmem, ⟨9, _⟩ => ⟨S2048x256, .f32⟩
  | .local _ .vmem, ⟨10, _⟩ => ⟨S2048x512, .f32⟩
  | .local _ .vmem, ⟨11, _⟩ => ⟨S2048x512, .f32⟩
  | _, _ => ⟨S2x8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_mult1 : BitVec 32 :=
  let c0_i32 : BitVec 32 := 0#32
  c0_i32
def k0_mult2 : BitVec 32 :=
  let c512_i32 : BitVec 32 := 512#32
  c512_i32
def k0_mult3 : BitVec 32 :=
  let c0_i32_20 : BitVec 32 := 0#32
  c0_i32_20
def k0_mult4 : BitVec 32 :=
  let c1024_i32 : BitVec 32 := 1024#32
  c1024_i32
def k0_mult5 : BitVec 32 :=
  let c512_i32_39 : BitVec 32 := 512#32
  c512_i32_39
def k0_mult6 : BitVec 32 :=
  let c1536_i32 : BitVec 32 := 1536#32
  c1536_i32
def k0_mult7 : BitVec 32 :=
  let c1024_i32_58 : BitVec 32 := 1024#32
  c1024_i32_58
def k0_mult8 : BitVec 32 :=
  let c1536_i32_72 : BitVec 32 := 1536#32
  c1536_i32_72
def k0_mult9 : BitVec 32 :=
  let c0_i32_97 : BitVec 32 := 0#32
  c0_i32_97
def k0_mult10 : BitVec 32 :=
  let c4_i32 : BitVec 32 := 4#32
  let c0_i32_105 : BitVec 32 := 0#32
  let v234 : BitVec 32 := Scalar.muli c4_i32 c0_i32_105
  let c0_i32_106 : BitVec 32 := 0#32
  let v235 : BitVec 32 := Scalar.addi v234 c0_i32_106
  let c1_i32 : BitVec 32 := 1#32
  let v236 : BitVec 32 := Scalar.addi v235 c1_i32
  let c512_i32_107 : BitVec 32 := 512#32
  let v237 : BitVec 32 := Scalar.muli v236 c512_i32_107
  v237
def k0_off1 (c0_i32_106 : BitVec 32) : Fin 3 → Nat :=
  let c0_111 : Index := 0#32
  let c4_i32 : BitVec 32 := 4#32
  let c0_i32_105 : BitVec 32 := 0#32
  let v234 : BitVec 32 := Scalar.muli c4_i32 c0_i32_105
  let v235 : BitVec 32 := Scalar.addi v234 c0_i32_106
  let c1_i32 : BitVec 32 := 1#32
  let v236 : BitVec 32 := Scalar.addi v235 c1_i32
  let c512_i32_107 : BitVec 32 := 512#32
  let v237 : BitVec 32 := Scalar.muli v236 c512_i32_107
  let v238 : BitVec 32 := v237
  let v241 : Index := Scalar.indexCast v238
  let c0_112 : Index := 0#32
  ![0, v241.toNat, 0]
def k0_mult11 : BitVec 32 :=
  let c4_i32_118 : BitVec 32 := 4#32
  let c0_i32_105 : BitVec 32 := 0#32
  let v249 : BitVec 32 := Scalar.muli c4_i32_118 c0_i32_105
  let c0_i32_119 : BitVec 32 := 0#32
  let v250 : BitVec 32 := Scalar.addi v249 c0_i32_119
  let c512_i32_120 : BitVec 32 := 512#32
  let v251 : BitVec 32 := Scalar.muli v250 c512_i32_120
  v251
def k0_off2 (c0_i32_119 : BitVec 32) : Fin 3 → Nat :=
  let c0_126 : Index := 0#32
  let c4_i32_118 : BitVec 32 := 4#32
  let c0_i32_105 : BitVec 32 := 0#32
  let v249 : BitVec 32 := Scalar.muli c4_i32_118 c0_i32_105
  let v250 : BitVec 32 := Scalar.addi v249 c0_i32_119
  let c512_i32_120 : BitVec 32 := 512#32
  let v251 : BitVec 32 := Scalar.muli v250 c512_i32_120
  let v252 : BitVec 32 := v251
  let v277 : Index := Scalar.indexCast v252
  let c0_127 : Index := 0#32
  ![0, v277.toNat, 0]
def k0_mult12 : BitVec 32 :=
  let c4_i32_133 : BitVec 32 := 4#32
  let c0_i32_105 : BitVec 32 := 0#32
  let v289 : BitVec 32 := Scalar.muli c4_i32_133 c0_i32_105
  let c1_i32_134 : BitVec 32 := 1#32
  let v290 : BitVec 32 := Scalar.addi v289 c1_i32_134
  let c1_i32_135 : BitVec 32 := 1#32
  let v291 : BitVec 32 := Scalar.addi v290 c1_i32_135
  let c512_i32_136 : BitVec 32 := 512#32
  let v292 : BitVec 32 := Scalar.muli v291 c512_i32_136
  v292
def k0_mult13 : BitVec 32 :=
  let c4_i32_147 : BitVec 32 := 4#32
  let c0_i32_105 : BitVec 32 := 0#32
  let v304 : BitVec 32 := Scalar.muli c4_i32_147 c0_i32_105
  let c1_i32_148 : BitVec 32 := 1#32
  let v305 : BitVec 32 := Scalar.addi v304 c1_i32_148
  let c512_i32_149 : BitVec 32 := 512#32
  let v306 : BitVec 32 := Scalar.muli v305 c512_i32_149
  v306
def k0_mult14 : BitVec 32 :=
  let c4_i32_162 : BitVec 32 := 4#32
  let c0_i32_105 : BitVec 32 := 0#32
  let v344 : BitVec 32 := Scalar.muli c4_i32_162 c0_i32_105
  let c2_i32 : BitVec 32 := 2#32
  let v345 : BitVec 32 := Scalar.addi v344 c2_i32
  let c1_i32_163 : BitVec 32 := 1#32
  let v346 : BitVec 32 := Scalar.addi v345 c1_i32_163
  let c512_i32_164 : BitVec 32 := 512#32
  let v347 : BitVec 32 := Scalar.muli v346 c512_i32_164
  v347
def k0_mult15 : BitVec 32 :=
  let c4_i32_175 : BitVec 32 := 4#32
  let c0_i32_105 : BitVec 32 := 0#32
  let v359 : BitVec 32 := Scalar.muli c4_i32_175 c0_i32_105
  let c2_i32_176 : BitVec 32 := 2#32
  let v360 : BitVec 32 := Scalar.addi v359 c2_i32_176
  let c512_i32_177 : BitVec 32 := 512#32
  let v361 : BitVec 32 := Scalar.muli v360 c512_i32_177
  v361
def k0_mult16 : BitVec 32 :=
  let c4_i32_190 : BitVec 32 := 4#32
  let c0_i32_105 : BitVec 32 := 0#32
  let v399 : BitVec 32 := Scalar.muli c4_i32_190 c0_i32_105
  let c3_i32 : BitVec 32 := 3#32
  let v400 : BitVec 32 := Scalar.addi v399 c3_i32
  let c1_i32_191 : BitVec 32 := 1#32
  let v401 : BitVec 32 := Scalar.addi v400 c1_i32_191
  let c512_i32_192 : BitVec 32 := 512#32
  let v402 : BitVec 32 := Scalar.muli v401 c512_i32_192
  v402
def k0_mult17 : BitVec 32 :=
  let c4_i32_203 : BitVec 32 := 4#32
  let c0_i32_105 : BitVec 32 := 0#32
  let v414 : BitVec 32 := Scalar.muli c4_i32_203 c0_i32_105
  let c3_i32_204 : BitVec 32 := 3#32
  let v415 : BitVec 32 := Scalar.addi v414 c3_i32_204
  let c512_i32_205 : BitVec 32 := 512#32
  let v416 : BitVec 32 := Scalar.muli v415 c512_i32_205
  v416
def k0_mult18 : BitVec 32 :=
  let c2560_i32 : BitVec 32 := 2560#32
  c2560_i32
def k0_mult19 : BitVec 32 :=
  let c2048_i32 : BitVec 32 := 2048#32
  c2048_i32
def k0_mult20 : BitVec 32 :=
  let c3072_i32 : BitVec 32 := 3072#32
  c3072_i32
def k0_mult21 : BitVec 32 :=
  let c2560_i32_244 : BitVec 32 := 2560#32
  c2560_i32_244
def k0_mult22 : BitVec 32 :=
  let c3584_i32 : BitVec 32 := 3584#32
  c3584_i32
def k0_mult23 : BitVec 32 :=
  let c3072_i32_263 : BitVec 32 := 3072#32
  c3072_i32_263
def k0_mult24 : BitVec 32 :=
  let c3584_i32_277 : BitVec 32 := 3584#32
  c3584_i32_277
def k0_mult25 : BitVec 32 :=
  let c0_i32_302 : BitVec 32 := 0#32
  c0_i32_302
@[reducible] def k0_t1_loop : Scf.Loop 32 :=
  let c0_i32_310 : BitVec 32 := 0#32
  let c2_i32_311 : BitVec 32 := 2#32
  let v669 : BitVec 32 := Scalar.addi c0_i32_310 c2_i32_311
  let c1_i32_312 : BitVec 32 := 1#32
  ⟨c0_i32_310, v669, c1_i32_312⟩
def k0_mult26 (k0_t1 : Fin k0_t1_loop.trips) : BitVec 32 :=
  let c4_i32_486 : BitVec 32 := 4#32
  let c0_i32_310 : BitVec 32 := 0#32
  let c1_i32_312 : BitVec 32 := 1#32
  let arg10 : BitVec 32 := Scf.iv c0_i32_310 c1_i32_312 k0_t1
  let v1083 : BitVec 32 := Scalar.muli c4_i32_486 arg10
  let c0_i32_487 : BitVec 32 := 0#32
  let v1084 : BitVec 32 := Scalar.addi v1083 c0_i32_487
  let c1_i32_488 : BitVec 32 := 1#32
  let v1085 : BitVec 32 := Scalar.addi v1084 c1_i32_488
  let c512_i32_489 : BitVec 32 := 512#32
  let v1086 : BitVec 32 := Scalar.muli v1085 c512_i32_489
  v1086
def k0_off3 (k0_t1 : Fin k0_t1_loop.trips) (c0_i32_487 : BitVec 32) : Fin 3 → Nat :=
  let c0_493 : Index := 0#32
  let c4_i32_486 : BitVec 32 := 4#32
  let c0_i32_310 : BitVec 32 := 0#32
  let c1_i32_312 : BitVec 32 := 1#32
  let arg10 : BitVec 32 := Scf.iv c0_i32_310 c1_i32_312 k0_t1
  let v1083 : BitVec 32 := Scalar.muli c4_i32_486 arg10
  let v1084 : BitVec 32 := Scalar.addi v1083 c0_i32_487
  let c1_i32_488 : BitVec 32 := 1#32
  let v1085 : BitVec 32 := Scalar.addi v1084 c1_i32_488
  let c512_i32_489 : BitVec 32 := 512#32
  let v1086 : BitVec 32 := Scalar.muli v1085 c512_i32_489
  let v1087 : BitVec 32 := v1086
  let v1090 : Index := Scalar.indexCast v1087
  let c0_494 : Index := 0#32
  ![0, v1090.toNat, 0]
def k0_mult27 (k0_t1 : Fin k0_t1_loop.trips) : BitVec 32 :=
  let c4_i32_500 : BitVec 32 := 4#32
  let c0_i32_310 : BitVec 32 := 0#32
  let c1_i32_312 : BitVec 32 := 1#32
  let arg10 : BitVec 32 := Scf.iv c0_i32_310 c1_i32_312 k0_t1
  let v1098 : BitVec 32 := Scalar.muli c4_i32_500 arg10
  let c0_i32_501 : BitVec 32 := 0#32
  let v1099 : BitVec 32 := Scalar.addi v1098 c0_i32_501
  let c512_i32_502 : BitVec 32 := 512#32
  let v1100 : BitVec 32 := Scalar.muli v1099 c512_i32_502
  v1100
def k0_off4 (k0_t1 : Fin k0_t1_loop.trips) (c0_i32_501 : BitVec 32) : Fin 3 → Nat :=
  let c0_508 : Index := 0#32
  let c4_i32_500 : BitVec 32 := 4#32
  let c0_i32_310 : BitVec 32 := 0#32
  let c1_i32_312 : BitVec 32 := 1#32
  let arg10 : BitVec 32 := Scf.iv c0_i32_310 c1_i32_312 k0_t1
  let v1098 : BitVec 32 := Scalar.muli c4_i32_500 arg10
  let v1099 : BitVec 32 := Scalar.addi v1098 c0_i32_501
  let c512_i32_502 : BitVec 32 := 512#32
  let v1100 : BitVec 32 := Scalar.muli v1099 c512_i32_502
  let v1101 : BitVec 32 := v1100
  let v1126 : Index := Scalar.indexCast v1101
  let c0_509 : Index := 0#32
  ![0, v1126.toNat, 0]
def k0_mult28 (k0_t1 : Fin k0_t1_loop.trips) : BitVec 32 :=
  let c4_i32_515 : BitVec 32 := 4#32
  let c0_i32_310 : BitVec 32 := 0#32
  let c1_i32_312 : BitVec 32 := 1#32
  let arg10 : BitVec 32 := Scf.iv c0_i32_310 c1_i32_312 k0_t1
  let v1138 : BitVec 32 := Scalar.muli c4_i32_515 arg10
  let c1_i32_516 : BitVec 32 := 1#32
  let v1139 : BitVec 32 := Scalar.addi v1138 c1_i32_516
  let c1_i32_517 : BitVec 32 := 1#32
  let v1140 : BitVec 32 := Scalar.addi v1139 c1_i32_517
  let c512_i32_518 : BitVec 32 := 512#32
  let v1141 : BitVec 32 := Scalar.muli v1140 c512_i32_518
  v1141
def k0_mult29 (k0_t1 : Fin k0_t1_loop.trips) : BitVec 32 :=
  let c4_i32_529 : BitVec 32 := 4#32
  let c0_i32_310 : BitVec 32 := 0#32
  let c1_i32_312 : BitVec 32 := 1#32
  let arg10 : BitVec 32 := Scf.iv c0_i32_310 c1_i32_312 k0_t1
  let v1153 : BitVec 32 := Scalar.muli c4_i32_529 arg10
  let c1_i32_530 : BitVec 32 := 1#32
  let v1154 : BitVec 32 := Scalar.addi v1153 c1_i32_530
  let c512_i32_531 : BitVec 32 := 512#32
  let v1155 : BitVec 32 := Scalar.muli v1154 c512_i32_531
  v1155
def k0_mult30 (k0_t1 : Fin k0_t1_loop.trips) : BitVec 32 :=
  let c4_i32_544 : BitVec 32 := 4#32
  let c0_i32_310 : BitVec 32 := 0#32
  let c1_i32_312 : BitVec 32 := 1#32
  let arg10 : BitVec 32 := Scf.iv c0_i32_310 c1_i32_312 k0_t1
  let v1193 : BitVec 32 := Scalar.muli c4_i32_544 arg10
  let c2_i32_545 : BitVec 32 := 2#32
  let v1194 : BitVec 32 := Scalar.addi v1193 c2_i32_545
  let c1_i32_546 : BitVec 32 := 1#32
  let v1195 : BitVec 32 := Scalar.addi v1194 c1_i32_546
  let c512_i32_547 : BitVec 32 := 512#32
  let v1196 : BitVec 32 := Scalar.muli v1195 c512_i32_547
  v1196
def k0_mult31 (k0_t1 : Fin k0_t1_loop.trips) : BitVec 32 :=
  let c4_i32_558 : BitVec 32 := 4#32
  let c0_i32_310 : BitVec 32 := 0#32
  let c1_i32_312 : BitVec 32 := 1#32
  let arg10 : BitVec 32 := Scf.iv c0_i32_310 c1_i32_312 k0_t1
  let v1208 : BitVec 32 := Scalar.muli c4_i32_558 arg10
  let c2_i32_559 : BitVec 32 := 2#32
  let v1209 : BitVec 32 := Scalar.addi v1208 c2_i32_559
  let c512_i32_560 : BitVec 32 := 512#32
  let v1210 : BitVec 32 := Scalar.muli v1209 c512_i32_560
  v1210
def k0_mult32 (k0_t1 : Fin k0_t1_loop.trips) : BitVec 32 :=
  let c4_i32_573 : BitVec 32 := 4#32
  let c0_i32_310 : BitVec 32 := 0#32
  let c1_i32_312 : BitVec 32 := 1#32
  let arg10 : BitVec 32 := Scf.iv c0_i32_310 c1_i32_312 k0_t1
  let v1248 : BitVec 32 := Scalar.muli c4_i32_573 arg10
  let c3_i32_574 : BitVec 32 := 3#32
  let v1249 : BitVec 32 := Scalar.addi v1248 c3_i32_574
  let c1_i32_575 : BitVec 32 := 1#32
  let v1250 : BitVec 32 := Scalar.addi v1249 c1_i32_575
  let c512_i32_576 : BitVec 32 := 512#32
  let v1251 : BitVec 32 := Scalar.muli v1250 c512_i32_576
  v1251
def k0_mult33 (k0_t1 : Fin k0_t1_loop.trips) : BitVec 32 :=
  let c4_i32_587 : BitVec 32 := 4#32
  let c0_i32_310 : BitVec 32 := 0#32
  let c1_i32_312 : BitVec 32 := 1#32
  let arg10 : BitVec 32 := Scf.iv c0_i32_310 c1_i32_312 k0_t1
  let v1263 : BitVec 32 := Scalar.muli c4_i32_587 arg10
  let c3_i32_588 : BitVec 32 := 3#32
  let v1264 : BitVec 32 := Scalar.addi v1263 c3_i32_588
  let c512_i32_589 : BitVec 32 := 512#32
  let v1265 : BitVec 32 := Scalar.muli v1264 c512_i32_589
  v1265
def k0_mult34 : BitVec 32 :=
  let c4608_i32 : BitVec 32 := 4608#32
  c4608_i32
def k0_mult35 : BitVec 32 :=
  let c4096_i32 : BitVec 32 := 4096#32
  c4096_i32
def k0_mult36 : BitVec 32 :=
  let c5120_i32 : BitVec 32 := 5120#32
  c5120_i32
def k0_mult37 : BitVec 32 :=
  let c4608_i32_339 : BitVec 32 := 4608#32
  c4608_i32_339
def k0_mult38 : BitVec 32 :=
  let c5632_i32 : BitVec 32 := 5632#32
  c5632_i32
def k0_mult39 : BitVec 32 :=
  let c5120_i32_358 : BitVec 32 := 5120#32
  c5120_i32_358
def k0_mult40 : BitVec 32 :=
  let c5632_i32_372 : BitVec 32 := 5632#32
  c5632_i32_372
def k0_mult41 : BitVec 32 :=
  let c0_i32_397 : BitVec 32 := 0#32
  c0_i32_397
@[reducible] def k0_t2_loop : Scf.Loop 32 :=
  let c0_i32_405 : BitVec 32 := 0#32
  let c3_i32_406 : BitVec 32 := 3#32
  let v885 : BitVec 32 := Scalar.addi c0_i32_405 c3_i32_406
  let c1_i32_407 : BitVec 32 := 1#32
  ⟨c0_i32_405, v885, c1_i32_407⟩
def k0_mult42 (k0_t2 : Fin k0_t2_loop.trips) : BitVec 32 :=
  let c4_i32_486 : BitVec 32 := 4#32
  let c0_i32_405 : BitVec 32 := 0#32
  let c1_i32_407 : BitVec 32 := 1#32
  let arg10 : BitVec 32 := Scf.iv c0_i32_405 c1_i32_407 k0_t2
  let v1083 : BitVec 32 := Scalar.muli c4_i32_486 arg10
  let c0_i32_487 : BitVec 32 := 0#32
  let v1084 : BitVec 32 := Scalar.addi v1083 c0_i32_487
  let c1_i32_488 : BitVec 32 := 1#32
  let v1085 : BitVec 32 := Scalar.addi v1084 c1_i32_488
  let c512_i32_489 : BitVec 32 := 512#32
  let v1086 : BitVec 32 := Scalar.muli v1085 c512_i32_489
  v1086
def k0_off5 (k0_t2 : Fin k0_t2_loop.trips) (c0_i32_487 : BitVec 32) : Fin 3 → Nat :=
  let c0_493 : Index := 0#32
  let c4_i32_486 : BitVec 32 := 4#32
  let c0_i32_405 : BitVec 32 := 0#32
  let c1_i32_407 : BitVec 32 := 1#32
  let arg10 : BitVec 32 := Scf.iv c0_i32_405 c1_i32_407 k0_t2
  let v1083 : BitVec 32 := Scalar.muli c4_i32_486 arg10
  let v1084 : BitVec 32 := Scalar.addi v1083 c0_i32_487
  let c1_i32_488 : BitVec 32 := 1#32
  let v1085 : BitVec 32 := Scalar.addi v1084 c1_i32_488
  let c512_i32_489 : BitVec 32 := 512#32
  let v1086 : BitVec 32 := Scalar.muli v1085 c512_i32_489
  let v1087 : BitVec 32 := v1086
  let v1090 : Index := Scalar.indexCast v1087
  let c0_494 : Index := 0#32
  ![0, v1090.toNat, 0]
def k0_mult43 (k0_t2 : Fin k0_t2_loop.trips) : BitVec 32 :=
  let c4_i32_500 : BitVec 32 := 4#32
  let c0_i32_405 : BitVec 32 := 0#32
  let c1_i32_407 : BitVec 32 := 1#32
  let arg10 : BitVec 32 := Scf.iv c0_i32_405 c1_i32_407 k0_t2
  let v1098 : BitVec 32 := Scalar.muli c4_i32_500 arg10
  let c0_i32_501 : BitVec 32 := 0#32
  let v1099 : BitVec 32 := Scalar.addi v1098 c0_i32_501
  let c512_i32_502 : BitVec 32 := 512#32
  let v1100 : BitVec 32 := Scalar.muli v1099 c512_i32_502
  v1100
def k0_off6 (k0_t2 : Fin k0_t2_loop.trips) (c0_i32_501 : BitVec 32) : Fin 3 → Nat :=
  let c0_508 : Index := 0#32
  let c4_i32_500 : BitVec 32 := 4#32
  let c0_i32_405 : BitVec 32 := 0#32
  let c1_i32_407 : BitVec 32 := 1#32
  let arg10 : BitVec 32 := Scf.iv c0_i32_405 c1_i32_407 k0_t2
  let v1098 : BitVec 32 := Scalar.muli c4_i32_500 arg10
  let v1099 : BitVec 32 := Scalar.addi v1098 c0_i32_501
  let c512_i32_502 : BitVec 32 := 512#32
  let v1100 : BitVec 32 := Scalar.muli v1099 c512_i32_502
  let v1101 : BitVec 32 := v1100
  let v1126 : Index := Scalar.indexCast v1101
  let c0_509 : Index := 0#32
  ![0, v1126.toNat, 0]
def k0_mult44 (k0_t2 : Fin k0_t2_loop.trips) : BitVec 32 :=
  let c4_i32_515 : BitVec 32 := 4#32
  let c0_i32_405 : BitVec 32 := 0#32
  let c1_i32_407 : BitVec 32 := 1#32
  let arg10 : BitVec 32 := Scf.iv c0_i32_405 c1_i32_407 k0_t2
  let v1138 : BitVec 32 := Scalar.muli c4_i32_515 arg10
  let c1_i32_516 : BitVec 32 := 1#32
  let v1139 : BitVec 32 := Scalar.addi v1138 c1_i32_516
  let c1_i32_517 : BitVec 32 := 1#32
  let v1140 : BitVec 32 := Scalar.addi v1139 c1_i32_517
  let c512_i32_518 : BitVec 32 := 512#32
  let v1141 : BitVec 32 := Scalar.muli v1140 c512_i32_518
  v1141
def k0_mult45 (k0_t2 : Fin k0_t2_loop.trips) : BitVec 32 :=
  let c4_i32_529 : BitVec 32 := 4#32
  let c0_i32_405 : BitVec 32 := 0#32
  let c1_i32_407 : BitVec 32 := 1#32
  let arg10 : BitVec 32 := Scf.iv c0_i32_405 c1_i32_407 k0_t2
  let v1153 : BitVec 32 := Scalar.muli c4_i32_529 arg10
  let c1_i32_530 : BitVec 32 := 1#32
  let v1154 : BitVec 32 := Scalar.addi v1153 c1_i32_530
  let c512_i32_531 : BitVec 32 := 512#32
  let v1155 : BitVec 32 := Scalar.muli v1154 c512_i32_531
  v1155
def k0_mult46 (k0_t2 : Fin k0_t2_loop.trips) : BitVec 32 :=
  let c4_i32_544 : BitVec 32 := 4#32
  let c0_i32_405 : BitVec 32 := 0#32
  let c1_i32_407 : BitVec 32 := 1#32
  let arg10 : BitVec 32 := Scf.iv c0_i32_405 c1_i32_407 k0_t2
  let v1193 : BitVec 32 := Scalar.muli c4_i32_544 arg10
  let c2_i32_545 : BitVec 32 := 2#32
  let v1194 : BitVec 32 := Scalar.addi v1193 c2_i32_545
  let c1_i32_546 : BitVec 32 := 1#32
  let v1195 : BitVec 32 := Scalar.addi v1194 c1_i32_546
  let c512_i32_547 : BitVec 32 := 512#32
  let v1196 : BitVec 32 := Scalar.muli v1195 c512_i32_547
  v1196
def k0_mult47 (k0_t2 : Fin k0_t2_loop.trips) : BitVec 32 :=
  let c4_i32_558 : BitVec 32 := 4#32
  let c0_i32_405 : BitVec 32 := 0#32
  let c1_i32_407 : BitVec 32 := 1#32
  let arg10 : BitVec 32 := Scf.iv c0_i32_405 c1_i32_407 k0_t2
  let v1208 : BitVec 32 := Scalar.muli c4_i32_558 arg10
  let c2_i32_559 : BitVec 32 := 2#32
  let v1209 : BitVec 32 := Scalar.addi v1208 c2_i32_559
  let c512_i32_560 : BitVec 32 := 512#32
  let v1210 : BitVec 32 := Scalar.muli v1209 c512_i32_560
  v1210
def k0_mult48 (k0_t2 : Fin k0_t2_loop.trips) : BitVec 32 :=
  let c4_i32_573 : BitVec 32 := 4#32
  let c0_i32_405 : BitVec 32 := 0#32
  let c1_i32_407 : BitVec 32 := 1#32
  let arg10 : BitVec 32 := Scf.iv c0_i32_405 c1_i32_407 k0_t2
  let v1248 : BitVec 32 := Scalar.muli c4_i32_573 arg10
  let c3_i32_574 : BitVec 32 := 3#32
  let v1249 : BitVec 32 := Scalar.addi v1248 c3_i32_574
  let c1_i32_575 : BitVec 32 := 1#32
  let v1250 : BitVec 32 := Scalar.addi v1249 c1_i32_575
  let c512_i32_576 : BitVec 32 := 512#32
  let v1251 : BitVec 32 := Scalar.muli v1250 c512_i32_576
  v1251
def k0_mult49 (k0_t2 : Fin k0_t2_loop.trips) : BitVec 32 :=
  let c4_i32_587 : BitVec 32 := 4#32
  let c0_i32_405 : BitVec 32 := 0#32
  let c1_i32_407 : BitVec 32 := 1#32
  let arg10 : BitVec 32 := Scf.iv c0_i32_405 c1_i32_407 k0_t2
  let v1263 : BitVec 32 := Scalar.muli c4_i32_587 arg10
  let c3_i32_588 : BitVec 32 := 3#32
  let v1264 : BitVec 32 := Scalar.addi v1263 c3_i32_588
  let c512_i32_589 : BitVec 32 := 512#32
  let v1265 : BitVec 32 := Scalar.muli v1264 c512_i32_589
  v1265
def k0_mult50 : BitVec 32 :=
  let c6656_i32 : BitVec 32 := 6656#32
  c6656_i32
def k0_mult51 : BitVec 32 :=
  let c6144_i32 : BitVec 32 := 6144#32
  c6144_i32
def k0_mult52 : BitVec 32 :=
  let c7168_i32 : BitVec 32 := 7168#32
  c7168_i32
def k0_mult53 : BitVec 32 :=
  let c6656_i32_434 : BitVec 32 := 6656#32
  c6656_i32_434
def k0_mult54 : BitVec 32 :=
  let c7680_i32 : BitVec 32 := 7680#32
  c7680_i32
def k0_mult55 : BitVec 32 :=
  let c7168_i32_453 : BitVec 32 := 7168#32
  c7168_i32_453
def k0_mult56 : BitVec 32 :=
  let c7680_i32_467 : BitVec 32 := 7680#32
  c7680_i32_467
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x4x192 : Shape := ⟨4, ![2, 8192, 4, 192]⟩
abbrev S2x8192x4x128 : Shape := ⟨4, ![2, 8192, 4, 128]⟩
abbrev S_ : Shape := ⟨0, ![]⟩
abbrev S2x4x8192x8192 : Shape := ⟨4, ![2, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S2x8192x512 : Shape := ⟨3, ![2, 8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x4x192, .f32⟩
  | .hbm, ⟨1, _⟩ => ⟨S2x8192x4x192, .f32⟩
  | .hbm, ⟨2, _⟩ => ⟨S2x8192x4x128, .f32⟩
  | .hbm, ⟨3, _⟩ => ⟨S_, .f32⟩
  | .hbm, ⟨4, _⟩ => ⟨S2x8192x4x192, .f32⟩
  | .hbm, ⟨5, _⟩ => ⟨S2x8192x4x192, .f32⟩
  | .hbm, ⟨6, _⟩ => ⟨S2x4x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S2x4x8192x8192, .i1⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S2x4x8192x1, .f32⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S2x4x8192x1, .f32⟩
  | .hbm, ⟨30, _⟩ => ⟨S2x4x8192x8192, .f32⟩
  | .hbm, ⟨31, _⟩ => ⟨S2x4x8192x8192, .f32⟩
  | .hbm, ⟨32, _⟩ => ⟨S2x4x128x8192, .f32⟩
  | .hbm, ⟨33, _⟩ => ⟨S2x8192x4x128, .f32⟩
  | .hbm, ⟨34, _⟩ => ⟨S2x8192x512, .f32⟩
  | _, _ => ⟨S2x8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== OutKernel.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512x2816 : Shape := ⟨2, ![512, 2816]⟩
abbrev S512x1 : Shape := ⟨2, ![512, 1]⟩
abbrev S1024x256 : Shape := ⟨2, ![1024, 256]⟩
abbrev S512x256 : Shape := ⟨2, ![512, 256]⟩

abbrev nBuf : Space → Nat
  | .hbm => 25
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S16384x1024, .f32⟩
  | .hbm, ⟨11, _⟩ => ⟨S16384x512, .f32⟩
  | .hbm, ⟨12, _⟩ => ⟨S16384x512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x2816, .f32⟩
  | .local _ .vmem, ⟨11, _⟩ => ⟨S1024x2816, .f32⟩
  | .local _ .vmem, ⟨12, _⟩ => ⟨S2816x1024, .f32⟩
  | .local _ .vmem, ⟨13, _⟩ => ⟨S512x1024, .f32⟩
  | .local _ .vmem, ⟨14, _⟩ => ⟨S512x1024, .f32⟩
  | .local _ .vmem, ⟨15, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutReferenceIdeal.lean ====
abbrev S2x8192x1024 : Shape := ⟨3, ![2, 8192, 1024]⟩
abbrev S2x8192x512 : Shape := ⟨3, ![2, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 86
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S512, .f32⟩
  | .hbm, ⟨11, _⟩ => ⟨S2x8192x512, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x512, .f32⟩
  | .hbm, ⟨23, _⟩ => ⟨S2x8192x512, .f32⟩
  | .hbm, ⟨24, _⟩ => ⟨S1x1x512, .f32⟩
  | .hbm, ⟨25, _⟩ => ⟨S2x8192x512, .f32⟩
  | .hbm, ⟨26, _⟩ => ⟨S2x8192x512, .f32⟩
  | .hbm, ⟨27, _⟩ => ⟨S512, .f32⟩
  | .hbm, ⟨28, _⟩ => ⟨S2x8192x512, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x512, .f32⟩
  | .hbm, ⟨40, _⟩ => ⟨S2x8192x512, .f32⟩
  | .hbm, ⟨41, _⟩ => ⟨S1x1x512, .f32⟩
  | .hbm, ⟨42, _⟩ => ⟨S2x8192x512, .f32⟩
  | .hbm, ⟨43, _⟩ => ⟨S2x8192x512, .f32⟩
  | .hbm, ⟨44, _⟩ => ⟨S2x8192x1024, .f32⟩
  | .hbm, ⟨45, _⟩ => ⟨S1024x1024, .f32⟩
  | .hbm, ⟨46, _⟩ => ⟨S2x8192x1024, .f32⟩
  | .hbm, ⟨47, _⟩ => ⟨S2x8192x1024, .f32⟩
  | .hbm, ⟨48, _⟩ => ⟨S1024, .f32⟩
  | .hbm, ⟨49, _⟩ => ⟨S1024x2816, .f32⟩
  | .hbm, ⟨50, _⟩ => ⟨S1024x2816, .f32⟩
  | .hbm, ⟨51, _⟩ => ⟨S2816x1024, .f32⟩
  | .hbm, ⟨52, _⟩ => ⟨S2x8192x1024, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x1024, .f32⟩
  | .hbm, ⟨64, _⟩ => ⟨S2x8192x1024, .f32⟩
  | .hbm, ⟨65, _⟩ => ⟨S1x1x1024, .f32⟩
  | .hbm, ⟨66, _⟩ => ⟨S2x8192x1024, .f32⟩
  | .hbm, ⟨67, _⟩ => ⟨S2x8192x1024, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S_, .f32⟩
  | .hbm, ⟨72, _⟩ => ⟨S2x8192x2816, .f32⟩
  | .hbm, ⟨73, _⟩ => ⟨S2x8192x2816, .f32⟩
  | .hbm, ⟨74, _⟩ => ⟨S_, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S2x8192x1024, .f32⟩
  | .hbm, ⟨81, _⟩ => ⟨S_, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== FfnKernel.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .f32⟩
  | .local _ .vmem, ⟨4, _⟩ => ⟨S1024x2816, .f32⟩
  | .local _ .vmem, ⟨5, _⟩ => ⟨S2816x1024, .f32⟩
  | .local _ .vmem, ⟨6, _⟩ => ⟨S1024x1024, .f32⟩
  | .local _ .vmem, ⟨7, _⟩ => ⟨S1024x1024, .f32⟩
  | .local _ .vmem, ⟨8, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S2x8192x1024 : Shape := ⟨3, ![2, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== ProjKernel.lean ====
abbrev S2x8192x1024 : Shape := ⟨3, ![2, 8192, 1024]⟩
abbrev S1x1024 : Shape := ⟨2, ![1, 1024]⟩
abbrev S1x1024x1984 : Shape := ⟨3, ![1, 1024, 1984]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x192 : Shape := ⟨2, ![1, 192]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S4x4 : Shape := ⟨2, ![4, 4]⟩
abbrev S4x1x4x1 : Shape := ⟨4, ![4, 1, 4, 1]⟩
abbrev S4x64x4x64 : Shape := ⟨4, ![4, 64, 4, 64]⟩
abbrev S256x256 : Shape := ⟨2, ![256, 256]⟩
abbrev S512x512 : Shape := ⟨2, ![512, 512]⟩
abbrev S32x16x512 : Shape := ⟨3, ![32, 16, 512]⟩
abbrev S16x32x512 : Shape := ⟨3, ![16, 32, 512]⟩
abbrev S16384x1024 : Shape := ⟨2, ![16384, 1024]⟩
abbrev S1024x1984 : Shape := ⟨2, ![1024, 1984]⟩
abbrev S1984x1024 : Shape := ⟨2, ![1984, 1024]⟩
abbrev S64x1024 : Shape := ⟨2, ![64, 1024]⟩
abbrev S128x1024 : Shape := ⟨2, ![128, 1024]⟩
abbrev S256x768 : Shape := ⟨2, ![256, 768]⟩
abbrev S256x4x192 : Shape := ⟨3, ![256, 4, 192]⟩
abbrev S256x4x128 : Shape := ⟨3, ![256, 4, 128]⟩
abbrev S256x512 : Shape := ⟨2, ![256, 512]⟩
abbrev S256x4x64 : Shape := ⟨3, ![256, 4, 64]⟩
abbrev S256x1024 : Shape := ⟨2, ![256, 1024]⟩
abbrev S128x4x256 : Shape := ⟨3, ![128, 4, 256]⟩
abbrev S128x4x128 : Shape := ⟨3, ![128, 4, 128]⟩
abbrev S128x512 : Shape := ⟨2, ![128, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S192 : Shape := ⟨1, ![192]⟩
abbrev S1024 : Shape := ⟨1, ![1024]⟩
abbrev S256 : Shape := ⟨1, ![256]⟩
abbrev S128 : Shape := ⟨1, ![128]⟩
abbrev S2x16x512x512 : Shape := ⟨4, ![2, 16, 512, 512]⟩
abbrev S16384x512 : Shape := ⟨2, ![16384, 512]⟩
abbrev S512x1024 : Shape := ⟨2, ![512, 1024]⟩
abbrev S512x128 : Shape := ⟨2, ![512, 128]⟩
abbrev S1x16x32x512 : Shape := ⟨4, ![1, 16, 32, 512]⟩
abbrev S512x1 : Shape := ⟨2, ![512, 1]⟩
abbrev S384x1024 : Shape := ⟨2, ![384, 1024]⟩
abbrev S512x256 : Shape := ⟨2, ![512, 256]⟩

abbrev nBuf : Space → Nat
  | .hbm => 119
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x1984, .f32⟩
  | .hbm, ⟨3, _⟩ => ⟨S1x64, .f32⟩
  | .hbm, ⟨4, _⟩ => ⟨S1x64, .f32⟩
  | .hbm, ⟨5, _⟩ => ⟨S1x256, .f32⟩
  | .hbm, ⟨6, _⟩ => ⟨S1x256x768, .f32⟩
  | .hbm, ⟨7, _⟩ => ⟨S1x128, .f32⟩
  | .hbm, ⟨8, _⟩ => ⟨S1x128x1024, .f32⟩
  | .hbm, ⟨9, _⟩ => ⟨S1x192, .f32⟩
  | .hbm, ⟨10, _⟩ => ⟨S1x192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x128, .f32⟩
  | .hbm, ⟨34, _⟩ => ⟨S8192x32, .f32⟩
  | .hbm, ⟨35, _⟩ => ⟨S8192x128, .f32⟩
  | .hbm, ⟨36, _⟩ => ⟨S4x4, .i32⟩
  | .hbm, ⟨37, _⟩ => ⟨S4x4, .i32⟩
  | .hbm, ⟨38, _⟩ => ⟨S_, .i32⟩
  | .hbm, ⟨39, _⟩ => ⟨S4x4, .i32⟩
  | .hbm, ⟨40, _⟩ => ⟨S4x4, .i32⟩
  | .hbm, ⟨41, _⟩ => ⟨S4x4, .i1⟩
  | .hbm, ⟨42, _⟩ => ⟨S4x4, .bf16⟩
  | .hbm, ⟨43, _⟩ => ⟨S4x1x4x1, .bf16⟩
  | .hbm, ⟨44, _⟩ => ⟨S4x64x4x64, .bf16⟩
  | .hbm, ⟨45, _⟩ => ⟨S256x256, .bf16⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S512x512, .bf16⟩
  | .hbm, ⟨53, _⟩ => ⟨S32x16x512, .bf16⟩
  | .hbm, ⟨54, _⟩ => ⟨S16x32x512, .bf16⟩
  | .hbm, ⟨55, _⟩ => ⟨S512x512, .bf16⟩
  | .hbm, ⟨56, _⟩ => ⟨S16384x1024, .f32⟩
  | .hbm, ⟨57, _⟩ => ⟨S1024x1984, .f32⟩
  | .hbm, ⟨58, _⟩ => ⟨S1984x1024, .f32⟩
  | .hbm, ⟨59, _⟩ => ⟨S64x1024, .f32⟩
  | .hbm, ⟨60, _⟩ => ⟨S_, .i32⟩
  | .hbm, ⟨61, _⟩ => ⟨S_, .f32⟩
  | .hbm, ⟨62, _⟩ => ⟨S128x1024, .f32⟩
  | .hbm, ⟨63, _⟩ => ⟨S128x1024, .bf16⟩
  | .hbm, ⟨64, _⟩ => ⟨S256x768, .f32⟩
  | .hbm, ⟨65, _⟩ => ⟨S256x4x192, .f32⟩
  | .hbm, ⟨66, _⟩ => ⟨S256x4x128, .f32⟩
  | .hbm, ⟨67, _⟩ => ⟨S256x512, .f32⟩
  | .hbm, ⟨68, _⟩ => ⟨S256x4x64, .f32⟩
  | .hbm, ⟨69, _⟩ => ⟨S_, .i32⟩
  | .hbm, ⟨70, _⟩ => ⟨S_, .f32⟩
  | .hbm, ⟨71, _⟩ => ⟨S256x4x128, .f32⟩
  | .hbm, ⟨72, _⟩ => ⟨S256x512, .f32⟩
  | .hbm, ⟨73, _⟩ => ⟨S256x1024, .f32⟩
  | .hbm, ⟨74, _⟩ => ⟨S256x1024, .bf16⟩
  | .hbm, ⟨75, _⟩ => ⟨S128x1024, .f32⟩
  | .hbm, ⟨76, _⟩ => ⟨S128x4x256, .f32⟩
  | .hbm, ⟨77, _⟩ => ⟨S128x4x128, .f32⟩
  | .hbm, ⟨78, _⟩ => ⟨S128x512, .f32⟩
  | .hbm, ⟨79, _⟩ => ⟨S128x4x128, .f32⟩
  | .hbm, ⟨80, _⟩ => ⟨S128x512, .f32⟩
  | .hbm, ⟨81, _⟩ => ⟨S128x1024, .f32⟩
  | .hbm, ⟨82, _⟩ => ⟨S128x1024, .bf16⟩
  | .hbm, ⟨83, _⟩ => ⟨S64, .f32⟩
  | .hbm, ⟨84, _⟩ => ⟨S1x64, .f32⟩
  | .hbm, ⟨85, _⟩ => ⟨S8x64, .f32⟩
  | .hbm, ⟨86, _⟩ => ⟨S512, .f32⟩
  | .hbm, ⟨87, _⟩ => ⟨S1x512, .f32⟩
  | .hbm, ⟨88, _⟩ => ⟨S64, .f32⟩
  | .hbm, ⟨89, _⟩ => ⟨S1x64, .f32⟩
  | .hbm, ⟨90, _⟩ => ⟨S8x64, .f32⟩
  | .hbm, ⟨91, _⟩ => ⟨S512, .f32⟩
  | .hbm, ⟨92, _⟩ => ⟨S1x512, .f32⟩
  | .hbm, ⟨93, _⟩ => ⟨S192, .f32⟩
  | .hbm, ⟨94, _⟩ => ⟨S1x192, .f32⟩
  | .hbm, ⟨95, _⟩ => ⟨S192, .f32⟩
  | .hbm, ⟨96, _⟩ => ⟨S1x192, .f32⟩
  | .hbm, ⟨97, _⟩ => ⟨S1x128, .f32⟩
  | .hbm, ⟨98, _⟩ => ⟨S1x64, .f32⟩
  | .hbm, ⟨99, _⟩ => ⟨S_, .i32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x64, .f32⟩
  | .hbm, ⟨104, _⟩ => ⟨S_, .i32⟩
  | .hbm, ⟨105, _⟩ => ⟨S_, .f32⟩
  | .hbm, ⟨106, _⟩ => ⟨S1x128, .f32⟩
  | .hbm, ⟨107, _⟩ => ⟨S1024, .f32⟩
  | .hbm, ⟨108, _⟩ => ⟨S1x1024, .f32⟩
  | .hbm, ⟨109, _⟩ => ⟨S256, .f32⟩
  | .hbm, ⟨110, _⟩ => ⟨S1x256, .f32⟩
  | .hbm, ⟨111, _⟩ => ⟨S128, .f32⟩
  | .hbm, ⟨112, _⟩ => ⟨S1x128, .f32⟩
  | .hbm, ⟨113, _⟩ => ⟨S2x16x512x512, .f32⟩
  | .hbm, ⟨114, _⟩ => ⟨S2x16x512x512, .f32⟩
  | .hbm, ⟨115, _⟩ => ⟨S2x16x512x512, .f32⟩
  | .hbm, ⟨116, _⟩ => ⟨S16384x1024, .bf16⟩
  | .hbm, ⟨117, _⟩ => ⟨S16384x1024, .bf16⟩
  | .hbm, ⟨118, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1984x1024, .f32⟩
  | .local _ .vmem, ⟨4, _⟩ => ⟨S128x1024, .bf16⟩
  | .local _ .vmem, ⟨5, _⟩ => ⟨S256x256, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x256, .f32⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S1x16x32x512, .f32⟩
  | .local _ .vmem, ⟨22, _⟩ => ⟨S1x16x32x512, .f32⟩
  | .local _ .vmem, ⟨23, _⟩ => ⟨S1x16x32x512, .f32⟩
  | .local _ .vmem, ⟨24, _⟩ => ⟨S1x16x32x512, .f32⟩
  | .local _ .vmem, ⟨25, _⟩ => ⟨S1x16x32x512, .f32⟩
  | .local _ .vmem, ⟨26, _⟩ => ⟨S1x16x32x512, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_4 : Ref sig .tc := ⟨.hbm, 60, rfl⟩
abbrev main_call0_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_5 : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_6 : Ref sig .tc := ⟨.hbm, 99, rfl⟩
abbrev main_call2_v0 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_7 : Ref sig .tc := ⟨.hbm, 104, rfl⟩
abbrev main_call3_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88_0 : Ref sig .tc := ⟨.hbm, 113, rfl⟩
abbrev main_v88_1 : Ref sig .tc := ⟨.hbm, 114, rfl⟩
abbrev main_v88_2 : Ref sig .tc := ⟨.hbm, 115, rfl⟩
abbrev main_v88_3 : Ref sig .tc := ⟨.hbm, 116, rfl⟩
abbrev main_v88_4 : Ref sig .tc := ⟨.hbm, 117, rfl⟩
abbrev main_v88_5 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1984x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x16x32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x16x32x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x16x32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ProjKernelIdeal.lean ====
variable {F : FTy → Type} [FloatOps F] [Named F]
def κ : String → Option EReal := fun
  | "inv_qk_dim" => some ((1 / 192 : ℝ) : EReal)
  | _ => none
-- ==== ProjReferenceIdeal.lean ====
abbrev S2x8192x1024 : Shape := ⟨3, ![2, 8192, 1024]⟩
abbrev S1x1024 : Shape := ⟨2, ![1, 1024]⟩
abbrev S1x1024x1984 : Shape := ⟨3, ![1, 1024, 1984]⟩
abbrev S1x64 : Shape := ⟨2, ![1, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x192 : Shape := ⟨2, ![1, 192]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x1984 : Shape := ⟨2, ![1024, 1984]⟩
abbrev S2x8192x1984 : Shape := ⟨3, ![2, 8192, 1984]⟩
abbrev S2x8192x512 : Shape := ⟨3, ![2, 8192, 512]⟩
abbrev S2x8192x256 : Shape := ⟨3, ![2, 8192, 256]⟩
abbrev S2x8192x128 : Shape := ⟨3, ![2, 8192, 128]⟩
abbrev S2x8192x64 : Shape := ⟨3, ![2, 8192, 64]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S8192 : Shape := ⟨1, ![8192]⟩
abbrev S256 : Shape := ⟨1, ![256]⟩
abbrev S1x1x256 : Shape := ⟨3, ![1, 1, 256]⟩
abbrev S256x768 : Shape := ⟨2, ![256, 768]⟩
abbrev S2x8192x768 : Shape := ⟨3, ![2, 8192, 768]⟩
abbrev S2x8192x4x192 : Shape := ⟨4, ![2, 8192, 4, 192]⟩
abbrev S128 : Shape := ⟨1, ![128]⟩
abbrev S1x1x128 : Shape := ⟨3, ![1, 1, 128]⟩
abbrev S128x1024 : Shape := ⟨2, ![128, 1024]⟩
abbrev S2x8192x4x256 : Shape := ⟨4, ![2, 8192, 4, 256]⟩
abbrev S2x8192x4x128 : Shape := ⟨4, ![2, 8192, 4, 128]⟩
abbrev S2x8192x1x64 : Shape := ⟨4, ![2, 8192, 1, 64]⟩
abbrev S2x8192x4x64 : Shape := ⟨4, ![2, 8192, 4, 64]⟩
abbrev S192 : Shape := ⟨1, ![192]⟩
abbrev S2x8192x4 : Shape := ⟨3, ![2, 8192, 4]⟩
abbrev S2x8192x4x1 : Shape := ⟨4, ![2, 8192, 4, 1]⟩
abbrev S1x1x1x192 : Shape := ⟨4, ![1, 1, 1, 192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x4x32 : Shape := ⟨4, ![2, 8192, 4, 32]⟩
abbrev S2x512x16x512 : Shape := ⟨4, ![2, 512, 16, 512]⟩
abbrev S2x16x512x512 : Shape := ⟨4, ![2, 16, 512, 512]⟩
abbrev S16384x1024 : Shape := ⟨2, ![16384, 1024]⟩
abbrev S16384x512 : Shape := ⟨2, ![16384, 512]⟩

abbrev nBuf : Space → Nat
  | .hbm => 250
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x1984, .f32⟩
  | 3 => ⟨S1x64, .f32⟩
  | 4 => ⟨S1x64, .f32⟩
  | 5 => ⟨S1x256, .f32⟩
  | 6 => ⟨S1x256x768, .f32⟩
  | 7 => ⟨S1x128, .f32⟩
  | 8 => ⟨S1x128x1024, .f32⟩
  | 9 => ⟨S1x192, .f32⟩
  | 10 => ⟨S1x192, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S1024x1984, .f32⟩
  | 29 => ⟨S2x8192x1984, .f32⟩
  | 30 => ⟨S2x8192x512, .f32⟩
  | 31 => ⟨S2x8192x512, .f32⟩
  | 32 => ⟨S2x8192x512, .f32⟩
  | 33 => ⟨S2x8192x256, .f32⟩
  | 34 => ⟨S2x8192x128, .f32⟩
  | 35 => ⟨S2x8192x64, .f32⟩
  | 36 => ⟨S2x8192x8x64, .f32⟩
  | 37 => ⟨S64, .f32⟩
  | 38 => ⟨S2x8192x8x64, .f32⟩
  | 39 => ⟨S_, .f32⟩
  | 40 => ⟨S2x8192x8, .f32⟩
  | 41 => ⟨S2x8192x8x1, .f32⟩
  | 42 => ⟨S_, .f32⟩
  | 43 => ⟨S2x8192x8x1, .f32⟩
  | 44 => ⟨S2x8192x8x1, .f32⟩
  | 45 => ⟨S_, .f32⟩
  | 46 => ⟨S2x8192x8x1, .f32⟩
  | 47 => ⟨S2x8192x8x1, .f32⟩
  | 48 => ⟨S2x8192x8x1, .f32⟩
  | 49 => ⟨S2x8192x8x64, .f32⟩
  | 50 => ⟨S2x8192x8x64, .f32⟩
  | 51 => ⟨S1x1x1x64, .f32⟩
  | 52 => ⟨S2x8192x8x64, .f32⟩
  | 53 => ⟨S2x8192x8x64, .f32⟩
  | 54 => ⟨S2x8192x512, .f32⟩
  | 55 => ⟨S2x8192x8x64, .f32⟩
  | 56 => ⟨S64, .f32⟩
  | 57 => ⟨S2x8192x8x64, .f32⟩
  | 58 => ⟨S_, .f32⟩
  | 59 => ⟨S2x8192x8, .f32⟩
  | 60 => ⟨S2x8192x8x1, .f32⟩
  | 61 => ⟨S_, .f32⟩
  | 62 => ⟨S2x8192x8x1, .f32⟩
  | 63 => ⟨S2x8192x8x1, .f32⟩
  | 64 => ⟨S_, .f32⟩
  | 65 => ⟨S2x8192x8x1, .f32⟩
  | 66 => ⟨S2x8192x8x1, .f32⟩
  | 67 => ⟨S2x8192x8x1, .f32⟩
  | 68 => ⟨S2x8192x8x64, .f32⟩
  | 69 => ⟨S2x8192x8x64, .f32⟩
  | 70 => ⟨S1x1x1x64, .f32⟩
  | 71 => ⟨S2x8192x8x64, .f32⟩
  | 72 => ⟨S2x8192x8x64, .f32⟩
  | 73 => ⟨S2x8192x512, .f32⟩
  | 74 => ⟨S8192, .f32⟩
  | 75 => ⟨S256, .f32⟩
  | 76 => ⟨S2x8192x256, .f32⟩
  | 77 => ⟨S_, .f32⟩
  | 78 => ⟨S2x8192, .f32⟩
  | 79 => ⟨S2x8192x1, .f32⟩
  | 80 => ⟨S_, .f32⟩
  | 81 => ⟨S2x8192x1, .f32⟩
  | 82 => ⟨S2x8192x1, .f32⟩
  | 83 => ⟨S_, .f32⟩
  | 84 => ⟨S2x8192x1, .f32⟩
  | 85 => ⟨S2x8192x1, .f32⟩
  | 86 => ⟨S2x8192x1, .f32⟩
  | 87 => ⟨S2x8192x256, .f32⟩
  | 88 => ⟨S2x8192x256, .f32⟩
  | 89 => ⟨S1x1x256, .f32⟩
  | 90 => ⟨S2x8192x256, .f32⟩
  | 91 => ⟨S2x8192x256, .f32⟩
  | 92 => ⟨S256x768, .f32⟩
  | 93 => ⟨S2x8192x768, .f32⟩
  | 94 => ⟨S2x8192x4x192, .f32⟩
  | 95 => ⟨S128, .f32⟩
  | 96 => ⟨S2x8192x128, .f32⟩
  | 97 => ⟨S_, .f32⟩
  | 98 => ⟨S2x8192, .f32⟩
  | 99 => ⟨S2x8192x1, .f32⟩
  | 100 => ⟨S_, .f32⟩
  | 101 => ⟨S2x8192x1, .f32⟩
  | 102 => ⟨S2x8192x1, .f32⟩
  | 103 => ⟨S_, .f32⟩
  | 104 => ⟨S2x8192x1, .f32⟩
  | 105 => ⟨S2x8192x1, .f32⟩
  | 106 => ⟨S2x8192x1, .f32⟩
  | 107 => ⟨S2x8192x128, .f32⟩
  | 108 => ⟨S2x8192x128, .f32⟩
  | 109 => ⟨S1x1x128, .f32⟩
  | 110 => ⟨S2x8192x128, .f32⟩
  | 111 => ⟨S2x8192x128, .f32⟩
  | 112 => ⟨S128x1024, .f32⟩
  | 113 => ⟨S2x8192x1024, .f32⟩
  | 114 => ⟨S2x8192x4x256, .f32⟩
  | 115 => ⟨S2x8192x4x128, .f32⟩
  | 116 => ⟨S2x8192x4x128, .f32⟩
  | 117 => ⟨S2x8192x1x64, .f32⟩
  | 118 => ⟨S2x8192x4x64, .f32⟩
  | 119 => ⟨S2x8192x4x192, .f32⟩
  | 120 => ⟨S192, .f32⟩
  | 121 => ⟨S2x8192x4x192, .f32⟩
  | 122 => ⟨S_, .f32⟩
  | 123 => ⟨S2x8192x4, .f32⟩
  | 124 => ⟨S2x8192x4x1, .f32⟩
  | 125 => ⟨S_, .f32⟩
  | 126 => ⟨S2x8192x4x1, .f32⟩
  | 127 => ⟨S2x8192x4x1, .f32⟩
  | _ => ⟨S2x8192x1024, .f32⟩

abbrev hbmTy0_1 (i : Nat) : BufTy := match i % 128 with
  | 0 => ⟨S_, .f32⟩
  | 1 => ⟨S2x8192x4x1, .f32⟩
  | 2 => ⟨S2x8192x4x1, .f32⟩
  | 3 => ⟨S2x8192x4x1, .f32⟩
  | 4 => ⟨S2x8192x4x192, .f32⟩
  | 5 => ⟨S2x8192x4x192, .f32⟩
  | 6 => ⟨S1x1x1x192, .f32⟩
  | 7 => ⟨S2x8192x4x192, .f32⟩
  | 8 => ⟨S2x8192x4x192, .f32⟩
  | 9 => ⟨S192, .f32⟩
  | 10 => ⟨S2x8192x4x192, .f32⟩
  | 11 => ⟨S_, .f32⟩
  | 12 => ⟨S2x8192x4, .f32⟩
  | 13 => ⟨S2x8192x4x1, .f32⟩
  | 14 => ⟨S_, .f32⟩
  | 15 => ⟨S2x8192x4x1, .f32⟩
  | 16 => ⟨S2x8192x4x1, .f32⟩
  | 17 => ⟨S_, .f32⟩
  | 18 => ⟨S2x8192x4x1, .f32⟩
  | 19 => ⟨S2x8192x4x1, .f32⟩
  | 20 => ⟨S2x8192x4x1, .f32⟩
  | 21 => ⟨S2x8192x4x192, .f32⟩
  | 22 => ⟨S2x8192x4x192, .f32⟩
  | 23 => ⟨S1x1x1x192, .f32⟩
  | 24 => ⟨S2x8192x4x192, .f32⟩
  | 25 => ⟨S2x8192x4x192, .f32⟩
  | 26 => ⟨S2x8192x4x128, .f32⟩
  | 27 => ⟨S2x8192x4x64, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S8192x1, .f32⟩
  | 43 => ⟨S1x32, .f32⟩
  | 44 => ⟨S8192x32, .f32⟩
  | 45 => ⟨S8192x32, .f32⟩
  | 46 => ⟨S8192x32, .f32⟩
  | 47 => ⟨S8192x32, .f32⟩
  | 48 => ⟨S1x8192x1x32, .f32⟩
  | 49 => ⟨S8192x32, .f32⟩
  | 50 => ⟨S1x8192x1x32, .f32⟩
  | 51 => ⟨S2x8192x4x32, .f32⟩
  | 52 => ⟨S2x8192x4x32, .f32⟩
  | 53 => ⟨S2x8192x4x32, .f32⟩
  | 54 => ⟨S2x8192x4x32, .f32⟩
  | 55 => ⟨S2x8192x4x32, .f32⟩
  | 56 => ⟨S2x8192x4x32, .f32⟩
  | 57 => ⟨S2x8192x4x32, .f32⟩
  | 58 => ⟨S2x8192x4x32, .f32⟩
  | 59 => ⟨S2x8192x4x32, .f32⟩
  | 60 => ⟨S2x8192x4x32, .f32⟩
  | 61 => ⟨S2x8192x4x32, .f32⟩
  | 62 => ⟨S2x8192x4x32, .f32⟩
  | 63 => ⟨S2x8192x4x64, .f32⟩
  | 64 => ⟨S2x8192x4x192, .f32⟩
  | 65 => ⟨S2x8192x4x128, .f32⟩
  | 66 => ⟨S2x8192x4x64, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S8192x1, .f32⟩
  | 82 => ⟨S1x32, .f32⟩
  | 83 => ⟨S8192x32, .f32⟩
  | 84 => ⟨S8192x32, .f32⟩
  | 85 => ⟨S8192x32, .f32⟩
  | 86 => ⟨S8192x32, .f32⟩
  | 87 => ⟨S1x8192x1x32, .f32⟩
  | 88 => ⟨S8192x32, .f32⟩
  | 89 => ⟨S1x8192x1x32, .f32⟩
  | 90 => ⟨S2x8192x4x32, .f32⟩
  | 91 => ⟨S2x8192x4x32, .f32⟩
  | 92 => ⟨S2x8192x4x32, .f32⟩
  | 93 => ⟨S2x8192x4x32, .f32⟩
  | 94 => ⟨S2x8192x4x32, .f32⟩
  | 95 => ⟨S2x8192x4x32, .f32⟩
  | 96 => ⟨S2x8192x4x32, .f32⟩
  | 97 => ⟨S2x8192x4x32, .f32⟩
  | 98 => ⟨S2x8192x4x32, .f32⟩
  | 99 => ⟨S2x8192x4x32, .f32⟩
  | 100 => ⟨S2x8192x4x32, .f32⟩
  | 101 => ⟨S2x8192x4x32, .f32⟩
  | 102 => ⟨S2x8192x4x64, .f32⟩
  | 103 => ⟨S2x8192x4x192, .f32⟩
  | 104 => ⟨S2x512x16x512, .f32⟩
  | 105 => ⟨S2x16x512x512, .f32⟩
  | 106 => ⟨S2x512x16x512, .f32⟩
  | 107 => ⟨S2x16x512x512, .f32⟩
  | 108 => ⟨S2x512x16x512, .f32⟩
  | 109 => ⟨S2x16x512x512, .f32⟩
  | 110 => ⟨S_, .i32⟩
  | 111 => ⟨S_, .f32⟩
  | 112 => ⟨S2x8192x4x256, .f32⟩
  | 113 => ⟨S16384x1024, .f32⟩
  | 114 => ⟨S16384x1024, .bf16⟩
  | 115 => ⟨S_, .i32⟩
  | 116 => ⟨S_, .f32⟩
  | 117 => ⟨S2x8192x4x256, .f32⟩
  | 118 => ⟨S16384x1024, .f32⟩
  | 119 => ⟨S16384x1024, .bf16⟩
  | 120 => ⟨S16384x512, .f32⟩
  | 121 => ⟨S16384x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_cst_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_17 : Ref sig .tc := ⟨.hbm, 139, rfl⟩
abbrev main_v110 : Ref sig .tc := ⟨.hbm, 140, rfl⟩
abbrev main_v111 : Ref sig .tc := ⟨.hbm, 141, rfl⟩
abbrev main_cst_18 : Ref sig .tc := ⟨.hbm, 142, rfl⟩
abbrev main_v112 : Ref sig .tc := ⟨.hbm, 143, rfl⟩
abbrev main_v113 : Ref sig .tc := ⟨.hbm, 144, rfl⟩
abbrev main_cst_19 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_cst_20 : Ref sig .tc := ⟨.hbm, 157, rfl⟩
abbrev main_v125 : Ref sig .tc := ⟨.hbm, 158, rfl⟩
abbrev main_v126 : Ref sig .tc := ⟨.hbm, 159, rfl⟩
abbrev main_cst_21 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_22 : Ref sig .tc := ⟨.hbm, 164, rfl⟩
abbrev main_v130 : Ref sig .tc := ⟨.hbm, 165, rfl⟩
abbrev main_v131 : Ref sig .tc := ⟨.hbm, 166, rfl⟩
abbrev main_cst_23 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_24 : Ref sig .tc := ⟨.hbm, 196, rfl⟩
abbrev main_v160 : Ref sig .tc := ⟨.hbm, 197, rfl⟩
abbrev main_v161 : Ref sig .tc := ⟨.hbm, 198, rfl⟩
abbrev main_cst_25 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_cst_26 : Ref sig .tc := ⟨.hbm, 203, rfl⟩
abbrev main_v165 : Ref sig .tc := ⟨.hbm, 204, rfl⟩
abbrev main_v166 : Ref sig .tc := ⟨.hbm, 205, rfl⟩
abbrev main_cst_27 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_c : Ref sig .tc := ⟨.hbm, 238, rfl⟩
abbrev main_call0_v0 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_c_28 : Ref sig .tc := ⟨.hbm, 243, rfl⟩
abbrev main_call1_v0 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩

abbrev nD : Nat := 1
abbrev τ : Topo := Topo.v7x

variable {F : FTy → Type} [FloatOps F]
-- ==== Proof.Program.lean ====
/- The body of the attention kernel, in its own structure: a query tile is an initialisation, a score block, pairs of
   score-and-update steps over the key blocks before the diagonal, four diagonal steps over ever fewer rows, and a
   quotient. The printed body is this program, by computation. -/
module

public import proofs.«01_k».proof.Proof.Gen.KernelIdeal.Skeleton

@[expose] public section

noncomputable section

namespace Cert.KernelIdeal.Flash

open Cert.KernelIdeal Cert.KernelIdeal.Gen Idealize.ShloMosaic Idealize.ShloMosaic.TcCoe Idealize.SL.Sem

variable {F : FTy → Type} [FloatOps F]

/-- What the vector operations of an update on `n` rows ask of the shapes. -/
structure Rows (n : ℕ) : Prop where
  castQ : (⟨3, ![1, n, 256]⟩ : Shape).ShapeCasts ⟨2, ![n, 256]⟩
  dotS : DotDims.WF ⟨2, ![n, 256]⟩ S512x256 ⟨2, ![n, 512]⟩ [1] [1] [0] [0] [] []
  dotA : DotDims.WF ⟨2, ![n, 512]⟩ S512x256 ⟨2, ![n, 256]⟩ [1] [0] [0] [1] [] []
  iota0 : (⟨2, ![n, 512]⟩ : Shape).Iotas .tc 32 [0]
  iota1 : (⟨2, ![n, 512]⟩ : Shape).Iotas .tc 32 [1]
  red : (⟨2, ![n, 512]⟩ : Shape).Reduces [1] ⟨1, ![n]⟩
  castCol : (⟨1, ![n]⟩ : Shape).ShapeCasts ⟨2, ![n, 1]⟩
  bcast : (⟨2, ![n, 1]⟩ : Shape).Broadcasts ⟨2, ![n, 128]⟩
  cast128 : (⟨2, ![n, 128]⟩ : Shape).ShapeCasts ⟨2, ![n, 128]⟩
  cast256 : (⟨2, ![n, 256]⟩ : Shape).ShapeCasts ⟨2, ![n, 256]⟩
  sl0 : (⟨2, ![n, 512]⟩ : Shape).Slices ![0, 0] ⟨2, ![n, 128]⟩
  sl1 : (⟨2, ![n, 512]⟩ : Shape).Slices ![0, 128] ⟨2, ![n, 128]⟩
  sl2 : (⟨2, ![n, 512]⟩ : Shape).Slices ![0, 256] ⟨2, ![n, 128]⟩
  sl3 : (⟨2, ![n, 512]⟩ : Shape).Slices ![0, 384] ⟨2, ![n, 128]⟩
  cat4 : Shape.Concatenates [⟨2, ![n, 128]⟩, ⟨2, ![n, 128]⟩, ⟨2, ![n, 128]⟩, ⟨2, ![n, 128]⟩] ⟨2, ![n, 512]⟩ 1
  cat2 : Shape.Concatenates [⟨2, ![n, 128]⟩, ⟨2, ![n, 128]⟩] ⟨2, ![n, 256]⟩ 1

theorem rows2048 : Rows 2048 := by constructor <;> first
  | exact shapeCasts_S1x2048x256_S2048x256 | exact dot_S2048x256_S512x256_S2048x512_1_1_0_0_n_n_wf
  | exact dot_S2048x512_S512x256_S2048x256_1_0_0_1_n_n_wf | exact iota_S2048x512_d0_w32 | exact iota_S2048x512_d1_w32
  | exact reduces_S2048x512_S2048 | exact shapeCasts_S2048_S2048x1 | exact broadcasts_S2048x1_S2048x128
  | exact shapeCasts_S2048x128_S2048x128 | exact shapeCasts_S2048x256_S2048x256
  | exact slices_S2048x512_o0_0_S2048x128 | exact slices_S2048x512_o0_128_S2048x128
  | exact slices_S2048x512_o0_256_S2048x128 | exact slices_S2048x512_o0_384_S2048x128
  | exact concatenates_S2048x128_S2048x128_S2048x128_S2048x128_S2048x512_d1
  | exact concatenates_S2048x128_S2048x128_S2048x256_d1
theorem rows1536 : Rows 1536 := by constructor <;> first
  | exact shapeCasts_S1x1536x256_S1536x256 | exact dot_S1536x256_S512x256_S1536x512_1_1_0_0_n_n_wf
  | exact dot_S1536x512_S512x256_S1536x256_1_0_0_1_n_n_wf | exact iota_S1536x512_d0_w32 | exact iota_S1536x512_d1_w32
  | exact reduces_S1536x512_S1536 | exact shapeCasts_S1536_S1536x1 | exact broadcasts_S1536x1_S1536x128
  | exact shapeCasts_S1536x128_S1536x128 | exact shapeCasts_S1536x256_S1536x256
  | exact slices_S1536x512_o0_0_S1536x128 | exact slices_S1536x512_o0_128_S1536x128
  | exact slices_S1536x512_o0_256_S1536x128 | exact slices_S1536x512_o0_384_S1536x128
  | exact concatenates_S1536x128_S1536x128_S1536x128_S1536x128_S1536x512_d1
  | exact concatenates_S1536x128_S1536x128_S1536x256_d1
theorem rows1024 : Rows 1024 := by constructor <;> first
  | exact shapeCasts_S1x1024x256_S1024x256 | exact dot_S1024x256_S512x256_S1024x512_1_1_0_0_n_n_wf
  | exact dot_S1024x512_S512x256_S1024x256_1_0_0_1_n_n_wf | exact iota_S1024x512_d0_w32 | exact iota_S1024x512_d1_w32
  | exact reduces_S1024x512_S1024 | exact shapeCasts_S1024_S1024x1 | exact broadcasts_S1024x1_S1024x128
  | exact shapeCasts_S1024x128_S1024x128 | exact shapeCasts_S1024x256_S1024x256
  | exact slices_S1024x512_o0_0_S1024x128 | exact slices_S1024x512_o0_128_S1024x128
  | exact slices_S1024x512_o0_256_S1024x128 | exact slices_S1024x512_o0_384_S1024x128
  | exact concatenates_S1024x128_S1024x128_S1024x128_S1024x128_S1024x512_d1
  | exact concatenates_S1024x128_S1024x128_S1024x256_d1
theorem rows512 : Rows 512 := by constructor <;> first
  | exact shapeCasts_S1x512x256_S512x256 | exact dot_S512x256_S512x256_S512x512_1_1_0_0_n_n_wf
  | exact dot_S512x512_S512x256_S512x256_1_0_0_1_n_n_wf | exact iota_S512x512_d0_w32 | exact iota_S512x512_d1_w32
  | exact reduces_S512x512_S512 | exact shapeCasts_S512_S512x1 | exact broadcasts_S512x1_S512x128
  | exact shapeCasts_S512x128_S512x128 | exact shapeCasts_S512x256_S512x256
  | exact slices_S512x512_o0_0_S512x128 | exact slices_S512x512_o0_128_S512x128
  | exact slices_S512x512_o0_256_S512x128 | exact slices_S512x512_o0_384_S512x128
  | exact concatenates_S512x128_S512x128_S512x128_S512x128_S512x512_d1
  | exact concatenates_S512x128_S512x128_S512x256_d1

section Values

variable {n : ℕ} (h : Rows n)

/-- A block of scores: the rows of the queries against the 512 rows of a key block. -/
def scoreV (q : Vec F ⟨3, ![1, n, 256]⟩ .bf16) (k : Vec F S1x512x256 .bf16) : FVec F ⟨2, ![n, 512]⟩ .f32 :=
  matmul (⟨[1], [1], [0], [0], [], [], h.dotS⟩ : DotDims _ _ _) none
    (shapeCast ⟨2, ![n, 256]⟩ q h.castQ : FVec F ⟨2, ![n, 256]⟩ .bf16)
    (shapeCast S512x256 k shapeCasts_S1x512x256_S512x256 : FVec F S512x256 .bf16)
    (constant ⟨2, ![n, 512]⟩ .f32 0x00000000#32)

/-- The causal mask inside a diagonal block: the columns up to the row, the rest at minus infinity. -/
def maskV (s : FVec F ⟨2, ![n, 512]⟩ .f32) : FVec F ⟨2, ![n, 512]⟩ .f32 :=
  select (cmpi .sle (iota .tc ⟨2, ![n, 512]⟩ 32 [1] h.iota1) (iota .tc ⟨2, ![n, 512]⟩ 32 [0] h.iota0)) s
    (broadcast ⟨2, ![n, 512]⟩ (Scalar.ofBits .f32 0xFF800000#32 : F .f32))

/-- The new running maximum, one copy per lane. -/
def maxV (s : FVec F ⟨2, ![n, 512]⟩ .f32) (m : FVec F ⟨2, ![n, 128]⟩ .f32) : FVec F ⟨2, ![n, 128]⟩ .f32 :=
  maximumf m (broadcastTo ⟨2, ![n, 128]⟩
    (shapeCast ⟨2, ![n, 1]⟩ (multiReduction .maximumf [1] ⟨1, ![n]⟩ s 0xFF800000#32 h.red (.inl rfl) rfl) h.castCol)
    h.bcast)

/-- The weights of a block, relative to the new maximum. -/
def weightV (s : FVec F ⟨2, ![n, 512]⟩ .f32) (m : FVec F ⟨2, ![n, 128]⟩ .f32) : FVec F ⟨2, ![n, 512]⟩ .f32 :=
  concatenate ⟨2, ![n, 512]⟩ 1
    [⟨⟨2, ![n, 128]⟩, exp2 (subf (extractStridedSlice ⟨2, ![n, 128]⟩ ![0, 0] s h.sl0) (maxV h s m))⟩,
     ⟨⟨2, ![n, 128]⟩, exp2 (subf (extractStridedSlice ⟨2, ![n, 128]⟩ ![0, 128] s h.sl1) (maxV h s m))⟩,
     ⟨⟨2, ![n, 128]⟩, exp2 (subf (extractStridedSlice ⟨2, ![n, 128]⟩ ![0, 256] s h.sl2) (maxV h s m))⟩,
     ⟨⟨2, ![n, 128]⟩, exp2 (subf (extractStridedSlice ⟨2, ![n, 128]⟩ ![0, 384] s h.sl3) (maxV h s m))⟩] h.cat4

/-- A block of values with 128 columns of ones beside it. -/
def vextV (v : Vec F S1x512x128 .bf16) : FVec F S512x256 .bf16 :=
  concatenate S512x256 1 [⟨S512x128, shapeCast S512x128 v shapeCasts_S1x512x128_S512x128⟩,
    ⟨S512x128, broadcast S512x128 (Scalar.ofBits .bf16 0x3F80#16 : F .bf16)⟩] concatenates_S512x128_S512x128_S512x256_d1

/-- The new accumulator: the old one brought to the new maximum, plus the weighted block. -/
def accV (s : FVec F ⟨2, ![n, 512]⟩ .f32) (m : FVec F ⟨2, ![n, 128]⟩ .f32) (v : Vec F S1x512x128 .bf16)
    (a : FVec F ⟨2, ![n, 256]⟩ .f32) : FVec F ⟨2, ![n, 256]⟩ .f32 :=
  addf (mulf a (concatenate ⟨2, ![n, 256]⟩ 1
      [⟨⟨2, ![n, 128]⟩, exp2 (subf m (maxV h s m))⟩, ⟨⟨2, ![n, 128]⟩, exp2 (subf m (maxV h s m))⟩] h.cat2))
    (matmul (⟨[1], [0], [0], [1], [], [], h.dotA⟩ : DotDims _ _ _) none
      (truncf .bf16 (weightV h s m) bitsLt_bf16_f32 : FVec F ⟨2, ![n, 512]⟩ .bf16) (vextV v)
      (constant ⟨2, ![n, 256]⟩ .f32 0x00000000#32))

end Values

section Program

/-- A program of the kernel's body. -/
abbrev PG (F : FTy → Type) [FloatOps F] : Type 1 := Prog (TpuEff nD τ sig (Elt F) Λ₀ .tc) PUnit

theorem inbQ {n q : ℕ} (h : q + n ≤ 8192) : ∀ a, (![0, q, 0] : Fin 3 → ℕ) a + (⟨3, ![1, n, 256]⟩ : Shape).size a ≤ S1x8192x256.size a := by
  intro a; fin_cases a <;> simp [Shape.size] <;> omega
theorem inbV {n q : ℕ} (h : q + n ≤ 8192) : ∀ a, (![0, q, 0] : Fin 3 → ℕ) a + (⟨3, ![1, n, 128]⟩ : Shape).size a ≤ S1x8192x128.size a := by
  intro a; fin_cases a <;> simp [Shape.size] <;> omega
theorem inbM {n q : ℕ} (h : q + n ≤ 2048) : ∀ a, (![q, 0] : Fin 2 → ℕ) a + (⟨2, ![n, 128]⟩ : Shape).size a ≤ S2048x128.size a := by
  intro a; fin_cases a <;> simp [Shape.size] <;> omega
theorem inbA {n q : ℕ} (h : q + n ≤ 2048) : ∀ a, (![q, 0] : Fin 2 → ℕ) a + (⟨2, ![n, 256]⟩ : Shape).size a ≤ S2048x256.size a := by
  intro a; fin_cases a <;> simp [Shape.size] <;> omega

theorem numelPos3 {n w : ℕ} (hn : 0 < n) (hw : 0 < w) : 0 < (⟨3, ![1, n, w]⟩ : Shape).numel := by
  simp [Shape.numel, Fin.prod_univ_succ, hn, hw]
theorem numelPos2 {n w : ℕ} (hn : 0 < n) (hw : 0 < w) : 0 < (⟨2, ![n, w]⟩ : Shape).numel := by
  simp [Shape.numel, Fin.prod_univ_succ, hn, hw]

variable (arg2 : Memref sig .tc .vmem S1x8192x256 .bf16) (arg3 : Memref sig .tc .vmem S1x8192x256 .bf16)
  (arg4 : Memref sig .tc .vmem S1x8192x128 .bf16) (arg5 : Memref sig .tc .vmem S1x8192x128 .f32)
  (arg6 : Memref sig .tc .vmem S2048x128 .f32) (arg7 : Memref sig .tc .vmem S2048x256 .f32)
  (arg8 : Memref sig .tc .vmem S2048x512 .f32) (arg9 : Memref sig .tc .vmem S2048x512 .f32)

/-- Read `n` query rows and a key block, and go on with their scores. -/
def scoreP {n : ℕ} (hn : 0 < n) (h : Rows n) (q k : ℕ) (hq : q + n ≤ 8192) (hk : k + 512 ≤ 8192)
    (K : FVec F ⟨2, ![n, 512]⟩ .f32 → PG F) : PG F := do
  let vq : Vec F ⟨3, ![1, n, 256]⟩ .bf16 ← Prog.lift (.load arg2 (Rect.unit (s := S1x8192x256) ![0, q, 0] (⟨3, ![1, n, 256]⟩ : Shape).size (inbQ hq)).toLoadRect (View.loadsAt_vmem (numelPos3 hn (by decide))))
  let vk : Vec F S1x512x256 .bf16 ← Prog.lift (.load arg3 (Rect.unit (s := S1x8192x256) ![0, k, 0] S1x512x256.size (inbQ hk)).toLoadRect (View.loadsAt_vmem h_S1x512x256))
  K (scoreV h vq vk)

/-- Put a block of scores into a buffer (the printed body reads the buffer first and drops what it read). -/
def putS (buf : Memref sig .tc .vmem S2048x512 .f32) (s : FVec F S2048x512 .f32) (K : PG F) : PG F := do
  let _ ← Prog.lift (.load buf (Rect.unit (s := S2048x512) ![0, 0] S2048x512.size inb_S2048x512_S2048x512_0_0).toLoadRect (View.loadsAt_vmem h_S2048x512))
  Prog.lift (.store buf (Rect.unit (s := S2048x512) ![0, 0] S2048x512.size inb_S2048x512_S2048x512_0_0) (shapeCast S2048x512 s shapeCasts_S2048x512_S2048x512) Finset.univ (View.stores_vmem_bits_univ h_S2048x512 rfl) (.inl rfl))
  K

/-- Read a buffer of scores. -/
def getS (buf : Memref sig .tc .vmem S2048x512 .f32) (K : Vec F S2048x512 .f32 → PG F) : PG F := do
  let s : Vec F S2048x512 .f32 ← Prog.lift (.load buf (Rect.unit (s := S2048x512) ![0, 0] S2048x512.size inb_S2048x512_S2048x512_0_0).toLoadRect (View.loadsAt_vmem h_S2048x512))
  K s

/-- The update of the rows from `r` on, `n` of them, by a block of scores and the value block at `k`. -/
def updP {n : ℕ} (hn : 0 < n) (h : Rows n) (r k : ℕ) (hr : r + n ≤ 2048) (hk : k + 512 ≤ 8192)
    (s : FVec F ⟨2, ![n, 512]⟩ .f32) (K : PG F) : PG F := do
  let m : Vec F ⟨2, ![n, 128]⟩ .f32 ← Prog.lift (.load arg6 (Rect.unit (s := S2048x128) ![r, 0] (⟨2, ![n, 128]⟩ : Shape).size (inbM hr)).toLoadRect (View.loadsAt_vmem (numelPos2 hn (by decide))))
  let _ ← Prog.lift (.load arg6 (Rect.unit (s := S2048x128) ![r, 0] (⟨2, ![n, 128]⟩ : Shape).size (inbM hr)).toLoadRect (View.loadsAt_vmem (numelPos2 hn (by decide))))
  Prog.lift (.store arg6 (Rect.unit (s := S2048x128) ![r, 0] (⟨2, ![n, 128]⟩ : Shape).size (inbM hr)) (shapeCast ⟨2, ![n, 128]⟩ (maxV h s m) h.cast128) Finset.univ (View.stores_vmem_bits_univ (numelPos2 hn (by decide)) rfl) (.inl rfl))
  let v : Vec F S1x512x128 .bf16 ← Prog.lift (.load arg4 (Rect.unit (s := S1x8192x128) ![0, k, 0] S1x512x128.size (inbV hk)).toLoadRect (View.loadsAt_vmem h_S1x512x128))
  let a : Vec F ⟨2, ![n, 256]⟩ .f32 ← Prog.lift (.load arg7 (Rect.unit (s := S2048x256) ![r, 0] (⟨2, ![n, 256]⟩ : Shape).size (inbA hr)).toLoadRect (View.loadsAt_vmem (numelPos2 hn (by decide))))
  let _ ← Prog.lift (.load arg7 (Rect.unit (s := S2048x256) ![r, 0] (⟨2, ![n, 256]⟩ : Shape).size (inbA hr)).toLoadRect (View.loadsAt_vmem (numelPos2 hn (by decide))))
  Prog.lift (.store arg7 (Rect.unit (s := S2048x256) ![r, 0] (⟨2, ![n, 256]⟩ : Shape).size (inbA hr)) (shapeCast ⟨2, ![n, 256]⟩ (accV h s m v a) h.cast256) Finset.univ (View.stores_vmem_bits_univ (numelPos2 hn (by decide)) rfl) (.inl rfl))
  K

/-- The running maximum at minus infinity, the accumulator at zero. -/
def initP (K : PG F) : PG F := do
  let _ ← Prog.lift (.load arg6 (Rect.unit (s := S2048x128) ![0, 0] S2048x128.size inb_S2048x128_S2048x128_0_0).toLoadRect (View.loadsAt_vmem h_S2048x128))
  Prog.lift (.store arg6 (Rect.unit (s := S2048x128) ![0, 0] S2048x128.size inb_S2048x128_S2048x128_0_0) (k0_pay38 (F := F)) Finset.univ (View.stores_vmem_bits_univ h_S2048x128 rfl) (.inl rfl))
  let _ ← Prog.lift (.load arg7 (Rect.unit (s := S2048x256) ![0, 0] S2048x256.size inb_S2048x256_S2048x256_0_0).toLoadRect (View.loadsAt_vmem h_S2048x256))
  Prog.lift (.store arg7 (Rect.unit (s := S2048x256) ![0, 0] S2048x256.size inb_S2048x256_S2048x256_0_0) (k0_pay39 (F := F)) Finset.univ (View.stores_vmem_bits_univ h_S2048x256 rfl) (.inl rfl))
  K

/-- The quotient of the two halves of the accumulator, to the output rows from `q` on. -/
def outP (q : ℕ) (hq : q + 2048 ≤ 8192) (K : PG F) : PG F := do
  let a : Vec F S2048x256 .f32 ← Prog.lift (.load arg7 (Rect.unit (s := S2048x256) ![0, 0] S2048x256.size inb_S2048x256_S2048x256_0_0).toLoadRect (View.loadsAt_vmem h_S2048x256))
  let _ ← Prog.lift (.load arg5 (Rect.unit (s := S1x8192x128) ![0, q, 0] S1x2048x128.size (inbV hq)).toLoadRect (View.loadsAt_vmem h_S1x2048x128))
  Prog.lift (.store arg5 (Rect.unit (s := S1x8192x128) ![0, q, 0] S1x2048x128.size (inbV hq)) (k0_pay2 a) Finset.univ (View.stores_vmem_bits_univ h_S1x2048x128 rfl) (.inl rfl))
  K

/-- The first `u` pairs of full steps of a tile: the scores of the next block into the other buffer, then the update by
    the present one. -/
def pairsP (q : ℕ) (hq : q + 2048 ≤ 8192) : (u : ℕ) → 1024 * u ≤ q → PG F → PG F
  | 0, _, K => K
  | u + 1, hu, K => pairsP q hq u (by omega)
      (scoreP arg2 arg3 (by decide) rows2048 q (1024 * u + 512) hq (by omega) fun s => putS arg9 s <|
        getS arg8 fun s => updP arg4 arg6 arg7 (by decide) rows2048 0 (1024 * u) (by decide) (by omega) s <|
        scoreP arg2 arg3 (by decide) rows2048 q (1024 * u + 1024) hq (by omega) fun s => putS arg8 s <|
        getS arg9 fun s => updP arg4 arg6 arg7 (by decide) rows2048 0 (1024 * u + 512) (by decide) (by omega) s <| K)

/-- The four diagonal steps. -/
def diagP (q : ℕ) (hq : q + 2048 ≤ 8192) (K : PG F) : PG F :=
  getS arg8 fun s => scoreP arg2 arg3 (n := 1536) (by decide) rows1536 (q + 512) (q + 512) (by omega) (by omega) fun s' =>
    updP arg4 arg6 arg7 (by decide) rows2048 0 q (by decide) (by omega) (maskV rows2048 s) <|
    scoreP arg2 arg3 (n := 1024) (by decide) rows1024 (q + 1024) (q + 1024) (by omega) (by omega) fun s =>
    updP arg4 arg6 arg7 (by decide) rows1536 512 (q + 512) (by decide) (by omega) (maskV rows1536 s') <|
    scoreP arg2 arg3 (n := 512) (by decide) rows512 (q + 1536) (q + 1536) (by omega) (by omega) fun s' =>
    updP arg4 arg6 arg7 (by decide) rows1024 1024 (q + 1024) (by decide) (by omega) (maskV rows1024 s) <|
    updP arg4 arg6 arg7 (by decide) rows512 1536 (q + 1536) (by decide) (by omega) (maskV rows512 s') K

/-- One query tile, its first row `q`, the full steps given as a program. -/
def tileP (q : ℕ) (hq : q + 2048 ≤ 8192) (mid : PG F → PG F) (K : PG F) : PG F :=
  initP arg6 arg7 <|
  scoreP arg2 arg3 (n := 2048) (by decide) rows2048 q 0 hq (by decide) fun s => putS arg8 s <|
  mid <|
  diagP arg2 arg3 arg4 arg6 arg7 arg8 q hq <|
  outP arg5 arg7 q hq K

/-- The whole body: four query tiles, the full steps of the last two given as programs. -/
def bodyP (mid2 mid3 : PG F → PG F) : PG F :=
  tileP arg2 arg3 arg4 arg5 arg6 arg7 arg8 0 (by decide) (fun K => K) <|
  tileP arg2 arg3 arg4 arg5 arg6 arg7 arg8 2048 (by decide)
    (pairsP arg2 arg3 arg4 arg6 arg7 arg8 arg9 2048 (by decide) 2 (by decide)) <|
  tileP arg2 arg3 arg4 arg5 arg6 arg7 arg8 4096 (by decide) mid2 <|
  tileP arg2 arg3 arg4 arg5 arg6 arg7 arg8 6144 (by decide) mid3 <|
  pure ⟨⟩

end Program

end Cert.KernelIdeal.Flash

end
-- ==== Proof.Exec.lean ====
/- What each piece of the structured body does to the buffers it holds. The state is the contents of the output block and
   of the four scratch buffers, as plain vectors; the inputs' blocks never change. -/
module

public import proofs.«01_k».proof.Proof.Program
public import proofs.«01_k».proof.Proof.Gen.KernelIdeal.Frame.Runs
public import Idealize.ShloMosaic.Lib.VecWindow

@[expose] public section

noncomputable section

namespace Cert.KernelIdeal.Flash

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The model that the runs are stated in. -/
abbrev MM (F : FTy → Type) [FloatOps F] := MT nD τ sig Unit (Elt F) ℕ (UR sig nD τ) ℕ

section Base

variable (c : Dev nD) (E : Set ℕ) {Q : PUnit.{1} → sProp (MM F)} {s : Shape} {e : EltTy}

/-- A load at the head of a program, of a buffer held at known contents. -/
theorem load_held {m : Memref sig .tc .vmem s e} {x : Vec F s e} {q : PosShare TreeShare} {r : Rect s}
    {hl : m.view.LoadsAt r.toLoadRect} {k : (r.toLoadRect.shape.Idx → Elt F e) → PG F} :
    (owns (c : Thread nD τ) m q x)
      ⊢ iprop((owns (c : Thread nD τ) m q x -∗ wp frame (wpE (defs₀ (F := F)) Variants.none c none) E (k (View.ld x r)) Q)
        -∗ wp frame (wpE (defs₀ (F := F)) Variants.none c none) E (Prog.lift (.load m r.toLoadRect hl) >>= k) Q) := by
  rw [show (Prog.lift (.load m r.toLoadRect hl) >>= k : PG F) = .op (.load m r.toLoadRect hl) k from rfl]
  unfold owns
  iintro ⟨%f, %hf, H⟩ Hk
  subst hf
  iapply (wp_load Variants.none (c : Thread nD τ) none E (m := m) (r := r.toLoadRect) (hl := hl) (k := k) (q := q) (f := f)
    (S := m.view.set) (m.view.setOn_subset_set _)) $$ H
  iintro H
  iapply Hk
  iexists f
  isplitr
  · ipureintro; rfl
  iexact H

/-- A store at the head of a program: the contents get the payload put over the window. -/
theorem store_held {m : Memref sig .tc .vmem s e} {x : Vec F s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1} {k : PUnit → PG F} :
    (owns (c : Thread nD τ) m fullShare x)
      ⊢ iprop((owns (c : Thread nD τ) m fullShare (VecWindow.put x off size w)
          -∗ wp frame (wpE (defs₀ (F := F)) Variants.none c none) E (k ⟨⟩) Q)
        -∗ wp frame (wpE (defs₀ (F := F)) Variants.none c none) E
            (Prog.lift (.store m (Rect.unit off size inb) w Finset.univ hx hm) >>= k) Q) := by
  rw [show (Prog.lift (.store m (Rect.unit off size inb) w Finset.univ hx hm) >>= k : PG F)
    = .op (.store m (Rect.unit off size inb) w Finset.univ hx hm) k from rfl]
  unfold owns
  iintro ⟨%f, %hf, H⟩ Hk
  subst hf
  iapply (wp_store_writes₀ Variants.none (c : Thread nD τ) none E (m := m) (r := Rect.unit off size inb) (w := w)
    (hx := hx) (hm := hm) (k := k) (f := f) (S := m.view.set) (View.set_slice_subset _ _)) $$ H
  iintro H
  iapply Hk
  iexists m.view.writes (Elt F) f [⟨Rect.unit off size inb, w⟩]
  isplitr
  · ipureintro; exact View.read_writes_cons_put m.view f inb w [] rfl
  iexact H

end Base

/-- The contents that the body changes: the running maximum, the accumulator, the two score buffers, the output block. -/
structure St (F : FTy → Type) [FloatOps F] where
  m : Vec F S2048x128 .f32
  a : Vec F S2048x256 .f32
  s8 : Vec F S2048x512 .f32
  s9 : Vec F S2048x512 .f32
  o : Vec F S1x8192x128 .f32

section Steps

variable (x0 x1 : Vec F S1x8192x256 .bf16) (x2 : Vec F S1x8192x128 .bf16)

/-- The scores of the `n` query rows from `q` on against the keys from `k` on. -/
def scoresAt {n : ℕ} (h : Rows n) (q k : ℕ) (hq : q + n ≤ 8192) (hk : k + 512 ≤ 8192) : FVec F ⟨2, ![n, 512]⟩ .f32 :=
  scoreV h (View.ld x0 (Rect.unit (s := S1x8192x256) ![0, q, 0] (⟨3, ![1, n, 256]⟩ : Shape).size (inbQ hq)))
    (View.ld x1 (Rect.unit (s := S1x8192x256) ![0, k, 0] S1x512x256.size (inbQ hk)))

/-- A score buffer after a block of scores is put there. -/
def putBuf (buf : Vec F S2048x512 .f32) (s : FVec F S2048x512 .f32) : Vec F S2048x512 .f32 :=
  VecWindow.put buf ![0, 0] S2048x512.size (shapeCast S2048x512 s shapeCasts_S2048x512_S2048x512)

/-- What a read of a whole score buffer gives. -/
def getBuf (buf : Vec F S2048x512 .f32) : Vec F S2048x512 .f32 :=
  View.ld buf (Rect.unit (s := S2048x512) ![0, 0] S2048x512.size inb_S2048x512_S2048x512_0_0)

/-- The running maximum after the update of the rows from `r` on. -/
def updM {n : ℕ} (h : Rows n) (r : ℕ) (hr : r + n ≤ 2048) (s : FVec F ⟨2, ![n, 512]⟩ .f32) (m : Vec F S2048x128 .f32) :
    Vec F S2048x128 .f32 :=
  VecWindow.put m ![r, 0] (⟨2, ![n, 128]⟩ : Shape).size (shapeCast ⟨2, ![n, 128]⟩
    (maxV h s (View.ld m (Rect.unit (s := S2048x128) ![r, 0] (⟨2, ![n, 128]⟩ : Shape).size (inbM hr)))) h.cast128)

/-- The accumulator after the update of the rows from `r` on, by the value block at `k`. -/
def updA {n : ℕ} (h : Rows n) (r k : ℕ) (hr : r + n ≤ 2048) (hk : k + 512 ≤ 8192) (s : FVec F ⟨2, ![n, 512]⟩ .f32)
    (m : Vec F S2048x128 .f32) (a : Vec F S2048x256 .f32) : Vec F S2048x256 .f32 :=
  VecWindow.put a ![r, 0] (⟨2, ![n, 256]⟩ : Shape).size (shapeCast ⟨2, ![n, 256]⟩
    (accV h s (View.ld m (Rect.unit (s := S2048x128) ![r, 0] (⟨2, ![n, 128]⟩ : Shape).size (inbM hr)))
      (View.ld x2 (Rect.unit (s := S1x8192x128) ![0, k, 0] S1x512x128.size (inbV hk)))
      (View.ld a (Rect.unit (s := S2048x256) ![r, 0] (⟨2, ![n, 256]⟩ : Shape).size (inbA hr)))) h.cast256)

/-- The state after an update. -/
def updSt {n : ℕ} (h : Rows n) (r k : ℕ) (hr : r + n ≤ 2048) (hk : k + 512 ≤ 8192) (s : FVec F ⟨2, ![n, 512]⟩ .f32)
    (σ : St F) : St F :=
  { σ with m := updM h r hr s σ.m, a := updA x2 h r k hr hk s σ.m σ.a }

/-- The state after the initialisation of a tile. -/
def initSt (σ : St F) : St F :=
  { σ with m := VecWindow.put σ.m ![0, 0] S2048x128.size (k0_pay38 (F := F)),
           a := VecWindow.put σ.a ![0, 0] S2048x256.size (k0_pay39 (F := F)) }

/-- The state after a tile's output. -/
def outSt (q : ℕ) (σ : St F) : St F :=
  { σ with
    o := VecWindow.put σ.o ![0, q, 0] S1x2048x128.size
      (k0_pay2 (View.ld σ.a (Rect.unit (s := S2048x256) ![0, 0] S2048x256.size inb_S2048x256_S2048x256_0_0))) }

/-- The state after a block of scores is put into the first buffer, -/
def put8 (s : FVec F S2048x512 .f32) (σ : St F) : St F := { σ with s8 := putBuf σ.s8 s }

/-- or the second. -/
def put9 (s : FVec F S2048x512 .f32) (σ : St F) : St F := { σ with s9 := putBuf σ.s9 s }

/-- A full step: the scores of the keys at `k'` into the second buffer, the update by those at `k` from the first. -/
def step9 (q : ℕ) (hq : q + 2048 ≤ 8192) (k k' : ℕ) (hk : k + 512 ≤ 8192) (hk' : k' + 512 ≤ 8192) (σ : St F) : St F :=
  updSt x2 rows2048 0 k (by decide) hk (getBuf σ.s8) (put9 (scoresAt x0 x1 rows2048 q k' hq hk') σ)

/-- The same with the buffers' parts exchanged. -/
def step8 (q : ℕ) (hq : q + 2048 ≤ 8192) (k k' : ℕ) (hk : k + 512 ≤ 8192) (hk' : k' + 512 ≤ 8192) (σ : St F) : St F :=
  updSt x2 rows2048 0 k (by decide) hk (getBuf σ.s9) (put8 (scoresAt x0 x1 rows2048 q k' hq hk') σ)

/-- One pair of full steps. -/
def pairSt (q : ℕ) (hq : q + 2048 ≤ 8192) (u : ℕ) (hu : 1024 * (u + 1) ≤ q) (σ : St F) : St F :=
  step8 x0 x1 x2 q hq (1024 * u + 512) (1024 * u + 1024) (by omega) (by omega)
    (step9 x0 x1 x2 q hq (1024 * u) (1024 * u + 512) (by omega) (by omega) σ)

/-- The first `u` pairs. -/
def pairsSt (q : ℕ) (hq : q + 2048 ≤ 8192) : (u : ℕ) → 1024 * u ≤ q → St F → St F
  | 0, _, σ => σ
  | u + 1, hu, σ => pairSt x0 x1 x2 q hq u hu (pairsSt q hq u (by omega) σ)

/-- The four diagonal steps. -/
def diagSt (q : ℕ) (hq : q + 2048 ≤ 8192) (σ : St F) : St F :=
  updSt x2 rows512 1536 (q + 1536) (by decide) (by omega)
      (maskV rows512 (scoresAt x0 x1 rows512 (q + 1536) (q + 1536) (by omega) (by omega))) <|
    updSt x2 rows1024 1024 (q + 1024) (by decide) (by omega)
      (maskV rows1024 (scoresAt x0 x1 rows1024 (q + 1024) (q + 1024) (by omega) (by omega))) <|
    updSt x2 rows1536 512 (q + 512) (by decide) (by omega)
      (maskV rows1536 (scoresAt x0 x1 rows1536 (q + 512) (q + 512) (by omega) (by omega))) <|
    updSt x2 rows2048 0 q (by decide) (by omega) (maskV rows2048 (getBuf σ.s8)) σ

/-- One tile, of which `u` pairs of full steps come first. -/
def tileSt (q : ℕ) (hq : q + 2048 ≤ 8192) (u : ℕ) (hu : 1024 * u ≤ q) (σ : St F) : St F :=
  outSt q <| diagSt x0 x1 x2 q hq <| pairsSt x0 x1 x2 q hq u hu <|
    put8 (scoresAt x0 x1 rows2048 q 0 hq (by decide)) <| initSt σ

/-- The whole body. -/
def bodySt (σ : St F) : St F :=
  tileSt x0 x1 x2 6144 (by decide) 6 (by decide) <| tileSt x0 x1 x2 4096 (by decide) 4 (by decide) <|
    tileSt x0 x1 x2 2048 (by decide) 2 (by decide) <| tileSt x0 x1 x2 0 (by decide) 0 (by decide) σ

end Steps

section Run

/-- The buffers of a body. -/
structure Bufs where
  q : Memref sig .tc .vmem S1x8192x256 .bf16
  k : Memref sig .tc .vmem S1x8192x256 .bf16
  v : Memref sig .tc .vmem S1x8192x128 .bf16
  o : Memref sig .tc .vmem S1x8192x128 .f32
  m : Memref sig .tc .vmem S2048x128 .f32
  a : Memref sig .tc .vmem S2048x256 .f32
  s8 : Memref sig .tc .vmem S2048x512 .f32
  s9 : Memref sig .tc .vmem S2048x512 .f32

variable (c : Dev nD) (E : Set ℕ) (b : Bufs) (x0 x1 : Vec F S1x8192x256 .bf16) (x2 : Vec F S1x8192x128 .bf16)

/-- The buffers held at the inputs' blocks and at a state. -/
def held (σ : St F) : sProp (MM F) :=
  iprop(owns (c : Thread nD τ) b.q fullShare x0 ∗ owns (c : Thread nD τ) b.k fullShare x1
    ∗ owns (c : Thread nD τ) b.v fullShare x2 ∗ owns (c : Thread nD τ) b.o fullShare σ.o
    ∗ owns (c : Thread nD τ) b.m fullShare σ.m ∗ owns (c : Thread nD τ) b.a fullShare σ.a
    ∗ owns (c : Thread nD τ) b.s8 fullShare σ.s8 ∗ owns (c : Thread nD τ) b.s9 fullShare σ.s9)

/-- From the state `σ`, and a rest `R` that it doesn't touch, the program runs to `Q`. -/
def Leads (R : sProp (MM F)) (Q : PUnit.{1} → sProp (MM F)) (σ : St F) (p : PG F) : Prop :=
  iprop(held c b x0 x1 x2 σ ∗ R) ⊢ wp frame (wpE (defs₀ (F := F)) Variants.none c none) E p Q

variable {c E b x0 x1 x2} {R : sProp (MM F)} {Q : PUnit.{1} → sProp (MM F)} {σ : St F}

theorem run_score {n : ℕ} {hn : 0 < n} {h : Rows n} {q k : ℕ} {hq : q + n ≤ 8192} {hk : k + 512 ≤ 8192}
    {K : FVec F ⟨2, ![n, 512]⟩ .f32 → PG F} (hK : Leads c E b x0 x1 x2 R Q σ (K (scoresAt x0 x1 h q k hq hk))) :
    Leads c E b x0 x1 x2 R Q σ (scoreP b.q b.k hn h q k hq hk K) := by
  unfold Leads held at *
  unfold scoreP
  iintro ⟨⟨H0, H1, H2, H3, H4, H5, H6, H7⟩, HR⟩
  iapply (load_held c E (m := b.q) (x := x0)) $$ H0
  iintro H0
  iapply (load_held c E (m := b.k) (x := x1)) $$ H1
  iintro H1
  iapply hK
  iframe

/-- A read of the first score buffer, -/
theorem run_get8 {K : Vec F S2048x512 .f32 → PG F} (hK : Leads c E b x0 x1 x2 R Q σ (K (getBuf σ.s8))) :
    Leads c E b x0 x1 x2 R Q σ (getS b.s8 K) := by
  unfold Leads held at *
  unfold getS
  iintro ⟨⟨H0, H1, H2, H3, H4, H5, H6, H7⟩, HR⟩
  iapply (load_held c E (m := b.s8) (x := σ.s8)) $$ H6
  iintro H6
  iapply hK
  iframe

/-- and of the second. -/
theorem run_get9 {K : Vec F S2048x512 .f32 → PG F} (hK : Leads c E b x0 x1 x2 R Q σ (K (getBuf σ.s9))) :
    Leads c E b x0 x1 x2 R Q σ (getS b.s9 K) := by
  unfold Leads held at *
  unfold getS
  iintro ⟨⟨H0, H1, H2, H3, H4, H5, H6, H7⟩, HR⟩
  iapply (load_held c E (m := b.s9) (x := σ.s9)) $$ H7
  iintro H7
  iapply hK
  iframe

/-- A write of the first score buffer, -/
theorem run_put8 {s : FVec F S2048x512 .f32} {K : PG F} (hK : Leads c E b x0 x1 x2 R Q (put8 s σ) K) :
    Leads c E b x0 x1 x2 R Q σ (putS b.s8 s K) := by
  unfold Leads held put8 putBuf at *
  unfold putS
  iintro ⟨⟨H0, H1, H2, H3, H4, H5, H6, H7⟩, HR⟩
  iapply (load_held c E (m := b.s8) (x := σ.s8)) $$ H6
  iintro H6
  iapply (store_held c E (m := b.s8) (x := σ.s8)) $$ H6
  iintro H6
  iapply hK
  iframe

/-- and of the second. -/
theorem run_put9 {s : FVec F S2048x512 .f32} {K : PG F} (hK : Leads c E b x0 x1 x2 R Q (put9 s σ) K) :
    Leads c E b x0 x1 x2 R Q σ (putS b.s9 s K) := by
  unfold Leads held put9 putBuf at *
  unfold putS
  iintro ⟨⟨H0, H1, H2, H3, H4, H5, H6, H7⟩, HR⟩
  iapply (load_held c E (m := b.s9) (x := σ.s9)) $$ H7
  iintro H7
  iapply (store_held c E (m := b.s9) (x := σ.s9)) $$ H7
  iintro H7
  iapply hK
  iframe

/-- An update of some rows. -/
theorem run_upd {n : ℕ} {hn : 0 < n} {h : Rows n} {r k : ℕ} {hr : r + n ≤ 2048} {hk : k + 512 ≤ 8192}
    {s : FVec F ⟨2, ![n, 512]⟩ .f32} {K : PG F} (hK : Leads c E b x0 x1 x2 R Q (updSt x2 h r k hr hk s σ) K) :
    Leads c E b x0 x1 x2 R Q σ (updP b.v b.m b.a hn h r k hr hk s K) := by
  unfold Leads held updSt updM updA at *
  unfold updP
  iintro ⟨⟨H0, H1, H2, H3, H4, H5, H6, H7⟩, HR⟩
  iapply (load_held c E (m := b.m) (x := σ.m)) $$ H4
  iintro H4
  iapply (load_held c E (m := b.m) (x := σ.m)) $$ H4
  iintro H4
  iapply (store_held c E (m := b.m) (x := σ.m)) $$ H4
  iintro H4
  iapply (load_held c E (m := b.v) (x := x2)) $$ H2
  iintro H2
  iapply (load_held c E (m := b.a) (x := σ.a)) $$ H5
  iintro H5
  iapply (load_held c E (m := b.a) (x := σ.a)) $$ H5
  iintro H5
  iapply (store_held c E (m := b.a) (x := σ.a)) $$ H5
  iintro H5
  iapply hK
  iframe

/-- The initialisation of a tile. -/
theorem run_init {K : PG F} (hK : Leads c E b x0 x1 x2 R Q (initSt σ) K) :
    Leads c E b x0 x1 x2 R Q σ (initP b.m b.a K) := by
  unfold Leads held initSt at *
  unfold initP
  iintro ⟨⟨H0, H1, H2, H3, H4, H5, H6, H7⟩, HR⟩
  iapply (load_held c E (m := b.m) (x := σ.m)) $$ H4
  iintro H4
  iapply (store_held c E (m := b.m) (x := σ.m)) $$ H4
  iintro H4
  iapply (load_held c E (m := b.a) (x := σ.a)) $$ H5
  iintro H5
  iapply (store_held c E (m := b.a) (x := σ.a)) $$ H5
  iintro H5
  iapply hK
  iframe

/-- The output of a tile. -/
theorem run_out {q : ℕ} {hq : q + 2048 ≤ 8192} {K : PG F} (hK : Leads c E b x0 x1 x2 R Q (outSt q σ) K) :
    Leads c E b x0 x1 x2 R Q σ (outP b.o b.a q hq K) := by
  unfold Leads held outSt at *
  unfold outP
  iintro ⟨⟨H0, H1, H2, H3, H4, H5, H6, H7⟩, HR⟩
  iapply (load_held c E (m := b.a) (x := σ.a)) $$ H5
  iintro H5
  iapply (load_held c E (m := b.o) (x := σ.o)) $$ H3
  iintro H3
  iapply (store_held c E (m := b.o) (x := σ.o)) $$ H3
  iintro H3
  iapply hK
  iframe

/-- The pairs of full steps. -/
theorem run_pairs {q : ℕ} {hq : q + 2048 ≤ 8192} : ∀ {u : ℕ} {hu : 1024 * u ≤ q} {σ : St F} {K : PG F},
    Leads c E b x0 x1 x2 R Q (pairsSt x0 x1 x2 q hq u hu σ) K →
      Leads c E b x0 x1 x2 R Q σ (pairsP b.q b.k b.v b.m b.a b.s8 b.s9 q hq u hu K)
  | 0, _, _, _, hK => hK
  | _ + 1, _, _, _, hK => by
    unfold pairsP
    exact run_pairs (run_score (run_put9 (run_get8 (run_upd (run_score (run_put8 (run_get9 (run_upd hK))))))))

/-- The diagonal steps. -/
theorem run_diag {q : ℕ} {hq : q + 2048 ≤ 8192} {K : PG F} (hK : Leads c E b x0 x1 x2 R Q (diagSt x0 x1 x2 q hq σ) K) :
    Leads c E b x0 x1 x2 R Q σ (diagP b.q b.k b.v b.m b.a b.s8 q hq K) :=
  run_get8 (run_score (run_upd (run_score (run_upd (run_score (run_upd (run_upd hK)))))))

/-- A tile. -/
theorem run_tile {q : ℕ} {hq : q + 2048 ≤ 8192} {u : ℕ} {hu : 1024 * u ≤ q} {K : PG F}
    (hK : Leads c E b x0 x1 x2 R Q (tileSt x0 x1 x2 q hq u hu σ) K) :
    Leads c E b x0 x1 x2 R Q σ (tileP b.q b.k b.v b.o b.m b.a b.s8 q hq
      (pairsP b.q b.k b.v b.m b.a b.s8 b.s9 q hq u hu) K) :=
  run_init (run_score (run_put8 (run_pairs (run_diag (run_out hK)))))

/-- The body. -/
theorem run_body (hK : Leads c E b x0 x1 x2 R Q (bodySt x0 x1 x2 σ) (pure ⟨⟩)) :
    Leads c E b x0 x1 x2 R Q σ (bodyP b.q b.k b.v b.o b.m b.a b.s8 b.s9
      (pairsP b.q b.k b.v b.m b.a b.s8 b.s9 4096 (by decide) 4 (by decide))
      (pairsP b.q b.k b.v b.m b.a b.s8 b.s9 6144 (by decide) 6 (by decide))) :=
  run_tile (u := 0) (run_tile (run_tile (run_tile hK)))

end Run

end Cert.KernelIdeal.Flash

end
-- ==== Proof.Reads.lean ====
/- The vector operations of the kernel's body over the extended reals, read at an index. -/
module

public import proofs.«01_k».proof.Proof.Program
public import Idealize.ShloMosaic.Lib.Pointwise
public import Idealize.ShloMosaic.Lib.WordCmp
public import Idealize.ShloMosaic.Lib.Pointwise.IndexVar

@[expose] public section

noncomputable section

namespace Cert.KernelIdeal.Flash

open Cert.KernelIdeal Cert.KernelIdeal.Gen Idealize.ShloMosaic Idealize.ShloMosaic.TcCoe

variable {n : ℕ} (h : Rows n)

/-- The column of a vector, -/
theorem reshape_col {n : ℕ} (h : (⟨2, ![n, 1]⟩ : Shape).numel = (⟨1, ![n]⟩ : Shape).numel) (r : Fin n) :
    Shape.reshapeEquiv h (ix2 r 0) = ix1 r :=
  Shape.reshapeEquiv_eq_of_rowMajor h (by
    rw [rowMajor_val1, rowMajor_val2 _ 1 rfl]
    simp)

/-- and a matrix without its first axis of one. -/
theorem reshape_drop {n w : ℕ} (h : (⟨2, ![n, w]⟩ : Shape).numel = (⟨3, ![1, n, w]⟩ : Shape).numel) (r : Fin n) (d : Fin w) :
    Shape.reshapeEquiv h (ix2 r d) = ix3 0 r d :=
  Shape.reshapeEquiv_eq_of_rowMajor h (by
    rw [rowMajor_val3 _ (n * w) w rfl rfl, rowMajor_val2 _ w rfl]
    simp)

/-- The word of minus infinity. -/
theorem negInf : Ideal.ofBits .f32 0xFF800000#32 = ⊥ := by
  simp [Ideal.ofBits, Ideal.ieee]

/-- A score is the product of a query row and a key row. -/
theorem scoreV_apply (q : Vec Ideal ⟨3, ![1, n, 256]⟩ .bf16) (k : Vec Ideal S1x512x256 .bf16) (r : Fin n) (j : Fin 512) :
    scoreV (F := Ideal) h q k (ix2 r j) = ∑ d : Fin 256, q (ix3 0 r d) * k (ix3 0 j d) := by
  pointwise [scoreV]
  exact Finset.sum_congr rfl fun d _ => congrArg (fun i => q i * k (ix3 0 j d)) (reshape_drop _ r d)

theorem maskV_apply (hn : n ≤ 2048) (s : FVec Ideal ⟨2, ![n, 512]⟩ .f32) (r : Fin n) (j : Fin 512) :
    maskV (F := Ideal) h s (ix2 r j) = if j.val ≤ r.val then s (ix2 r j) else ⊥ := by
  pointwise [maskV]
  rw [WordCmp.cmpi_sle_ofNat (by omega) (by omega), negInf]
  by_cases hj : j.val ≤ r.val <;> simp [Scalar.select, hj]

theorem maxV_apply (hn : n ≠ 1) (s : FVec Ideal ⟨2, ![n, 512]⟩ .f32) (m : FVec Ideal ⟨2, ![n, 128]⟩ .f32) (r : Fin n) (l : Fin 128) :
    maxV (F := Ideal) h s m (ix2 r l) = max (m (ix2 r l)) (Finset.univ.fold max ⊥ fun j : Fin 512 => s (ix2 r j)) := by
  pointwise [maxV]
  rw [negInf]
  refine congrArg (fun f => max (m (ix2 r l)) (Finset.fold max ⊥ f Finset.univ)) (funext fun x => ?_)
  exact congrArg (fun i : Fin n => s (ix2 i x)) ((congrArg (fun i => (Shape.reshapeEquiv _ (ix2 i 0)) 0) (dif_neg hn)).trans
    (congrFun (reshape_col _ r) 0))

theorem weightV_apply (hn : n ≠ 1) (s : FVec Ideal ⟨2, ![n, 512]⟩ .f32) (m : FVec Ideal ⟨2, ![n, 128]⟩ .f32) (r : Fin n) (j : Fin 512) :
    weightV (F := Ideal) h s m (ix2 r j) = Ideal.exp2 (s (ix2 r j) - maxV (F := Ideal) h s m (ix2 r ⟨j.val % 128, Nat.mod_lt _ (by decide)⟩)) := by
  pointwise [weightV]
  have e : ∀ (j' : Fin 512) (l l' : Fin 128), j' = j → l = l' →
      FloatOps.exp2 (s (ix2 r j') - maxV (F := Ideal) h s m (ix2 r l)) = Ideal.exp2 (s (ix2 r j) - maxV (F := Ideal) h s m (ix2 r l')) := by
    rintro _ _ _ rfl rfl; rfl
  have := j.isLt
  split_ifs <;> exact e _ _ _ (Fin.ext (by first | rfl | (simp only; omega))) (Fin.ext (by simp only; omega))

theorem vextV_apply (v : Vec Ideal S1x512x128 .bf16) (j : Fin 512) (l : Fin 256) :
    vextV (F := Ideal) v (ix2 j l) = if hl : l.val < 128 then v (ix3 0 j ⟨l.val, hl⟩) else 1 := by
  pointwise [vextV]

theorem accV_apply (hn : n ≠ 1) (s : FVec Ideal ⟨2, ![n, 512]⟩ .f32) (m : FVec Ideal ⟨2, ![n, 128]⟩ .f32) (v : Vec Ideal S1x512x128 .bf16)
   (a : FVec Ideal ⟨2, ![n, 256]⟩ .f32) (r : Fin n) (l : Fin 256) :
    accV (F := Ideal) h s m v a (ix2 r l) = a (ix2 r l) * Ideal.exp2 (m (ix2 r ⟨l.val % 128, Nat.mod_lt _ (by decide)⟩) - maxV (F := Ideal) h s m (ix2 r ⟨l.val % 128, Nat.mod_lt _ (by decide)⟩))
       + ∑ j : Fin 512, weightV (F := Ideal) h s m (ix2 r j) * vextV (F := Ideal) v (ix2 j l) := by
  pointwise [accV]
  have e : ∀ l l' : Fin 128, l = l' → FloatOps.exp2 (m (ix2 r l) - maxV (F := Ideal) h s m (ix2 r l))
      = Ideal.exp2 (m (ix2 r l') - maxV (F := Ideal) h s m (ix2 r l')) := by rintro _ _ rfl; rfl
  have := l.isLt
  refine congrArg (fun x => a (ix2 r l) * x + _) ?_
  split_ifs <;> exact e _ _ (Fin.ext (by simp only; omega))

end Cert.KernelIdeal.Flash

end
-- ==== Proof.Online.lean ====
/- A row of the softmax taken block by block. Over the extended reals, with logits below plus infinity of which the first
   is real: the maximum of the entries seen so far, and the sum of the weights relative to it, move from one block to the
   next by the factor of the two maxima. -/
module

public import Idealize.ShloMosaic.Lib.Pointwise

@[expose] public section

noncomputable section

namespace Cert.KernelIdeal.Flash

open Idealize.ShloMosaic

/-- The maximum of the first `n` logits. -/
def rowMax (L : ℕ → EReal) (n : ℕ) : EReal := (Finset.range n).sup L

/-- The first `n` values, each by its weight relative to that maximum. -/
def rowSum (L w : ℕ → EReal) (n : ℕ) : EReal := ∑ j ∈ Finset.range n, Ideal.exp2 (L j - rowMax L n) * w j

theorem exp2_real (x : ℝ) : Ideal.exp2 (x : EReal) = ((2 : ℝ) ^ x : ℝ) := rfl

/-- A nonnegative real distributes over any sum. -/
theorem mul_sum_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A value strictly between the infinities is a real. -/
theorem real_of_ne {x : EReal} (h : x ≠ ⊤) (h' : x ≠ ⊥) : ∃ r : ℝ, x = r := ⟨x.toReal, (EReal.coe_toReal h h').symm⟩

variable {L : ℕ → EReal} (hT : ∀ j, L j ≠ ⊤) (h0 : L 0 ≠ ⊥)

theorem rowMax_zero (L : ℕ → EReal) : rowMax L 0 = ⊥ := rfl
theorem rowSum_zero (L w : ℕ → EReal) : rowSum L w 0 = 0 := rfl

include hT h0 in
/-- The maximum of some entries, the first among them, is a real. -/
theorem rowMax_real {n : ℕ} (hn : 0 < n) : ∃ r : ℝ, rowMax L n = r := by
  refine real_of_ne (ne_of_lt ?_) fun h => h0 ?_
  · exact (Finset.sup_lt_iff bot_lt_top).mpr fun j _ => lt_top_iff_ne_top.mpr (hT j)
  · exact le_bot_iff.mp (h ▸ Finset.le_sup (f := L) (Finset.mem_range.mpr hn))

/-- The maximum after one more block. -/
theorem rowMax_add (n b : ℕ) :
    rowMax L (n + b) = max (rowMax L n) (Finset.univ.fold max ⊥ fun j : Fin b => L (n + j)) := by
  refine le_antisymm (Finset.sup_le fun j hj => ?_) (max_le ?_ ?_)
  · by_cases h : j < n
    · exact le_max_of_le_left (Finset.le_sup (Finset.mem_range.mpr h))
    · refine le_max_of_le_right (Finset.le_fold_max _ |>.mpr (Or.inr ⟨⟨j - n, ?_⟩, Finset.mem_univ _, ?_⟩))
      · have := Finset.mem_range.mp hj; omega
      · simp only [Nat.add_sub_cancel' (not_lt.mp h), le_refl]
  · exact Finset.sup_mono (Finset.range_mono (Nat.le_add_right n b))
  · refine (Finset.fold_max_le _).mpr ⟨bot_le, fun j _ => Finset.le_sup (Finset.mem_range.mpr (by have := j.isLt; omega))⟩

include hT h0 in
/-- The weighted sum after one more block. -/
theorem rowSum_add (w : ℕ → EReal) (n b : ℕ) :
    rowSum L w (n + b) = rowSum L w n * Ideal.exp2 (rowMax L n - rowMax L (n + b))
      + ∑ j : Fin b, Ideal.exp2 (L (n + j) - rowMax L (n + b)) * w (n + j) := by
  unfold rowSum
  rw [Finset.sum_range_add, Finset.sum_range (n := b)]
  refine congrArg (· + _) ?_
  rcases Nat.eq_zero_or_pos n with rfl | hn
  · simp
  obtain ⟨a, ha⟩ := rowMax_real hT h0 hn
  obtain ⟨c, hc⟩ := rowMax_real hT h0 (Nat.add_pos_left hn b)
  rw [ha, hc, ← EReal.coe_sub, exp2_real, mul_sum_real _ _ (Real.rpow_nonneg (by norm_num) _)]
  refine Finset.sum_congr rfl fun j _ => ?_
  rw [mul_assoc, mul_comm (w j), ← mul_assoc]
  refine congrArg (· * w j) ?_
  by_cases hb : L j = ⊥
  · simp [hb]
  obtain ⟨x, hx⟩ := real_of_ne (hT j) hb
  rw [hx, ← EReal.coe_sub, ← EReal.coe_sub, exp2_real, exp2_real, ← EReal.coe_mul, ← Real.rpow_add (by norm_num)]
  congr 2
  ring

/-- Entries at minus infinity change nothing. -/
theorem rowMax_of_bot {n N : ℕ} (hnN : n ≤ N) (hb : ∀ j, n ≤ j → L j = ⊥) : rowMax L N = rowMax L n := by
  refine le_antisymm (Finset.sup_le fun j _ => ?_) (Finset.sup_mono (Finset.range_mono hnN))
  by_cases h : j < n
  · exact Finset.le_sup (Finset.mem_range.mpr h)
  · rw [hb j (not_lt.mp h)]; exact bot_le

theorem rowSum_of_bot (w : ℕ → EReal) {n N : ℕ} (hnN : n ≤ N) (hb : ∀ j, n ≤ j → L j = ⊥) : rowSum L w N = rowSum L w n := by
  unfold rowSum
  rw [rowMax_of_bot hnN hb]
  refine (Finset.sum_subset (Finset.range_mono hnN) fun j _ hj => ?_).symm
  rw [hb j (not_lt.mp fun h => hj (Finset.mem_range.mpr h))]
  simp

include hT h0 in
/-- The sum of the weights is a positive real. -/
theorem rowSum_one {n : ℕ} (hn : 0 < n) : ∃ r : ℝ, 0 < r ∧ rowSum L (fun _ => 1) n = r := by
  obtain ⟨a, ha⟩ := rowMax_real hT h0 hn
  have hx : ∀ j, ∃ r : ℝ, 0 ≤ r ∧ Ideal.exp2 (L j - rowMax L n) * 1 = r := fun j => by
    by_cases hb : L j = ⊥
    · exact ⟨0, le_rfl, by simp [hb]⟩
    obtain ⟨x, hx⟩ := real_of_ne (hT j) hb
    exact ⟨(2 : ℝ) ^ (x - a), Real.rpow_nonneg (by norm_num) _, by rw [hx, ha, ← EReal.coe_sub, exp2_real, mul_one]⟩
  choose f hf0 hf using hx
  refine ⟨∑ j ∈ Finset.range n, f j, ?_, ?_⟩
  · refine lt_of_lt_of_le ?_ (Finset.single_le_sum (fun j _ => hf0 j) (Finset.mem_range.mpr hn))
    obtain ⟨x, hx⟩ := real_of_ne (hT 0) h0
    have e := hf 0
    rw [hx, ha, ← EReal.coe_sub, exp2_real, mul_one] at e
    rw [← EReal.coe_eq_coe_iff.mp e]
    exact Real.rpow_pos_of_pos (by norm_num) _
  · unfold rowSum
    rw [Finset.sum_congr rfl fun j _ => hf j]
    exact (map_sum (⟨⟨Real.toEReal, rfl⟩, EReal.coe_add⟩ : ℝ →+ EReal) f _).symm

include hT h0 in
/-- The quotient of the sums is the sum of the quotients. -/
theorem rowSum_div (w : ℕ → EReal) {n : ℕ} (hn : 0 < n) :
    Ideal.div (rowSum L w n) (rowSum L (fun _ => 1) n)
      = ∑ j ∈ Finset.range n, Ideal.div (Ideal.exp2 (L j - rowMax L n)) (rowSum L (fun _ => 1) n) * w j := by
  obtain ⟨r, hr, e⟩ := rowSum_one hT h0 hn
  have hr0 : (r : EReal) ≠ 0 := by exact_mod_cast hr.ne'
  rw [e]
  unfold Ideal.div
  simp only [if_neg hr0]
  rw [← EReal.coe_inv]
  unfold rowSum
  rw [mul_sum_real _ _ (inv_nonneg.mpr hr.le)]
  exact Finset.sum_congr rfl fun j _ => by rw [mul_assoc, mul_assoc, mul_comm (w j)]

end Cert.KernelIdeal.Flash

end
-- ==== Proof.State.lean ====
/- What the body leaves over the extended reals: after each step, the rows of a tile hold the running maximum and the two
   weighted sums over the keys seen so far; a tile's output is their quotient over all the keys. -/
module

public import proofs.«01_k».proof.Proof.Exec
public import proofs.«01_k».proof.Proof.Reads
public import proofs.«01_k».proof.Proof.Online

@[expose] public section

noncomputable section

namespace Cert.KernelIdeal.Flash

open Cert.KernelIdeal Cert.KernelIdeal.Gen Idealize.ShloMosaic Idealize.ShloMosaic.TcCoe

section Windows

variable {α : Type}

/-- A put of whole rows, read at an index. -/
theorem put_rows {d n w r0 : ℕ} (x : (⟨2, ![d, w]⟩ : Shape).Idx → α) (v : (⟨2, ![n, w]⟩ : Shape).Idx → α) (r : Fin d) (l : Fin w) :
    VecWindow.put x ![r0, 0] (⟨2, ![n, w]⟩ : Shape).size v (ix2 r l)
      = if h : r0 ≤ r.val ∧ r.val < r0 + n then v (ix2 ⟨r.val - r0, by omega⟩ l) else x (ix2 r l) := by
  unfold VecWindow.put
  by_cases h : r0 ≤ r.val ∧ r.val < r0 + n
  · rw [dif_pos h, dif_pos (by intro a; fin_cases a; exacts [h, ⟨Nat.zero_le _, by simpa using l.isLt⟩])]
    refine congrArg v ?_
    funext a
    fin_cases a <;> rfl
  · rw [dif_neg h, dif_neg (fun h' => h (h' 0))]

/-- A read of whole rows, read at an index. -/
theorem ld_rows {e : EltTy} {d n w r0 : ℕ} (x : Vec Ideal ⟨2, ![d, w]⟩ e)
    (inb : ∀ a, (![r0, 0] : Fin 2 → ℕ) a + (⟨2, ![n, w]⟩ : Shape).size a ≤ (⟨2, ![d, w]⟩ : Shape).size a)
    (r : Fin n) (l : Fin w) (hr : r0 + r.val < d) :
    View.ld (Val := Elt Ideal) x (Rect.unit (s := ⟨2, ![d, w]⟩) ![r0, 0] (⟨2, ![n, w]⟩ : Shape).size inb) (ix2 r l) = x (ix2 ⟨r0 + r.val, hr⟩ l) := by
  refine congrArg x ?_
  funext a
  fin_cases a
  · exact Fin.ext (by show r0 + 1 * r.val = r0 + r.val; omega)
  · exact Fin.ext (by show 0 + 1 * l.val = l.val; omega)

/-- A read of whole rows of a block with a first axis of one. -/
theorem ld_rows3 {e : EltTy} {d n w r0 : ℕ} (x : Vec Ideal ⟨3, ![1, d, w]⟩ e)
    (inb : ∀ a, (![0, r0, 0] : Fin 3 → ℕ) a + (⟨3, ![1, n, w]⟩ : Shape).size a ≤ (⟨3, ![1, d, w]⟩ : Shape).size a)
    (r : Fin n) (l : Fin w) (hr : r0 + r.val < d) :
    View.ld (Val := Elt Ideal) x (Rect.unit (s := ⟨3, ![1, d, w]⟩) ![0, r0, 0] (⟨3, ![1, n, w]⟩ : Shape).size inb) (ix3 0 r l)
      = x (ix3 0 ⟨r0 + r.val, hr⟩ l) := by
  refine congrArg x ?_
  funext a
  fin_cases a
  · rfl
  · exact Fin.ext (by show r0 + 1 * r.val = r0 + r.val; omega)
  · exact Fin.ext (by show 0 + 1 * l.val = l.val; omega)

/-- A put of whole rows into such a block. -/
theorem put_rows3 {d n w r0 : ℕ} (x : (⟨3, ![1, d, w]⟩ : Shape).Idx → α) (v : (⟨3, ![1, n, w]⟩ : Shape).Idx → α) (r : Fin d) (l : Fin w) :
    VecWindow.put x ![0, r0, 0] (⟨3, ![1, n, w]⟩ : Shape).size v (ix3 0 r l)
      = if h : r0 ≤ r.val ∧ r.val < r0 + n then v (ix3 0 ⟨r.val - r0, by omega⟩ l) else x (ix3 0 r l) := by
  unfold VecWindow.put
  by_cases h : r0 ≤ r.val ∧ r.val < r0 + n
  · rw [dif_pos h, dif_pos (by intro a; fin_cases a; exacts [⟨Nat.zero_le _, Nat.one_pos⟩, h, ⟨Nat.zero_le _, by simpa using l.isLt⟩])]
    refine congrArg v ?_
    funext a
    fin_cases a <;> rfl
  · rw [dif_neg h, dif_neg (fun h' => h (h' 1))]

end Windows

variable (x0 x1 : Vec Ideal S1x8192x256 .bf16) (x2 : Vec Ideal S1x8192x128 .bf16)

/-- The score of a query row and a key row. -/
def score (i j : Fin 8192) : EReal := ∑ d : Fin 256, x0 (ix3 0 i d) * x1 (ix3 0 j d)

/-- The masked logits of a query row, minus infinity beyond the row. -/
def logit (i : Fin 8192) (j : ℕ) : EReal := if h : j ≤ i.val then score x0 x1 i ⟨j, by omega⟩ else ⊥

/-- The columns that the weights multiply: the values', then ones. -/
def column (l : Fin 256) (j : ℕ) : EReal :=
  if hl : l.val < 128 then (if hj : j < 8192 then x2 (ix3 0 ⟨j, hj⟩ ⟨l.val, hl⟩) else 0) else 1

theorem scoresAt_apply {n : ℕ} (h : Rows n) {q k : ℕ} (hq : q + n ≤ 8192) (hk : k + 512 ≤ 8192) (r : Fin n) (j : Fin 512) :
    scoresAt x0 x1 h q k hq hk (ix2 r j) = score x0 x1 ⟨q + r.val, by omega⟩ ⟨k + j.val, by omega⟩ := by
  unfold scoresAt
  rw [scoreV_apply]
  refine Finset.sum_congr rfl fun d _ => ?_
  rw [ld_rows3 x0 _ r d (by omega), ld_rows3 x1 _ j d (by omega)]

theorem getBuf_putBuf (buf : Vec Ideal S2048x512 .f32) (s : FVec Ideal S2048x512 .f32) (r : Fin 2048) (j : Fin 512) :
    getBuf (putBuf buf s) (ix2 r j) = s (ix2 r j) := by
  unfold getBuf putBuf
  rw [ld_rows _ _ r j (by omega), put_rows, dif_pos (by simp only; omega), shapeCast_id]
  refine congrArg (fun i => s (ix2 i j)) (Fin.ext ?_)
  simp only
  omega

variable {x0 x1} in
theorem logit_of_le {i : Fin 8192} {j : ℕ} (h : j ≤ i.val) : logit x0 x1 i j = score x0 x1 i ⟨j, by omega⟩ := dif_pos h

/-- The quotient of the weighted sums over all the keys. -/
def attend (i : Fin 8192) (l : Fin 128) : EReal :=
  Ideal.div (rowSum (logit x0 x1 i) (column x2 ⟨l.val, by omega⟩) 8192) (rowSum (logit x0 x1 i) (fun _ => 1) 8192)

theorem pay2_apply (a : Vec Ideal S2048x256 .f32) (r : Fin 2048) (l : Fin 128) :
    k0_pay2 a (ix3 0 r l) = Ideal.div (a (ix2 r ⟨l.val, by omega⟩)) (a (ix2 r ⟨128 + l.val, by omega⟩)) := by
  pointwise [k0_pay2]

/-- The rows of the tile at `q` have seen `N r` keys. -/
def Seen (q : ℕ) (hq : q + 2048 ≤ 8192) (N : ℕ → ℕ) (σ : St Ideal) : Prop :=
  ∀ r : Fin 2048, (∀ l, σ.m (ix2 r l) = rowMax (logit x0 x1 ⟨q + r.val, by omega⟩) (N r))
    ∧ ∀ l, σ.a (ix2 r l) = rowSum (logit x0 x1 ⟨q + r.val, by omega⟩) (column x2 l) (N r)

/-- The logits are below plus infinity and their first is real. -/
structure Tame : Prop where
  top : ∀ i j, logit x0 x1 i j ≠ ⊤
  bot : ∀ i, logit x0 x1 i 0 ≠ ⊥

variable {x0 x1 x2} {q : ℕ} {hq : q + 2048 ≤ 8192} {N N' : ℕ → ℕ} {σ : St Ideal}

theorem seen_init : Seen x0 x1 x2 q hq (fun _ => 0) (initSt σ) := by
  intro r
  refine ⟨fun l => ?_, fun l => ?_⟩
  · show VecWindow.put σ.m ![0, 0] (⟨2, ![2048, 128]⟩ : Shape).size (k0_pay38 (F := Ideal)) (ix2 r l) = _
    rw [put_rows, dif_pos (by omega)]
    pointwise [k0_pay38]
    rw [negInf, rowMax_zero]
  · show VecWindow.put σ.a ![0, 0] (⟨2, ![2048, 256]⟩ : Shape).size (k0_pay39 (F := Ideal)) (ix2 r l) = _
    rw [put_rows, dif_pos (by omega)]
    pointwise [k0_pay39]
    rw [rowSum_zero]

/-- An update of the `n` rows from `r0` on by the block of keys at `k`. -/
theorem seen_upd (ht : Tame x0 x1) {n : ℕ} {h : Rows n} {r0 k : ℕ} {hr : r0 + n ≤ 2048} {hk : k + 512 ≤ 8192}
    {s : FVec Ideal ⟨2, ![n, 512]⟩ .f32} (hn : n ≠ 1) (hσ : Seen x0 x1 x2 q hq N σ)
    (hs : ∀ (r : Fin n) (j : Fin 512), s (ix2 r j) = logit x0 x1 ⟨q + (r0 + r.val), by omega⟩ (k + j.val))
    (hN : ∀ r, r0 ≤ r → r < r0 + n → N r = k ∧ N' r = k + 512) (hN' : ∀ r, r < 2048 → ¬ (r0 ≤ r ∧ r < r0 + n) → N' r = N r) :
    Seen x0 x1 x2 q hq N' (updSt x2 h r0 k hr hk s σ) := by
  intro r
  by_cases hin : r0 ≤ r.val ∧ r.val < r0 + n
  swap
  · rw [hN' r r.isLt hin]
    refine ⟨fun l => ?_, fun l => ?_⟩
    · show VecWindow.put σ.m ![r0, 0] (⟨2, ![n, 128]⟩ : Shape).size _ (ix2 r l) = _
      rw [put_rows, dif_neg hin]; exact (hσ r).1 l
    · show VecWindow.put σ.a ![r0, 0] (⟨2, ![n, 256]⟩ : Shape).size _ (ix2 r l) = _
      rw [put_rows, dif_neg hin]; exact (hσ r).2 l
  obtain ⟨e, e'⟩ := hN r hin.1 hin.2
  have hrow : r0 + (r.val - r0) = r.val := by omega
  set r' : Fin n := ⟨r.val - r0, by omega⟩ with hr'
  have hlog : ∀ j : Fin 512, s (ix2 r' j) = logit x0 x1 ⟨q + r.val, by omega⟩ (k + j.val) := fun j => by
    rw [hs]; congr 2; simp only [hr']; omega
  have hm : ∀ l, View.ld (Val := Elt Ideal) σ.m (Rect.unit (s := S2048x128) ![r0, 0] (⟨2, ![n, 128]⟩ : Shape).size (inbM hr)) (ix2 r' l)
      = rowMax (logit x0 x1 ⟨q + r.val, by omega⟩) k := fun l => by
    rw [ld_rows σ.m _ r' l (by omega)]
    rw [← e, ← (hσ r).1 l]
    exact congrArg (fun i => σ.m (ix2 i l)) (Fin.ext hrow)
  have hmax : ∀ l, maxV (F := Ideal) h s (View.ld (Val := Elt Ideal) σ.m (Rect.unit (s := S2048x128) ![r0, 0] (⟨2, ![n, 128]⟩ : Shape).size (inbM hr))) (ix2 r' l)
      = rowMax (logit x0 x1 ⟨q + r.val, by omega⟩) (k + 512) := fun l => by
    rw [maxV_apply h hn, hm, rowMax_add]
    simp only [hlog]
  rw [e']
  refine ⟨fun l => ?_, fun l => ?_⟩
  · show VecWindow.put σ.m ![r0, 0] (⟨2, ![n, 128]⟩ : Shape).size _ (ix2 r l) = _
    rw [put_rows, dif_pos hin, shapeCast_id]
    exact hmax l
  · show VecWindow.put σ.a ![r0, 0] (⟨2, ![n, 256]⟩ : Shape).size _ (ix2 r l) = _
    rw [put_rows, dif_pos hin, shapeCast_id]
    show accV (F := Ideal) h s _ _ _ (ix2 r' l) = _
    rw [accV_apply h hn, rowSum_add (ht.top _) (ht.bot _), hmax, hm, ld_rows σ.a _ r' l (by omega)]
    congr 1
    · rw [← e, ← (hσ r).2 l]
      exact congrArg (fun i => σ.a (ix2 i l) * _) (Fin.ext hrow)
    · refine Finset.sum_congr rfl fun j _ => ?_
      rw [weightV_apply h hn, hmax, hlog, vextV_apply]
      congr 1
      unfold column
      by_cases hl : l.val < 128
      · rw [dif_pos hl, dif_pos hl, dif_pos (show k + j.val < 8192 by omega), ld_rows3 x2 _ j _ (by omega)]
      · rw [dif_neg hl, dif_neg hl]

theorem seen_congr (h : ∀ r, r < 2048 → N r = N' r) (hσ : Seen x0 x1 x2 q hq N σ) : Seen x0 x1 x2 q hq N' σ := fun r => by
  rw [← h r r.isLt]; exact hσ r

variable (x0 x1 q hq) in
/-- A buffer holds the scores of the tile's rows against the keys from `k` on. -/
def Holds (k : ℕ) (hk : k + 512 ≤ 8192) (buf : Vec Ideal S2048x512 .f32) : Prop :=
  ∀ (r : Fin 2048) (j : Fin 512), getBuf buf (ix2 r j) = score x0 x1 ⟨q + r.val, by omega⟩ ⟨k + j.val, by omega⟩

theorem holds_put {k : ℕ} {hk : k + 512 ≤ 8192} (buf : Vec Ideal S2048x512 .f32) :
    Holds x0 x1 q hq k hk (putBuf buf (scoresAt x0 x1 rows2048 q k hq hk)) := fun r j => by
  rw [getBuf_putBuf, scoresAt_apply]

/-- The update of all the tile's rows by keys before the tile. -/
theorem seen_full (ht : Tame x0 x1) {k : ℕ} {hk : k + 512 ≤ 8192} (hkq : k + 512 ≤ q) {buf : Vec Ideal S2048x512 .f32}
    (hs : Holds x0 x1 q hq k hk buf) (hσ : Seen x0 x1 x2 q hq (fun _ => k) σ) :
    Seen x0 x1 x2 q hq (fun _ => k + 512) (updSt x2 rows2048 0 k (by decide) hk (getBuf buf) σ) :=
  seen_upd ht (N := fun _ => k) (by decide) hσ
    (fun r j => (hs r j).trans (by rw [logit_of_le (by simp only; omega)]; simp only [Nat.zero_add]))
    (fun r _ _ => ⟨rfl, rfl⟩) (fun r _ h => absurd h (by omega))

/-- A state's accumulators are all that `Seen` looks at. -/
theorem Seen.of_eq {σ' : St Ideal} (hσ : Seen x0 x1 x2 q hq N σ) (hm : σ'.m = σ.m) (ha : σ'.a = σ.a) : Seen x0 x1 x2 q hq N σ' := by
  unfold Seen; rw [hm, ha]; exact hσ

theorem seen_step9 (ht : Tame x0 x1) {k k' : ℕ} {hk : k + 512 ≤ 8192} {hk' : k' + 512 ≤ 8192} (hkq : k + 512 ≤ q)
    (hs : Holds x0 x1 q hq k hk σ.s8) (hσ : Seen x0 x1 x2 q hq (fun _ => k) σ) :
    Seen x0 x1 x2 q hq (fun _ => k + 512) (step9 x0 x1 x2 q hq k k' hk hk' σ)
      ∧ Holds x0 x1 q hq k' hk' (step9 x0 x1 x2 q hq k k' hk hk' σ).s9 :=
  ⟨seen_full ht hkq hs (hσ.of_eq rfl rfl), holds_put σ.s9⟩

theorem seen_step8 (ht : Tame x0 x1) {k k' : ℕ} {hk : k + 512 ≤ 8192} {hk' : k' + 512 ≤ 8192} (hkq : k + 512 ≤ q)
    (hs : Holds x0 x1 q hq k hk σ.s9) (hσ : Seen x0 x1 x2 q hq (fun _ => k) σ) :
    Seen x0 x1 x2 q hq (fun _ => k + 512) (step8 x0 x1 x2 q hq k k' hk hk' σ)
      ∧ Holds x0 x1 q hq k' hk' (step8 x0 x1 x2 q hq k k' hk hk' σ).s8 :=
  ⟨seen_full ht hkq hs (hσ.of_eq rfl rfl), holds_put σ.s8⟩

/-- After `u` pairs the rows have seen `1024 u` keys, and the first buffer holds the scores of the next block. -/
theorem seen_pairs (ht : Tame x0 x1) : ∀ {u : ℕ} {hu : 1024 * u ≤ q} {σ : St Ideal}, Seen x0 x1 x2 q hq (fun _ => 0) σ →
    Holds x0 x1 q hq 0 (by omega) σ.s8 →
    Seen x0 x1 x2 q hq (fun _ => 1024 * u) (pairsSt x0 x1 x2 q hq u hu σ)
      ∧ Holds x0 x1 q hq (1024 * u) (by omega) (pairsSt x0 x1 x2 q hq u hu σ).s8
  | 0, _, _, hσ, hs => ⟨hσ, hs⟩
  | u + 1, hu, σ, hσ, hs => by
    obtain ⟨ih, ih'⟩ := seen_pairs ht (u := u) (hu := by omega) hσ hs
    obtain ⟨h1, h2⟩ := seen_step9 (k' := 1024 * u + 512) (hk' := by omega) ht (by omega) ih' ih
    exact seen_step8 (k' := 1024 * u + 1024) (hk' := by omega) ht (by omega) h2 h1

/-- A block on the diagonal, masked. -/
theorem masked {n : ℕ} (h : Rows n) (hn : n ≤ 2048) {r0 : ℕ} (hr : q + r0 + n ≤ 8192) {s : FVec Ideal ⟨2, ![n, 512]⟩ .f32}
    (hk : q + r0 + 512 ≤ 8192)
    (hs : ∀ (r : Fin n) (j : Fin 512), s (ix2 r j) = score x0 x1 ⟨q + r0 + r.val, by omega⟩ ⟨q + r0 + j.val, by omega⟩)
    (r : Fin n) (j : Fin 512) :
    maskV h s (ix2 r j) = logit x0 x1 ⟨q + (r0 + r.val), by omega⟩ (q + r0 + j.val) := by
  rw [maskV_apply h hn]
  by_cases hj : j.val ≤ r.val
  · rw [if_pos hj, logit_of_le (by simp only; omega), hs]
    exact congrArg (fun i => score x0 x1 i _) (Fin.ext (by simp only; omega))
  · rw [if_neg hj]
    unfold logit
    rw [dif_neg (by simp only; omega)]

/-- After the diagonal steps a row has seen its own block of keys and all before. -/
theorem seen_diag (ht : Tame x0 x1) (hσ : Seen x0 x1 x2 q hq (fun _ => q) σ)
    (hs : Holds x0 x1 q hq q (by omega) σ.s8) :
    Seen x0 x1 x2 q hq (fun r => q + 512 * (r / 512 + 1)) (diagSt x0 x1 x2 q hq σ) := by
  unfold diagSt
  refine seen_upd ht (N := fun r => q + 512 * (min (r / 512) 2 + 1)) (by decide) ?_
    (fun r j => masked rows512 (by decide) (r0 := 1536) (by omega) (by omega) (fun r j => scoresAt_apply x0 x1 _ _ _ r j) r j)
    (fun r _ _ => ⟨by omega, by omega⟩) (fun r _ _ => by omega)
  refine seen_upd ht (N := fun r => q + 512 * (min (r / 512) 1 + 1)) (by decide) ?_
    (fun r j => masked rows1024 (by decide) (r0 := 1024) (by omega) (by omega) (fun r j => scoresAt_apply x0 x1 _ _ _ r j) r j)
    (fun r _ _ => ⟨by omega, by omega⟩) (fun r _ _ => by omega)
  refine seen_upd ht (N := fun r => q + 512) (by decide) ?_
    (fun r j => masked rows1536 (by decide) (r0 := 512) (by omega) (by omega) (fun r j => scoresAt_apply x0 x1 _ _ _ r j) r j)
    (fun r _ _ => ⟨rfl, by omega⟩) (fun r _ _ => by omega)
  refine seen_upd ht (N := fun r => q) (by decide) hσ
    (fun r j => masked rows2048 (by decide) (r0 := 0) (by omega) (by omega) (fun r j => hs r j) r j)
    (fun r _ _ => ⟨rfl, rfl⟩) (fun r _ h => absurd h (by omega))

theorem pairs_o : ∀ {u : ℕ} {hu : 1024 * u ≤ q} {σ : St Ideal}, (pairsSt x0 x1 x2 q hq u hu σ).o = σ.o
  | 0, _, _ => rfl
  | u + 1, hu, σ => (pairs_o (u := u) (hu := by omega) : (pairsSt x0 x1 x2 q hq u _ σ).o = σ.o)

theorem diag_o : (diagSt x0 x1 x2 q hq σ).o = σ.o := rfl

/-- The output of a tile all of whose keys are seen. -/
theorem out_seen (hσ : Seen x0 x1 x2 q hq (fun r => q + 512 * (r / 512 + 1)) σ) (i : Fin 8192) (l : Fin 128) :
    (outSt q σ).o (ix3 0 i l)
      = if q ≤ i.val ∧ i.val < q + 2048 then attend x0 x1 x2 i l else σ.o (ix3 0 i l) := by
  refine (put_rows3 (n := 2048) (w := 128) σ.o (k0_pay2 (View.ld (Val := Elt Ideal) σ.a
    (Rect.unit (s := S2048x256) ![0, 0] S2048x256.size inb_S2048x256_S2048x256_0_0))) i l).trans ?_
  by_cases h : q ≤ i.val ∧ i.val < q + 2048
  swap
  · rw [dif_neg h, if_neg h]
  rw [dif_pos h, if_pos h, pay2_apply]
  have hrow : q + (i.val - q) = i.val := by omega
  have key : ∀ l, View.ld (Val := Elt Ideal) σ.a (Rect.unit (s := S2048x256) ![0, 0] S2048x256.size inb_S2048x256_S2048x256_0_0)
      (ix2 ⟨i.val - q, by omega⟩ l) = rowSum (logit x0 x1 i) (column x2 l) 8192 := fun l => by
    rw [ld_rows σ.a _ _ l (by simp only; omega)]
    have e := (hσ ⟨i.val - q, by omega⟩).2 l
    have ei : (⟨q + (i.val - q), by omega⟩ : Fin 8192) = i := Fin.ext hrow
    simp only [Nat.zero_add] at e ⊢
    rw [e, ei]
    exact (rowSum_of_bot _ (by omega) fun j hj => dif_neg (by omega)).symm
  rw [key, key]
  unfold attend
  congr 2
  funext j
  exact dif_neg (by simp only; omega)

/-- A tile's output rows are the attention's. -/
theorem tile_out (ht : Tame x0 x1) {u : ℕ} {hu : 1024 * u ≤ q} (e : 1024 * u = q) (i : Fin 8192) (l : Fin 128) :
    (tileSt x0 x1 x2 q hq u hu σ).o (ix3 0 i l)
      = if q ≤ i.val ∧ i.val < q + 2048 then attend x0 x1 x2 i l else σ.o (ix3 0 i l) := by
  subst e
  obtain ⟨h1, h2⟩ := seen_pairs (x2 := x2) (hq := hq) ht (u := u) (hu := hu)
    (σ := put8 (scoresAt x0 x1 rows2048 (1024 * u) 0 hq (by decide)) (initSt σ)) (seen_init.of_eq rfl rfl) (holds_put _)
  refine (out_seen (seen_diag ht h1 h2) i l).trans ?_
  rw [diag_o, pairs_o]
  rfl

/-- The body's output is the attention. -/
theorem body_out (ht : Tame x0 x1) (i : Fin 8192) (l : Fin 128) :
    (bodySt x0 x1 x2 σ).o (ix3 0 i l) = attend x0 x1 x2 i l := by
  unfold bodySt
  have := i.isLt
  rw [tile_out (q := 6144) (u := 6) ht rfl, tile_out (q := 4096) (u := 4) ht rfl, tile_out (q := 2048) (u := 2) ht rfl,
    tile_out (q := 0) (u := 0) ht rfl]
  split_ifs <;> first | (exfalso; omega) | rfl

end Cert.KernelIdeal.Flash

end
-- ==== Proof.ProgramEq.lean ====
module

public import proofs.«01_k».proof.Proof.Program
public import Idealize.ShloMosaic.Lib.Tactic

@[expose] public section

set_option maxRecDepth 65536

noncomputable section

namespace Cert.KernelIdeal.Flash

open Cert.KernelIdeal Cert.KernelIdeal.Gen Idealize.ShloMosaic Idealize.ShloMosaic.TcCoe Idealize.SL.Sem Idealize.ShloMosaic.Tactic

variable {F : FTy → Type} [FloatOps F]

variable (i : grid0.Coords)  (arg2 : Memref sig .tc .vmem S1x8192x256 .bf16) (harg2 : arg2.IsWhole) (arg3 : Memref sig .tc .vmem S1x8192x256 .bf16) (harg3 : arg3.IsWhole) (arg4 : Memref sig .tc .vmem S1x8192x128 .bf16) (harg4 : arg4.IsWhole) (arg5 : Memref sig .tc .vmem S1x8192x128 .f32) (harg5 : arg5.IsWhole) (arg6 : Memref sig .tc .vmem S2048x128 .f32) (harg6 : arg6.IsWhole) (arg7 : Memref sig .tc .vmem S2048x256 .f32) (harg7 : arg7.IsWhole) (arg8 : Memref sig .tc .vmem S2048x512 .f32) (harg8 : arg8.IsWhole) (arg9 : Memref sig .tc .vmem S2048x512 .f32) (harg9 : arg9.IsWhole)

/-- The printed body is the structured one. -/
theorem body_eq :
    cc0_mla_attn (F := F) i arg2 harg2 arg3 harg3 arg4 harg4 arg5 harg5 arg6 harg6 arg7 harg7 arg8 harg8 arg9 harg9
      = bodyP arg2 arg3 arg4 arg5 arg6 arg7 arg8 arg9
        (pairsP arg2 arg3 arg4 arg6 arg7 arg8 arg9 4096 (by decide) 4 (by decide))
        (pairsP arg2 arg3 arg4 arg6 arg7 arg8 arg9 6144 (by decide) 6 (by decide)) := by
  rw [cc0_mla_attn_eq_skeleton]
  unfold cc0_mla_attn_skel
  rw [k0_part38_eq_skeleton]
  unfold k0_part38_skel
  rw [k0_part28_eq_skeleton, k0_part33_eq_skeleton]
  unfold k0_part28_skel k0_part33_skel Scf.Loop.for
  simp only [Scf.for_eq]
  sl_kernel_rfl

end Cert.KernelIdeal.Flash

end
-- ==== Proof.ValueRun.lean ====
module

public import proofs.«01_k».proof.Proof.State
public import proofs.«01_k».proof.Proof.ProgramEq
public import proofs.«01_k».proof.Proof.Gen.KernelIdeal.Value

/-! The kernel's run with the attention as the block that a grid point writes back. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable (m : (ℓ : Loc nD τ sig) → Buf (Elt Ideal) ℓ) (ρ : Dev nD → PrngReg)

/-- The attention as the contents of an output block. -/
def attendBlock (x0 x1 : Vec Ideal S1x8192x256 .bf16) (x2 : Vec Ideal S1x8192x128 .bf16) : Vec Ideal S1x8192x128 .f32 :=
  fun y => attend x0 x1 x2 (y 1) (y 2)

theorem body_block {x0 x1 : Vec Ideal S1x8192x256 .bf16} {x2 : Vec Ideal S1x8192x128 .bf16} (ht : Tame x0 x1) (σ : St Ideal) :
    (bodySt x0 x1 x2 σ).o = attendBlock x0 x1 x2 := by
  funext y
  have e : y = ix3 0 (y 1) (y 2) := by
    funext a
    fin_cases a
    · exact Subsingleton.elim (α := Fin 1) _ _
    · rfl
    · rfl
  exact (congrArg (bodySt x0 x1 x2 σ).o e).trans (body_out ht (y 1) (y 2))

/-- The pipeline's proof data: every input's buffer keeps its block, the output's ends at the attention. -/
def attnDats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => attendBlock (iblk m c 0 t) (iblk m c 1 t) (iblk m c 2 t)
  Φ _ := Pipeline.ΦA spec0 c
  q _ := fullShare
  owed _ := 0

theorem attnDats_A (c : Dev nD) (w : Fin cfg0.W) : (attnDats m 0 c).A w = V m c (Pipeline.arrRef spec0 w) := by
  dsimp only [attnDats]

theorem ends0 (c : Dev nD) (t : Fin cfg0.N) : (attnDats m 0 c).after 0 t = iblk m c 0 t := by dsimp only [attnDats]
theorem ends1 (c : Dev nD) (t : Fin cfg0.N) : (attnDats m 0 c).after 1 t = iblk m c 1 t := by dsimp only [attnDats]
theorem ends2 (c : Dev nD) (t : Fin cfg0.N) : (attnDats m 0 c).after 2 t = iblk m c 2 t := by dsimp only [attnDats]
theorem ends3 (c : Dev nD) (t : Fin cfg0.N) :
    (attnDats m 0 c).after 3 t = attendBlock (iblk m c 0 t) (iblk m c 1 t) (iblk m c 2 t) := by dsimp only [attnDats]

theorem starts0 (c : Dev nD) (t : Fin cfg0.N) (d) : (attnDats m 0 c).before 0 t d = iblk m c 0 t :=
  before0_0_of m _ (attnDats_A m c 0) (ends0 m c) t d
theorem starts1 (c : Dev nD) (t : Fin cfg0.N) (d) : (attnDats m 0 c).before 1 t d = iblk m c 1 t :=
  before0_1_of m _ (attnDats_A m c 1) (ends1 m c) t d
theorem starts2 (c : Dev nD) (t : Fin cfg0.N) (d) : (attnDats m 0 c).before 2 t d = iblk m c 2 t :=
  before0_2_of m _ (attnDats_A m c 2) (ends2 m c) t d

/-- The buffers that a grid point's body is given. -/
def bufsAt (t : Fin cfg0.N) : Bufs := ⟨ms0_0 t, ms0_1 t, ms0_2 t, ms0_3 t, scM0_0, scM0_1, scM0_2, scM0_3⟩

/-- The body at a grid point, from any state and with any rest. -/
theorem point_runs (c : Dev nD) (t : Fin cfg0.N) {x0 x1 : Vec Ideal S1x8192x256 .bf16} {x2 : Vec Ideal S1x8192x128 .bf16}
    (ht : Tame x0 x1) (R : sProp (MM Ideal)) (K : PUnit.{1} → sProp (MM Ideal)) (σ : St Ideal)
    (hK : ∀ σ' : St Ideal, σ'.o = attendBlock x0 x1 x2 → iprop(held c (bufsAt t) x0 x1 x2 σ' ∗ R) ⊢ K ⟨⟩) :
    iprop(held c (bufsAt t) x0 x1 x2 σ ∗ R) ⊢ wp frame (wpE (defs₀ (F := Ideal)) Variants.none c none) Set.univ (bodyAt0 t) K := by
  have h : Leads c Set.univ (bufsAt t) x0 x1 x2 R K σ (bodyAt0 t) := by
    unfold bodyAt0
    rw [body_eq]
    refine run_body (b := bufsAt t) ?_
    unfold Leads
    rw [wp_pure]
    exact (hK _ (body_block ht σ)).trans fupd_intro
  exact h

/-- What a grid point's body is given, -/
def before (c : Dev nD) (t : Fin cfg0.N) : sProp (MM Ideal) :=
  iprop((attnDats m 0 c).Φ t.castSucc ∗ (attnDats m 0 c).owesAt () t.castSucc
    ∗ (∃ d, owns (c : Thread nD τ) (ms0_0 t) fullShare ((attnDats m 0 c).before 0 t d))
    ∗ (∃ d, owns (c : Thread nD τ) (ms0_1 t) fullShare ((attnDats m 0 c).before 1 t d))
    ∗ (∃ d, owns (c : Thread nD τ) (ms0_2 t) fullShare ((attnDats m 0 c).before 2 t d))
    ∗ (∃ d, owns (c : Thread nD τ) (ms0_3 t) fullShare ((attnDats m 0 c).before 3 t d)))

/-- and what it gives back. -/
def afterwards (c : Dev nD) (t : Fin cfg0.N) : sProp (MM Ideal) :=
  iprop((attnDats m 0 c).Φ t.succ ∗ (attnDats m 0 c).owesAt () t.succ
    ∗ owns (c : Thread nD τ) (ms0_0 t) fullShare ((attnDats m 0 c).after 0 t)
    ∗ owns (c : Thread nD τ) (ms0_1 t) fullShare ((attnDats m 0 c).after 1 t)
    ∗ owns (c : Thread nD τ) (ms0_2 t) fullShare ((attnDats m 0 c).after 2 t)
    ∗ owns (c : Thread nD τ) (ms0_3 t) fullShare ((attnDats m 0 c).after 3 t))

theorem point_sound (c : Dev nD) (t : Fin cfg0.N) (ht : Tame (iblk m c 0 t) (iblk m c 1 t)) :
    before m c t ⊢ wp frame (wpE (defs₀ (F := Ideal)) Variants.none c none) Set.univ (bodyAt0 t) (fun _ => afterwards m c t) := by
  unfold before afterwards
  simp only [starts0, starts1, starts2]
  rw [show (attnDats m 0 c).Φ t.succ = (attnDats m 0 c).Φ t.castSucc from rfl,
    show (attnDats m 0 c).owesAt () t.succ = (attnDats m 0 c).owesAt () t.castSucc from rfl, ends0, ends1, ends2, ends3]
  rw [show (attnDats m 0 c).Φ t.castSucc = Pipeline.ΦA spec0 c from rfl, PhiA0_eq]
  generalize (attnDats m 0 c).owesAt () t.castSucc = W
  generalize (attnDats m 0 c).before 3 t = d3
  revert ht
  generalize iblk m c 0 t = x0, iblk m c 1 t = x1, iblk m c 2 t = x2
  intro ht
  iintro ⟨⟨⟨⟨%a6, HS0⟩, ⟨%a7, HS1⟩, ⟨%a8, HS2⟩, ⟨%a9, HS3⟩⟩, Hg⟩, Ho, ⟨%e0, H0⟩, ⟨%e1, H1⟩, ⟨%e2, H2⟩, ⟨%e3, H3⟩⟩
  iapply (point_runs c t ht iprop(W ∗ (∃ r, prngReg c r)) (fun _ => _) ⟨a6, a7, a8, a9, d3 e3⟩ ?_)
  · intro σ' hσ'
    unfold held bufsAt
    rw [hσ']
    iintro ⟨⟨H0, H1, H2, H3, HS0, HS1, HS2, HS3⟩, Ho, Hg⟩
    isplitl [HS0 HS1 HS2 HS3 Hg]
    · isplitl [HS0 HS1 HS2 HS3]
      · isplitl [HS0]
        · iexists _; iexact HS0
        isplitl [HS1]
        · iexists _; iexact HS1
        isplitl [HS2]
        · iexists _; iexact HS2
        iexists _; iexact HS3
      iexact Hg
    isplitl [Ho]; · iexact Ho
    isplitl [H0]; · iexact H0
    isplitl [H1]; · iexact H1
    isplitl [H2]; · iexact H2
    iexact H3
  unfold held bufsAt
  isplitl [H0 H1 H2 H3 HS0 HS1 HS2 HS3]
  · isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iexact HS3
  isplitl [Ho]; · iexact Ho
  iexact Hg

theorem points_sound (c : Dev nD) (ht : ∀ t, Tame (iblk m c 0 t) (iblk m c 1 t)) :
    BodyObligation (attnDats m 0 c) (defs₀ (F := Ideal)) Variants.none () Set.univ := fun t => by
  rw [bigSep_W0, bigSep_W0, defs₀_row]
  exact triple_restated (point_sound m c t (ht t)) rfl .rfl fun _ => .rfl

set_option backward.isDefEq.respectTransparency.types false in
/-- The run, where the scores of every block are as they must be for the softmax, -/
theorem attn_run_counters (ht : ∀ c t, Tame (iblk m c 0 t) (iblk m c 1 t)) :
    θ_run defs (onTc (τ := τ) (main (F := Ideal))) (s₀ m ρ)
      (fun r => (Pipeline.FramePost cfgs (attnDats m) 0 (V m)) r ∧ r.2.sem = fun _ => 0) :=
  Pipeline.θ_run_frame (Q' := _) cfgs (attnDats m) (0 : Fin 1) launch0 defs₀ Variants.none m ρ main
    (hbody := fun c => (points_sound m c (ht c)).loose) (hshare := fun c => (attnDats m 0 c).share_full fun _ => rfl)
    (howed := fun _ _ => rfl) (V := V m) (hmain := hmain m Variants.none) (hA := attnDats_A m) (hΦ := fun _ _ => rfl)

/-- and what it leaves in the arrays. -/
theorem attn_run (ht : ∀ c t, Tame (iblk m c 0 t) (iblk m c 1 t)) :
    θ_run defs (onTc (τ := τ) (main (F := Ideal))) ⟨m, fun _ => 0, ρ⟩ fun r => ∀ c : Dev nD,
      r.2.mem ((c : Thread nD τ).loc main_v12) = (attnDats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (attn_run_counters m ρ ht)

/-- A grid point's block of the final output array. -/
theorem out_block (c : Dev nD) (t : Fin cfg0.N) (hf : (cfg0.win 3).flush t = true) :
    ((cfg0.win 3).blk t).view.read (Elt Ideal) ((attnDats m 0 c).arrAt 3 cfg0.N)
      = (cfg0.win 3).cut (grid0.coords t) (attendBlock (iblk m c 0 t) (iblk m c 1 t) (iblk m c 2 t)) := by
  refine ((attnDats m 0 c).read_blk_arrAt_eq_flushed 3 Value.disjoint3 cfg0.N t t.isLt hf).trans ?_
  show (cfg0.win 3).cut (grid0.coords t) ((attnDats m 0 c).after 3 t) = _
  rw [ends3]

end Cert.KernelIdeal.Flash

end
-- ==== Proof.Blocks.lean ====
module

public import proofs.«01_k».proof.Proof.ValueRun
public import Idealize.ShloMosaic.Lib.Pipeline.ValueKit

/-! The blocks that a grid point reads, as entries of the arguments, and the array that the points write. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ)

/-- The factor of the queries, as the host computes it. -/
def factorV : FVec Ideal S_ .f32 := Host.divf (constant S_ .f32 0x3D93CD3A#32) (Host.log (constant S_ .f32 0x40000000#32))

/-- The host's padding and flattening of a head's columns. -/
def lanesV (x : FVec Ideal S2x8192x4x192 .f32) : FVec Ideal S2x8192x1024 .bf16 :=
  truncf .bf16 (shapeCast S2x8192x1024 (pad S2x8192x4x256 ![0, 0, 0, 0] ![0, 0, 0, 64] ![0, 0, 0, 0] x
    (sitofp .f32 (constantI S_ 32 0#32)) pads_S2x8192x4x192_S2x8192x4x256_000_000_000_0640 h_S_)
    shapeCasts_S2x8192x4x256_S2x8192x1024) bitsLt_bf16_f32

theorem at_v6 (c : Dev nD) : V m c (Pipeline.arrRef spec0 0) = lanesV (mulf (m ((c : Thread nD τ).loc main_arg0))
    (broadcastInDim S2x8192x4x192 ![] bcast_S_S2x8192x4x192 factorV)) := by
  simp only [V, hostOps0, hostOps0_1, hostOps0_2, hostOps0_3, hostOps0_4, List.flatten_cons, List.flatten_nil, List.append_nil, List.cons_append,
      List.nil_append, TRef.binary, TRef.unary, TRef.toBuf, TRef.ofBuf, cast_eq]
  after_results_simp <;> rfl

theorem at_v9 (c : Dev nD) : V m c (Pipeline.arrRef spec0 1) = lanesV (m ((c : Thread nD τ).loc main_arg1)) := by
  simp only [V, hostOps0, hostOps0_1, hostOps0_2, hostOps0_3, hostOps0_4, List.flatten_cons, List.flatten_nil, List.append_nil, List.cons_append,
      List.nil_append, TRef.binary, TRef.unary, TRef.toBuf, TRef.ofBuf, cast_eq]
  after_results_simp <;> rfl

theorem at_v11 (c : Dev nD) : V m c (Pipeline.arrRef spec0 2) = truncf (F := Ideal) .bf16 (shapeCast S2x8192x512 (m ((c : Thread nD τ).loc main_arg2) : FVec Ideal S2x8192x4x128 .f32)
    shapeCasts_S2x8192x4x128_S2x8192x512) bitsLt_bf16_f32 := by
  simp only [V, hostOps0, hostOps0_1, hostOps0_2, hostOps0_3, hostOps0_4, List.flatten_cons, List.flatten_nil, List.append_nil, List.cons_append,
      List.nil_append, TRef.binary, TRef.unary, TRef.toBuf, TRef.ofBuf, cast_eq]
  after_results_simp <;> rfl

theorem lanesV_apply (x : FVec Ideal S2x8192x4x192 .f32) (b : Fin 2) (i : Fin 8192) (l : Fin 1024) :
    lanesV x (ix3 b i l) = if d : l.val % 256 < 192 then x (ix4 b i ⟨l.val / 256, by omega⟩ ⟨l.val % 256, d⟩) else 0 := by
  pointwise [lanesV]
  by_cases d : l.val % 256 < 192
  · rw [dif_pos d, dif_pos ⟨by omega, d⟩]
  · rw [dif_neg d, dif_neg fun h => d h.2]
    show ((((0#32 : BitVec 32).toInt : ℝ)) : EReal) = 0
    simp

theorem v11_apply (c : Dev nD) (b : Fin 2) (i : Fin 8192) (l : Fin 512) :
    V m c (Pipeline.arrRef spec0 2) (ix3 b i l) = m ((c : Thread nD τ).loc main_arg2) (ix4 b i ⟨l.val / 128, by omega⟩ ⟨l.val % 128, by omega⟩) := by
  rw [at_v11]
  pointwise

/-- A point's batch entry and head. -/
def entryOf (t : Fin cfg0.N) : Fin 2 := grid0.coords t 0
def headOf (t : Fin cfg0.N) : Fin 4 := grid0.coords t 1

theorem idx_all : ∀ t : Fin cfg0.N, win0_0.index t = ![(entryOf t).val, 0, (headOf t).val]
    ∧ win0_1.index t = ![(entryOf t).val, 0, (headOf t).val] ∧ win0_2.index t = ![(entryOf t).val, 0, (headOf t).val]
    ∧ win0_3.index t = ![(entryOf t).val, 0, (headOf t).val] := by decide +kernel

/-- The queries times their factor. -/
def scaled (x : FVec Ideal S2x8192x4x192 .f32) : FVec Ideal S2x8192x4x192 .f32 :=
  mulf x (broadcastInDim S2x8192x4x192 ![] bcast_S_S2x8192x4x192 factorV)

/-- A head's rows, padded with zeros. -/
def padded (x : FVec Ideal S2x8192x4x192 .f32) (b : Fin 2) (h : Fin 4) : Vec Ideal S1x8192x256 .bf16 :=
  fun y => if d : (y 2).val < 192 then x (ix4 b (y 1) h ⟨(y 2).val, d⟩) else 0

/-- A head's values. -/
def values (x : FVec Ideal S2x8192x4x128 .f32) (b : Fin 2) (h : Fin 4) : Vec Ideal S1x8192x128 .bf16 :=
  fun y => x (ix4 b (y 1) h (y 2))

theorem triple_eq {s1 s2 : ℕ} (y : (⟨3, ![1, s1, s2]⟩ : Shape).Idx) : ∃ (i : Fin s1) (d : Fin s2), y = ix3 0 i d :=
  ⟨y 1, y 2, funext fun a => by
    fin_cases a
    · exact Subsingleton.elim (α := Fin 1) _ _
    · rfl
    · rfl⟩

theorem read0 (A : Vec Ideal S2x8192x1024 .bf16) (t : Fin cfg0.N) (i : Fin 8192) (d : Fin 256) :
    ((cfg0.win 0).blk t).view.read (Elt Ideal) A (ix3 0 i d) = A (ix3 (entryOf t) i ⟨256 * (headOf t).val + d.val, by omega⟩) := by
  blk_simp
  refine congrArg A (funext fun a => Fin.ext ?_)
  refine (Pipeline.Window.rect_emb_val (w := win0_0) t (ix3 0 i d) a).trans ?_
  rw [(idx_all t).1]
  fin_cases a
  · show (entryOf t).val * 1 + 0 = (entryOf t).val
    omega
  · show 0 * 8192 + i.val = i.val
    omega
  · show (headOf t).val * 256 + d.val = 256 * (headOf t).val + d.val
    omega

theorem read1 (A : Vec Ideal S2x8192x1024 .bf16) (t : Fin cfg0.N) (i : Fin 8192) (d : Fin 256) :
    ((cfg0.win 1).blk t).view.read (Elt Ideal) A (ix3 0 i d) = A (ix3 (entryOf t) i ⟨256 * (headOf t).val + d.val, by omega⟩) := by
  blk_simp
  refine congrArg A (funext fun a => Fin.ext ?_)
  refine (Pipeline.Window.rect_emb_val (w := win0_1) t (ix3 0 i d) a).trans ?_
  rw [(idx_all t).2.1]
  fin_cases a
  · show (entryOf t).val * 1 + 0 = (entryOf t).val
    omega
  · show 0 * 8192 + i.val = i.val
    omega
  · show (headOf t).val * 256 + d.val = 256 * (headOf t).val + d.val
    omega

theorem read2 (A : Vec Ideal S2x8192x512 .bf16) (t : Fin cfg0.N) (i : Fin 8192) (d : Fin 128) :
    ((cfg0.win 2).blk t).view.read (Elt Ideal) A (ix3 0 i d) = A (ix3 (entryOf t) i ⟨128 * (headOf t).val + d.val, by omega⟩) := by
  blk_simp
  refine congrArg A (funext fun a => Fin.ext ?_)
  refine (Pipeline.Window.rect_emb_val (w := win0_2) t (ix3 0 i d) a).trans ?_
  rw [(idx_all t).2.2.1]
  fin_cases a
  · show (entryOf t).val * 1 + 0 = (entryOf t).val
    omega
  · show 0 * 8192 + i.val = i.val
    omega
  · show (headOf t).val * 128 + d.val = 128 * (headOf t).val + d.val
    omega

theorem lanes_read (x : FVec Ideal S2x8192x4x192 .f32) (b : Fin 2) (h : Fin 4) (i : Fin 8192) (d : Fin 256) :
    lanesV x (ix3 b i ⟨256 * h.val + d.val, by omega⟩) = padded x b h (ix3 0 i d) := by
  rw [lanesV_apply]
  have e1 : (256 * h.val + d.val) % 256 = d.val := by omega
  have e2 : (256 * h.val + d.val) / 256 = h.val := by omega
  unfold padded
  simp only [e1, e2]
  rfl

theorem query_block (c : Dev nD) (t : Fin cfg0.N) :
    iblk m c 0 t = padded (scaled (m ((c : Thread nD τ).loc main_arg0))) (entryOf t) (headOf t) := by
  funext y
  obtain ⟨i, d, rfl⟩ := triple_eq y
  unfold iblk
  rw [at_v6]
  exact (read0 _ t i d).trans (lanes_read _ _ _ i d)

theorem key_block (c : Dev nD) (t : Fin cfg0.N) :
    iblk m c 1 t = padded (m ((c : Thread nD τ).loc main_arg1)) (entryOf t) (headOf t) := by
  funext y
  obtain ⟨i, d, rfl⟩ := triple_eq y
  unfold iblk
  rw [at_v9]
  exact (read1 _ t i d).trans (lanes_read _ _ _ i d)

theorem value_block (c : Dev nD) (t : Fin cfg0.N) :
    iblk m c 2 t = values (m ((c : Thread nD τ).loc main_arg2)) (entryOf t) (headOf t) := by
  funext y
  obtain ⟨i, d, rfl⟩ := triple_eq y
  unfold iblk
  refine (read2 _ t i d).trans ((v11_apply m c _ i _).trans ?_)
  refine congrArg (m ((c : Thread nD τ).loc main_arg2)) ?_
  funext a
  fin_cases a
  · rfl
  · rfl
  · exact Fin.ext (by show (128 * (headOf t).val + d.val) / 128 = (headOf t).val; omega)
  · exact Fin.ext (by show (128 * (headOf t).val + d.val) % 128 = d.val; omega)

/-- The attention of all the heads, the heads' columns side by side. -/
def attnArray (q k : FVec Ideal S2x8192x4x192 .f32) (v : FVec Ideal S2x8192x4x128 .f32) : FVec Ideal S2x8192x512 .f32 :=
  fun y => attend (padded q (y 0) ⟨(y 2).val / 128, by have := (y 2).isLt; exact Nat.div_lt_of_lt_mul this⟩)
    (padded k (y 0) ⟨(y 2).val / 128, by have := (y 2).isLt; exact Nat.div_lt_of_lt_mul this⟩)
    (values v (y 0) ⟨(y 2).val / 128, by have := (y 2).isLt; exact Nat.div_lt_of_lt_mul this⟩) (y 1)
    ⟨(y 2).val % 128, Nat.mod_lt _ (by decide)⟩

theorem attnArray_apply (q k : FVec Ideal S2x8192x4x192 .f32) (v : FVec Ideal S2x8192x4x128 .f32) (b : Fin 2) (h : Fin 4)
    (i : Fin 8192) (l : Fin 128) : attnArray q k v (ix3 b i ⟨128 * h.val + l.val, by omega⟩)
      = attend (padded q b h) (padded k b h) (values v b h) i l := by
  have e1 : (⟨(128 * h.val + l.val) / 128, by omega⟩ : Fin 4) = h := Fin.ext (by simp only; omega)
  have e2 : (⟨(128 * h.val + l.val) % 128, by omega⟩ : Fin 128) = l := Fin.ext (by simp only; omega)
  show attend (padded q b ⟨(128 * h.val + l.val) / 128, _⟩) (padded k b ⟨(128 * h.val + l.val) / 128, _⟩)
    (values v b ⟨(128 * h.val + l.val) / 128, _⟩) i ⟨(128 * h.val + l.val) % 128, _⟩ = _
  rw [e1, e2]

theorem emb3 (t : Fin cfg0.N) (i : Fin 8192) (l : Fin 128) :
    ((cfg0.win 3).blk t).view.emb (ix3 0 i l : S1x8192x128.Idx) = ix3 (entryOf t) i ⟨128 * (headOf t).val + l.val, by omega⟩ := by
  refine funext fun a => Fin.ext ?_
  refine (Pipeline.Window.rect_emb_val (w := win0_3) t (ix3 0 i l) a).trans ?_
  rw [(idx_all t).2.2.2]
  fin_cases a
  · show (entryOf t).val * 1 + 0 = (entryOf t).val
    omega
  · show 0 * 8192 + i.val = i.val
    omega
  · show (headOf t).val * 128 + l.val = 128 * (headOf t).val + l.val
    omega

/-- The output array after the run. -/
theorem out_array (c : Dev nD) :
    (attnDats m 0 c).arrAt 3 cfg0.N = attnArray (scaled (m ((c : Thread nD τ).loc main_arg0)))
      (m ((c : Thread nD τ).loc main_arg1)) (m ((c : Thread nD τ).loc main_arg2)) := by
  refine (attnDats m 0 c).arrAt_eq_of_covers 3 _ (by decide +kernel) fun t hf y => ?_
  rw [ends3, query_block, key_block, value_block]
  obtain ⟨i, l, rfl⟩ := triple_eq (s1 := 8192) (s2 := 128) y
  refine Eq.trans ?_ ((congrArg _ (emb3 t i l)).trans (attnArray_apply _ _ _ _ _ i l)).symm
  rfl

end Cert.KernelIdeal.Flash

end
-- ==== Proof.Softmax.lean ====
module

public import proofs.«01_k».proof.Proof.Online
public import Mathlib.Analysis.SpecialFunctions.Pow.Real

/-! The weights to the base 2 of logits over the logarithm of 2 are the softmax's weights. -/

@[expose] public section

noncomputable section

namespace Cert.KernelIdeal.Flash

open Idealize.ShloMosaic

variable {n : ℕ} {S : Fin n → EReal} {L : ℕ → EReal}

/-- The inverse of the logarithm of 2. -/
def invLog : ℝ := (Real.log 2)⁻¹

theorem invLog_pos : 0 < invLog := inv_pos.mpr (Real.log_pos (by norm_num))

/-- The maximum of all entries bounds each and is one of them. -/
theorem fold_max (hn : 0 < n) : (∀ j, S j ≤ Finset.univ.fold max ⊥ S) ∧ ∃ j, Finset.univ.fold max ⊥ S = S j := by
  refine ⟨fun j => Finset.le_fold_max _ |>.mpr (Or.inr ⟨j, Finset.mem_univ _, le_rfl⟩), ?_⟩
  obtain ⟨j, -, h⟩ := Finset.exists_mem_eq_sup (Finset.univ : Finset (Fin n)) ⟨⟨0, hn⟩, Finset.mem_univ _⟩ S
  exact ⟨j, h⟩

variable (hn : 0 < n) (hL : ∀ j : Fin n, L j.val = S j * (invLog : EReal))
include hn hL

theorem rowMax_scale : rowMax L n = Finset.univ.fold max ⊥ S * (invLog : EReal) := by
  obtain ⟨hle, j0, hj⟩ := fold_max (S := S) hn
  refine le_antisymm (Finset.sup_le fun j hj => ?_) ?_
  · rw [hL ⟨j, Finset.mem_range.mp hj⟩]
    exact mul_le_mul_of_nonneg_right (hle _) (by exact_mod_cast invLog_pos.le)
  · rw [hj, ← hL j0]
    exact Finset.le_sup (f := L) (Finset.mem_range.mpr j0.isLt)

theorem weight_eq (hT : ∀ j, S j ≠ ⊤) (h0 : S ⟨0, hn⟩ ≠ ⊥) (j : Fin n) :
    Ideal.exp2 (L j.val - rowMax L n) = Ideal.exp (S j - Finset.univ.fold max ⊥ S) := by
  rw [rowMax_scale hn hL, hL]
  obtain ⟨hle, j0, hj⟩ := fold_max (S := S) hn
  obtain ⟨M, hM⟩ := real_of_ne (x := Finset.univ.fold max ⊥ S) (hj ▸ hT j0) fun h => h0 (le_bot_iff.mp (h ▸ hle _))
  rw [hM]
  by_cases hb : S j = ⊥
  · rw [hb, EReal.bot_mul_coe_of_pos invLog_pos]
    rfl
  obtain ⟨s, hs⟩ := real_of_ne (hT j) hb
  rw [hs, ← EReal.coe_mul, ← EReal.coe_mul, ← EReal.coe_sub, ← EReal.coe_sub, exp2_real]
  show _ = ((Real.exp (s - M) : ℝ) : EReal)
  rw [Real.rpow_def_of_pos (by norm_num), ← sub_mul, mul_comm, mul_assoc]
  unfold invLog
  rw [inv_mul_cancel₀ (Real.log_pos (by norm_num)).ne', mul_one]

/-- The quotient of the sums is the softmax's average. -/
theorem softmax_eq (hT : ∀ j, S j ≠ ⊤) (h0 : S ⟨0, hn⟩ ≠ ⊥) (hLT : ∀ j, L j ≠ ⊤) (hL0 : L 0 ≠ ⊥) (w : ℕ → EReal) :
    Ideal.div (rowSum L w n) (rowSum L (fun _ => 1) n)
      = ∑ j : Fin n, w j.val * Ideal.div (Ideal.exp (S j - Finset.univ.fold max ⊥ S))
          (∑ j' : Fin n, Ideal.exp (S j' - Finset.univ.fold max ⊥ S)) := by
  rw [rowSum_div hLT hL0 w hn, Finset.sum_range]
  have hs : rowSum L (fun _ => 1) n = ∑ j' : Fin n, Ideal.exp (S j' - Finset.univ.fold max ⊥ S) := by
    unfold rowSum
    rw [Finset.sum_range]
    exact Finset.sum_congr rfl fun j _ => by rw [mul_one, weight_eq hn hL hT h0]
  rw [hs]
  exact Finset.sum_congr rfl fun j _ => by rw [weight_eq hn hL hT h0, mul_comm]

end Cert.KernelIdeal.Flash

end
-- ==== Proof.Reference.lean ====
module

public import proofs.«01_k».proof.Proof.Gen.ReferenceIdeal.Run
public import Idealize.ShloMosaic.Lib.Pipeline.ValueKit
public import Idealize.ShloMosaic.Lib.WordCmp

/-! The reference's result at an index: a softmax of masked logits against the values. -/

@[expose] public section

set_option maxRecDepth 16384

noncomputable section

namespace Cert.ReferenceIdeal.Softmax

open Cert.ReferenceIdeal Cert.ReferenceIdeal.Gen
open Idealize.ShloMosaic Idealize.ShloMosaic.TcCoe Idealize.ShloMosaic.Tactic

/-- The masked logits. -/
def logitsV (q k : FVec Ideal S2x8192x4x192 .f32) : FVec Ideal S2x4x8192x8192 .f32 :=
  select (broadcastInDim S2x4x8192x8192 ![2, 3] bcast_S8192x8192_S2x4x8192x8192_2_3
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0)))))
    (Host.dotGeneral dot_S2x8192x4x192_S2x8192x4x192_S2x4x8192x8192_3_3_1_1_02_02 none
      (mulf q (broadcastInDim S2x8192x4x192 ![] bcast_S_S2x8192x4x192 (constant S_ .f32 0x3D93CD3A#32))) k)
    (broadcastInDim S2x4x8192x8192 ![] bcast_S_S2x4x8192x8192 (id (constant S_ .f32 0xFF800000#32)))

/-- A row's maximum. -/
def maxesV (L : FVec Ideal S2x4x8192x8192 .f32) : FVec Ideal S2x4x8192 .f32 :=
  Host.reduce FloatOps.maximumf L (constant S_ .f32 0xFF800000#32) reducesTo_S2x4x8192x8192_S2x4x8192_d3 h_S_

/-- The maximum, with minus infinity. -/
def topsV (M : FVec Ideal S2x4x8192 .f32) : FVec Ideal S2x4x8192 .f32 :=
  maximumf (broadcastInDim S2x4x8192 ![] bcast_S_S2x4x8192 (constant S_ .f32 0xFF800000#32)) M

/-- The exponentials relative to it. -/
def expsV (L : FVec Ideal S2x4x8192x8192 .f32) : FVec Ideal S2x4x8192x8192 .f32 :=
  Host.exp (subf L (broadcastInDim S2x4x8192x8192 ![0, 1, 2, 3] bcast_S2x4x8192x1_S2x4x8192x8192_0_1_2_3
    (broadcastInDim S2x4x8192x1 ![0, 1, 2] bcast_S2x4x8192_S2x4x8192x1_0_1_2
      (topsV (maxesV L)))))

/-- The exponentials over a row's sum. -/
def weightsV (e : FVec Ideal S2x4x8192x8192 .f32) : FVec Ideal S2x4x8192x8192 .f32 :=
  Host.divf e (broadcastInDim S2x4x8192x8192 ![0, 1, 2, 3] bcast_S2x4x8192x1_S2x4x8192x8192_0_1_2_3
    (broadcastInDim S2x4x8192x1 ![0, 1, 2] bcast_S2x4x8192_S2x4x8192x1_0_1_2
      (Host.reduceAdd e (constant S_ .f32 0x00000000#32) reducesTo_S2x4x8192x8192_S2x4x8192_d3 h_S_)))

/-- The weighted values, heads side by side. -/
def resultV (v : FVec Ideal S2x8192x4x128 .f32) (p : FVec Ideal S2x4x8192x8192 .f32) : FVec Ideal S2x8192x512 .f32 :=
  shapeCast _ (transpose S2x8192x4x128 [0, 3, 1, 2]
    (Host.dotGeneral dot_S2x8192x4x128_S2x4x8192x8192_S2x4x128x8192_1_3_3_2_02_01 none v p)
    transposes_S2x4x128x8192_S2x8192x4x128_0_3_1_2) shapeCasts_S2x8192x4x128_S2x8192x512

theorem res_eq (m : (ℓ : Loc nD τ sig) → Buf (Elt Ideal) ℓ) (c : Dev nD) :
    Value.res_main_v23 m c = resultV (m ((c.tc : Thread nD τ).loc main_arg2)) (weightsV (expsV
      (logitsV (m ((c.tc : Thread nD τ).loc main_arg0)) (m ((c.tc : Thread nD τ).loc main_arg1))))) := rfl

theorem negInf : Ideal.ofBits .f32 0xFF800000#32 = ⊥ := by simp [Ideal.ofBits, Ideal.ieee]

theorem logits_apply (q k : FVec Ideal S2x8192x4x192 .f32) (b : Fin 2) (h : Fin 4) (i j : Fin 8192) :
    logitsV q k (ix4 b h i j) = if j.val ≤ i.val then
      ∑ d : Fin 192, q (ix4 b i h d) * Ideal.ofBits .f32 0x3D93CD3A#32 * k (ix4 b j h d) else ⊥ := by
  pointwise [logitsV]
  rw [WordCmp.cmpi_sle_ofNat (by omega) (by omega)]
  by_cases hj : j.val ≤ i.val
  · simp only [Scalar.select, hj, if_true]
    rfl
  · simp only [Scalar.select, hj, if_false]
    exact negInf

theorem maxes_apply (L : FVec Ideal S2x4x8192x8192 .f32) (b : Fin 2) (h : Fin 4) (i : Fin 8192) :
    maxesV L (ix3 b h i) = Finset.univ.fold max ⊥ fun j : Fin 8192 => L (ix4 b h i j) := by
  unfold maxesV
  rw [Host.reduce_eq_fold, Shape.ReducesTo.fold_fiber_r4_a3]
  show Finset.univ.fold max (Ideal.ofBits .f32 0xFF800000#32) (fun j : Fin 8192 => L (ix4 b h i j)) = _
  rw [negInf]

theorem tops_apply (M : FVec Ideal S2x4x8192 .f32) (b : Fin 2) (h : Fin 4) (i : Fin 8192) :
    topsV M (ix3 b h i) = M (ix3 b h i) := by
  show max (Ideal.ofBits .f32 0xFF800000#32) (M (ix3 b h i)) = _
  rw [negInf]
  exact bot_sup_eq _

theorem exps_apply (L : FVec Ideal S2x4x8192x8192 .f32) (b : Fin 2) (h : Fin 4) (i j : Fin 8192) :
    expsV L (ix4 b h i j) = Ideal.exp (L (ix4 b h i j) - maxesV L (ix3 b h i)) := by
  have e := tops_apply (maxesV L) b h i
  revert e
  unfold expsV
  generalize topsV (maxesV L) = T
  generalize maxesV L (ix3 b h i) = M
  intro e
  rw [← e]
  pointwise

theorem weights_apply (e : FVec Ideal S2x4x8192x8192 .f32) (b : Fin 2) (h : Fin 4) (i j : Fin 8192) :
    weightsV e (ix4 b h i j) = Ideal.div (e (ix4 b h i j)) (∑ j' : Fin 8192, e (ix4 b h i j')) := by
  pointwise [weightsV]

theorem result_apply (v : FVec Ideal S2x8192x4x128 .f32) (p : FVec Ideal S2x4x8192x8192 .f32) (b : Fin 2) (i : Fin 8192)
    (h : Fin 4) (l : Fin 128) :
    resultV v p (ix3 b i ⟨128 * h.val + l.val, by omega⟩) = ∑ j : Fin 8192, v (ix4 b j h l) * p (ix4 b h i j) := by
  pointwise [resultV]

end Cert.ReferenceIdeal.Softmax

end
-- ==== Proof.Equal.lean ====
module

public import proofs.«01_k».proof.Proof.Blocks
public import proofs.«01_k».proof.Proof.Softmax
public import proofs.«01_k».proof.Proof.Reference

/-! The array that the kernel leaves is the reference's result. -/

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Cert.ReferenceIdeal.Softmax (logitsV expsV maxesV weightsV resultV)

/-- The scale of the scores. -/
theorem scale_real : ∃ r : ℝ, Ideal.ofBits .f32 0x3D93CD3A#32 = r := by
  simp only [Ideal.ofBits, Ideal.ieee]
  exact ⟨_, rfl⟩

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  show (if (2 : ℝ) ≤ 0 then (⊥ : EReal) else _) = _
  rw [if_neg (by norm_num)]

theorem factor_apply (j : S_.Idx) {r : ℝ} (hr : Ideal.ofBits .f32 0x3D93CD3A#32 = r) : factorV j = ((r * invLog : ℝ) : EReal) := by
  show Ideal.div (Ideal.ofBits .f32 0x3D93CD3A#32) (Ideal.log (Ideal.ofBits .f32 0x40000000#32)) = _
  rw [log_two, hr]
  unfold Ideal.div
  rw [if_neg (by exact_mod_cast (Real.log_pos (by norm_num)).ne'), ← EReal.coe_inv, ← EReal.coe_mul]
  rfl

theorem padded_apply (x : FVec Ideal S2x8192x4x192 .f32) (b : Fin 2) (h : Fin 4) (i : Fin 8192) (d : Fin 256) :
    padded x b h (ix3 0 i d) = if hd : d.val < 192 then x (ix4 b i h ⟨d.val, hd⟩) else 0 := rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the padded columns is the sum over the head's columns. -/
theorem score_padded (x y : FVec Ideal S2x8192x4x192 .f32) (b : Fin 2) (h : Fin 4) (i j : Fin 8192) :
    score (padded x b h) (padded y b h) i j = ∑ d : Fin 192, x (ix4 b i h d) * y (ix4 b j h d) := by
  unfold score
  refine (Fin.sum_univ_add (a := 192) (b := 64) (fun d : Fin 256 => padded x b h (ix3 0 i d) * padded y b h (ix3 0 j d))).trans ?_
  rw [Finset.sum_eq_zero (s := (Finset.univ : Finset (Fin 64)))]
  · rw [add_zero]
    refine Finset.sum_congr rfl fun d _ => ?_
    rw [padded_apply, padded_apply, dif_pos (show (Fin.castAdd 64 d).val < 192 from d.isLt), dif_pos (show (Fin.castAdd 64 d).val < 192 from d.isLt)]
    rfl
  · intro d _
    rw [padded_apply, dif_neg (show ¬ (Fin.natAdd 192 d).val < 192 by simp)]
    exact zero_mul _

variable {q k : FVec Ideal S2x8192x4x192 .f32} (hq : ∀ i, ∃ r : ℝ, q i = r) (hk : ∀ i, ∃ r : ℝ, k i = r)
include hq hk

/-- The reference's scores are real, and the kernel's are these over the logarithm of 2. -/
theorem score_scaled (b : Fin 2) (h : Fin 4) (i j : Fin 8192) : ∃ s : ℝ,
    ∑ d : Fin 192, q (ix4 b i h d) * Ideal.ofBits .f32 0x3D93CD3A#32 * k (ix4 b j h d) = s
      ∧ score (padded (scaled q) b h) (padded k b h) i j = ((s * invLog : ℝ) : EReal) := by
  obtain ⟨r, hr⟩ := scale_real
  choose q' hq' using hq
  choose k' hk' using hk
  refine ⟨∑ d : Fin 192, q' (ix4 b i h d) * r * k' (ix4 b j h d), ?_, ?_⟩
  · rw [coe_sum]
    refine Finset.sum_congr rfl fun d _ => ?_
    rw [hq', hk', hr, ← EReal.coe_mul, ← EReal.coe_mul]
  · rw [score_padded, Finset.sum_mul, coe_sum]
    refine Finset.sum_congr rfl fun d _ => ?_
    show q (ix4 b i h d) * factorV _ * _ = _
    rw [factor_apply _ hr, hq', hk', ← EReal.coe_mul, ← EReal.coe_mul]
    congr 1
    ring

/-- So the kernel's logits are as the softmax needs them. -/
theorem tame (b : Fin 2) (h : Fin 4) : Tame (padded (scaled q) b h) (padded k b h) where
  top i j := by
    unfold logit
    split_ifs
    · obtain ⟨s, -, e⟩ := score_scaled hq hk b h i ⟨j, by omega⟩
      rw [e]; exact EReal.coe_ne_top _
    · exact bot_ne_top
  bot i := by
    obtain ⟨s, -, e⟩ := score_scaled hq hk b h i ⟨0, by omega⟩
    rw [logit_of_le (Nat.zero_le _), e]
    exact EReal.coe_ne_bot _

theorem attend_eq (v : FVec Ideal S2x8192x4x128 .f32) (b : Fin 2) (h : Fin 4) (i : Fin 8192) (l : Fin 128) :
    attend (padded (scaled q) b h) (padded k b h) (values v b h) i l
      = ∑ j : Fin 8192, v (ix4 b j h l) * weightsV (expsV (logitsV q k)) (ix4 b h i j) := by
  have ht := tame hq hk b h
  have hL : ∀ j : Fin 8192, logit (padded (scaled q) b h) (padded k b h) i j.val
      = logitsV q k (ix4 b h i j) * (invLog : EReal) := fun j => by
    obtain ⟨s, e, e'⟩ := score_scaled hq hk b h i j
    rw [Cert.ReferenceIdeal.Softmax.logits_apply]
    unfold logit
    by_cases hj : j.val ≤ i.val
    · rw [dif_pos hj, if_pos hj, e, ← EReal.coe_mul]
      exact e'
    · rw [dif_neg hj, if_neg hj, EReal.bot_mul_coe_of_pos invLog_pos]
  have hT : ∀ j : Fin 8192, logitsV q k (ix4 b h i j) ≠ ⊤ := fun j => by
    obtain ⟨s, e, -⟩ := score_scaled hq hk b h i j
    rw [Cert.ReferenceIdeal.Softmax.logits_apply]
    split_ifs
    · rw [e]; exact EReal.coe_ne_top _
    · exact bot_ne_top
  have h0 : logitsV q k (ix4 b h i ⟨0, by decide⟩) ≠ ⊥ := by
    obtain ⟨s, e, -⟩ := score_scaled hq hk b h i ⟨0, by decide⟩
    rw [Cert.ReferenceIdeal.Softmax.logits_apply, if_pos (Nat.zero_le _), e]
    exact EReal.coe_ne_bot _
  unfold attend
  rw [softmax_eq (S := fun j : Fin 8192 => logitsV q k (ix4 b h i j)) (by decide) hL hT h0 (ht.top i) (ht.bot i)]
  refine Finset.sum_congr rfl fun j _ => ?_
  simp only [Cert.ReferenceIdeal.Softmax.weights_apply, Cert.ReferenceIdeal.Softmax.exps_apply, Cert.ReferenceIdeal.Softmax.maxes_apply]
  congr 1
  unfold column
  rw [dif_pos l.isLt, dif_pos j.isLt]
  rfl

/-- The two results. -/
theorem arrays_eq (v : FVec Ideal S2x8192x4x128 .f32) :
    attnArray (scaled q) k v = resultV v (weightsV (expsV (logitsV q k))) := by
  funext y
  obtain ⟨b, i, c, rfl⟩ : ∃ (b : Fin 2) (i : Fin 8192) (c : Fin 512), y = ix3 b i c := ⟨y 0, y 1, y 2, funext fun a => by fin_cases a <;> rfl⟩
  obtain ⟨h, l, e⟩ : ∃ (h : Fin 4) (l : Fin 128), c = ⟨128 * h.val + l.val, by omega⟩ :=
    ⟨⟨c.val / 128, by omega⟩, ⟨c.val % 128, by omega⟩, Fin.ext (Nat.div_add_mod c.val 128).symm⟩
  rw [e, attnArray_apply, attend_eq hq hk, Cert.ReferenceIdeal.Softmax.result_apply]

end Cert.KernelIdeal.Flash

end
-- ==== Proof.Swiglu.lean ====
module

public import Idealize.ShloMosaic.Lib.Pipeline.ValueKit

/-! A row through a feed-forward, as numbers: the normalisation, the gate in its two writings, the half-step. -/

@[expose] public section

noncomputable section

namespace Cert.Swiglu

open Idealize.ShloMosaic

/-- The printed one half. -/
def half : EReal := Ideal.ofBits .f32 0x3F000000#32

/-- The printed one. -/
def one : EReal := Ideal.ofBits .f32 0x3F800000#32

/-- The printed small number under the root. -/
def eps : EReal := Ideal.ofBits .f32 0x358637BD#32

theorem half_eq : half = ((1 / 2 : ℝ) : EReal) := by
  unfold half
  simp [Ideal.ofBits, Ideal.ieee]
  rw [← EReal.coe_mul]
  norm_num

theorem one_eq : one = 1 := by
  unfold one
  simp [Ideal.ofBits, Ideal.ieee]
  rw [← EReal.coe_mul]
  norm_num

/-- The gate with the logistic function as a hyperbolic tangent. -/
def gated (g u : EReal) : EReal := g * (half * Ideal.tanh (half * g) + half) * u

/-- The gate with the logistic function as a quotient. -/
def silu (g : EReal) : EReal := g * Ideal.div one (one + Ideal.exp (-g))

theorem sigmoid_real (r : ℝ) : (1 / 2 : ℝ) * Real.tanh (1 / 2 * r) + 1 / 2 = 1 / (1 + Real.exp (-r)) := by
  have hp := Real.exp_pos (1 / 2 * r)
  have hn : Real.exp (-(1 / 2 * r)) = (Real.exp (1 / 2 * r))⁻¹ := Real.exp_neg _
  have he : Real.exp (-r) = (Real.exp (1 / 2 * r))⁻¹ * (Real.exp (1 / 2 * r))⁻¹ := by
    rw [← hn, ← Real.exp_add]
    congr 1
    ring
  rw [Real.tanh_eq_sinh_div_cosh, Real.sinh_eq, Real.cosh_eq, hn, he]
  generalize Real.exp (1 / 2 * r) = a at hp
  field_simp
  ring

theorem sigmoid_eq (g : EReal) : half * Ideal.tanh (half * g) + half = Ideal.div one (one + Ideal.exp (-g)) := by
  rw [half_eq, one_eq]
  show _ = Ideal.logistic g
  have hh : (0 : EReal) < ((1 / 2 : ℝ) : EReal) := EReal.coe_pos.mpr (by norm_num)
  induction g using EReal.rec with
  | bot =>
    rw [EReal.mul_bot_of_pos hh, Ideal.tanh_bot, Ideal.logistic_bot, show (-1 : EReal) = ((-1 : ℝ) : EReal) from rfl,
      ← EReal.coe_mul, ← EReal.coe_add, ← EReal.coe_zero]
    congr 1
    norm_num
  | top =>
    rw [EReal.mul_top_of_pos hh, Ideal.tanh_top, Ideal.logistic_top, mul_one, ← EReal.coe_add, ← EReal.coe_one]
    congr 1
    norm_num
  | coe r =>
    rw [← EReal.coe_mul, Ideal.tanh_coe, Ideal.logistic_coe, ← EReal.coe_mul, ← EReal.coe_add, sigmoid_real, one_div]

theorem gated_eq (g u : EReal) : gated g u = silu g * u := by
  unfold gated silu
  rw [sigmoid_eq]

/-- A row over its root mean square, times a scale per column. -/
def normed {n : ℕ} (len : EReal) (x g : Fin n → EReal) (d : Fin n) : EReal :=
  x d * Ideal.rsqrt (Ideal.div (∑ e, x e * x e) len + eps) * g d

/-- A row of the gate's products. -/
def products {n k : ℕ} (h : Fin n → EReal) (wg wu : Fin n → Fin k → EReal) (f : Fin k) : EReal :=
  silu (∑ e, h e * wg e f) * ∑ e, h e * wu e f

/-- A row plus half of its feed-forward. -/
def step {n k : ℕ} (len : EReal) (x g : Fin n → EReal) (wg wu : Fin n → Fin k → EReal) (wd : Fin k → Fin n → EReal) (d : Fin n) : EReal :=
  x d + half * ∑ f, products (normed len x g) wg wu f * wd f d

/-- The printed lengths of a row and of a half. -/
def len1024 : EReal := Ideal.ofBits .f32 0x44800000#32
def len512 : EReal := Ideal.ofBits .f32 0x44000000#32

/-- Two rows side by side. -/
def joined (a b : Fin 512 → EReal) (k : Fin 1024) : EReal :=
  if h : k.val < 512 then a ⟨k.val, h⟩ else b ⟨k.val - 512, by omega⟩

/-- A row plus the projection of the two attentions' rows, each normalised. -/
def project (x : Fin 1024 → EReal) (a b ga gb : Fin 512 → EReal) (w : Fin 1024 → Fin 1024 → EReal) (d : Fin 1024) : EReal :=
  x d + ∑ k, joined (normed len512 a ga) (normed len512 b gb) k * w k d

/-- A flat row's batch entry and position. -/
def entry (r : Fin 16384) : Fin 2 := ⟨r.val / 8192, by omega⟩
def position (r : Fin 16384) : Fin 8192 := ⟨r.val % 8192, by omega⟩

/-- The feed-forward of every row. -/
def ffnArray (x : FVec Ideal ⟨3, ![2, 8192, 1024]⟩ .f32) (g : FVec Ideal ⟨2, ![1, 1024]⟩ .f32) (wg wu : FVec Ideal ⟨3, ![1, 1024, 2816]⟩ .f32)
    (wd : FVec Ideal ⟨3, ![1, 2816, 1024]⟩ .f32) : FVec Ideal ⟨2, ![16384, 1024]⟩ .f32 := fun y =>
  step len1024 (fun e : Fin 1024 => x (ix3 (entry (y 0)) (position (y 0)) e)) (fun e => g (ix2 0 e)) (fun e (f : Fin 2816) => wg (ix3 0 e f))
    (fun e f => wu (ix3 0 e f)) (fun f e => wd (ix3 0 f e)) (y 1)

/-- The projection and the second feed-forward of every row. -/
def outArray (x : FVec Ideal ⟨3, ![2, 8192, 1024]⟩ .f32) (od om : FVec Ideal ⟨3, ![2, 8192, 512]⟩ .f32) (gd gm : FVec Ideal ⟨2, ![1, 512]⟩ .f32)
    (wo : FVec Ideal ⟨3, ![1, 1024, 1024]⟩ .f32) (g : FVec Ideal ⟨2, ![1, 1024]⟩ .f32) (wg wu : FVec Ideal ⟨3, ![1, 1024, 2816]⟩ .f32)
    (wd : FVec Ideal ⟨3, ![1, 2816, 1024]⟩ .f32) : FVec Ideal ⟨2, ![16384, 1024]⟩ .f32 := fun y =>
  step len1024 (project (fun e => x (ix3 (entry (y 0)) (position (y 0)) e)) (fun e => od (ix3 (entry (y 0)) (position (y 0)) e))
      (fun e => om (ix3 (entry (y 0)) (position (y 0)) e)) (fun e => gd (ix2 0 e)) (fun e => gm (ix2 0 e)) fun k e => wo (ix3 0 k e))
    (fun e => g (ix2 0 e)) (fun e (f : Fin 2816) => wg (ix3 0 e f)) (fun e f => wu (ix3 0 e f)) (fun f e => wd (ix3 0 f e)) (y 1)

end Cert.Swiglu

end
-- ==== Proof.Pieces.lean ====
module

public import proofs.«01_k».proof.Proof.Swiglu
public import Idealize.ShloMosaic.Lib.Pipeline.ReadBack
public import Idealize.ShloMosaic.Lib.Ring

/-! The gate's products that a tile of rows stores in pieces of 256 columns and reads again as one array. -/

@[expose] public section

set_option maxRecDepth 16384

noncomputable section

namespace Cert.Swiglu

open Idealize.ShloMosaic

abbrev Rows : Shape := ⟨2, ![512, 1024]⟩
abbrev Wide : Shape := ⟨2, ![512, 2816]⟩
abbrev Weights : Shape := ⟨2, ![1024, 2816]⟩
abbrev Columns : Shape := ⟨2, ![1024, 256]⟩
abbrev Piece : Shape := ⟨2, ![512, 256]⟩

/-- The gate's products at an index, from the normalised rows and the two weight arrays. -/
def act (h : FVec Ideal Rows .bf16) (wg wu : Vec Ideal Weights .f32) : Vec Ideal Wide .bf16 := fun y =>
  products (fun d : Fin 1024 => h (ix2 (y 0) d)) (fun d (f : Fin 2816) => wg (ix2 d f)) (fun d f => wu (ix2 d f)) (y 1)

/-- 256 columns of them, from as many columns of the weights. -/
def slab (h : FVec Ideal Rows .bf16) (a b : Vec Ideal Columns .f32) : Vec Ideal Piece .bf16 := fun y =>
  products (fun d : Fin 1024 => h (ix2 (y 0) d)) (fun d (f : Fin 256) => a (ix2 d f)) (fun d f => b (ix2 d f)) (y 1)

/-- Columns of a weight array, loaded. -/
theorem columns_apply (w : Vec Ideal Weights .f32) (o : ℕ) (hw : ∀ a, (![0, o] : Fin 2 → ℕ) a + (![1024, 256] : Fin 2 → ℕ) a ≤ Weights.size a)
    (d : Fin 1024) (f : Fin 256) (hf : o + f.val < 2816) :
    View.ld (Val := Elt Ideal) (e' := .f32) w (Rect.unit (s := Weights) ![0, o] ![1024, 256] hw) (ix2 d f) = w (ix2 d ⟨o + f.val, hf⟩) := by
  refine View.ld_unit_apply_of (Val := Elt Ideal) w ![0, o] ![1024, 256] hw (ix2 d f) (ix2 d ⟨o + f.val, hf⟩) fun a => ?_
  fin_cases a
  · show d.val = 0 + d.val
    omega
  · rfl

/-- A piece from loaded columns is the array at the piece's place. -/
theorem slab_eq (h : FVec Ideal Rows .bf16) (wg wu : Vec Ideal Weights .f32) (o : ℕ)
    (hw : ∀ a, (![0, o] : Fin 2 → ℕ) a + (![1024, 256] : Fin 2 → ℕ) a ≤ Weights.size a)
    (hs : ∀ a, (![0, o] : Fin 2 → ℕ) a + (![512, 256] : Fin 2 → ℕ) a ≤ Wide.size a) (x : Piece.Idx) :
    slab h (View.ld (Val := Elt Ideal) (e' := .f32) wg (Rect.unit (s := Weights) ![0, o] ![1024, 256] hw))
        (View.ld (Val := Elt Ideal) (e' := .f32) wu (Rect.unit (s := Weights) ![0, o] ![1024, 256] hw)) x
      = act h wg wu ((Rect.unit (s := Wide) ![0, o] ![512, 256] hs).emb x) := by
  obtain ⟨i, j, rfl⟩ : ∃ (i : Fin 512) (j : Fin 256), x = ix2 i j := ⟨x 0, x 1, eq_ix2 x⟩
  have ho : o + 256 ≤ 2816 := hs 1
  have hj : o + j.val < 2816 := by omega
  have e : (Rect.unit (s := Wide) ![0, o] ![512, 256] hs).emb (ix2 i j) = ix2 i ⟨o + j.val, hj⟩ := funext fun a => Fin.ext (by
    refine (Rect.idx_unit_val ![0, o] ![512, 256] hs (ix2 i j) a).trans ?_
    fin_cases a
    · show 0 + i.val = i.val
      omega
    · rfl)
  rw [e]
  unfold slab act products
  simp only [ix2_0, ix2_1]
  have cg : ∀ d : Fin 1024, _ := fun d => columns_apply wg o hw d j hj
  have cu : ∀ d : Fin 1024, _ := fun d => columns_apply wu o hw d j hj
  simp only [cg, cu]

/-- The last eleven pieces stored, where they tile the buffer, read again as a whole, are the array. -/
theorem whole_eq {sig : RefSig} {κ : Kind} {sp : Space} (v : View sig κ sp Wide .bf16) (G : Vec Ideal Wide .bf16)
    (L : List (View.Piece (Elt Ideal) Wide .bf16)) (h : View.PiecesOf G (L.take 11)) (ht : View.Piece.tiledL (L.take 11) ![512, 256] = true)
    (inb : ∀ a, (![0, 0] : Fin 2 → ℕ) a + (![512, 2816] : Fin 2 → ℕ) a ≤ Wide.size a) :
    v.readCov L (Rect.unit (s := Wide) ![0, 0] ![512, 2816] inb).toLoadRect = G := by
  rw [View.readCov_eq_canon']
  funext j
  have e : (Rect.unit (s := Wide) ![0, 0] ![512, 2816] inb).toLoadRect.idx j = j := funext fun a => Fin.ext (by
    refine (Rect.idx_unit_val ![0, 0] ![512, 2816] inb j a).trans ?_
    fin_cases a
    · exact Nat.zero_add _
    · exact Nat.zero_add _)
  rw [e]
  have hc := View.canon_append_of_piecesOf G (L.drop 11) (L.take 11) h j (View.cover_of_tiledL _ ![512, 256] ht j)
  rwa [List.take_append_drop] at hc

end Cert.Swiglu

end
-- ==== Proof.OutBlock.lean ====
module

public import proofs.«01_k».proof.Proof.Gen.OutKernelIdeal.Value
public import proofs.«01_k».proof.Proof.Pieces

/-! The block that a point of `out_ffn` writes, from the blocks that it reads. -/

@[expose] public section

set_option maxRecDepth 16384

noncomputable section

namespace Cert.OutKernelIdeal.Block

open Cert.OutKernelIdeal Cert.OutKernelIdeal.Gen Cert.Swiglu
open Idealize.ShloMosaic Idealize.ShloMosaic.TcCoe Idealize.ShloMosaic.Tactic

/-- One piece: 256 columns of the gate's products. -/
theorem piece10 (h : FVec Ideal S512x1024 .bf16) (a b : Vec Ideal S1024x256 .f32) : k0_pay10 h a b = slab h a b := by
  funext y
  obtain ⟨i, j, rfl⟩ : ∃ (i : Fin 512) (j : Fin 256), y = ix2 i j := ⟨y 0, y 1, eq_ix2 y⟩
  unfold slab products
  rw [← gated_eq]
  unfold gated half
  pointwise [k0_pay10]

theorem piece7 (v35 v39 : FVec Ideal S512x1024 .f32) (g : Vec Ideal S1x1024 .f32) (a b : Vec Ideal S1024x256 .f32) :
    k0_pay7 v35 v39 g a b = slab (k0_pay6 v35 v39 g) a b := piece10 _ a b
theorem piece9 (h : FVec Ideal S512x1024 .bf16) (a b : Vec Ideal S1024x256 .f32) :
    k0_pay9 h (k0_pay8 a) (constant S512x256 FTy.f32 0#32) b = slab h a b := piece10 h a b
theorem piece11 (h : FVec Ideal S512x1024 .bf16) (a b : Vec Ideal S1024x256 .f32) : k0_pay11 h a b = slab h a b := piece10 h a b
theorem piece13 (h : FVec Ideal S512x1024 .bf16) (a b : Vec Ideal S1024x256 .f32) : k0_pay13 (k0_pay12 h a b) = slab h a b := piece10 h a b
theorem piece14 (h : FVec Ideal S512x1024 .bf16) (a b : Vec Ideal S1024x256 .f32) : k0_pay14 h a b = slab h a b := piece10 h a b
theorem piece18 (h : FVec Ideal S512x1024 .bf16) (a b : Vec Ideal S1024x256 .f32) :
    k0_pay18 (k0_pay15 h a) (k0_pay16 h b) (k0_pay17 h a) = slab h a b := piece10 h a b
theorem piece19 (h : FVec Ideal S512x1024 .bf16) (a b : Vec Ideal S1024x256 .f32) : k0_pay19 h a b = slab h a b := piece10 h a b
theorem piece22 (h : FVec Ideal S512x1024 .bf16) (a b : Vec Ideal S1024x256 .f32) :
    k0_pay22 (k0_pay20 h a) (k0_pay21 h b) (FloatOps.ofBits FTy.f32 1056964608#32) = slab h a b := piece10 h a b
theorem piece23 (h : FVec Ideal S512x1024 .bf16) (a b : Vec Ideal S1024x256 .f32) : k0_pay23 h a b = slab h a b := piece10 h a b
theorem piece1 (h : FVec Ideal S512x1024 .bf16) (a b : Vec Ideal S1024x256 .f32) : k0_pay1 h (k0_pay24 h a) b = slab h a b := piece10 h a b

/-- The block written, over the blocks read. -/
def written (x0 : Vec Ideal S512x1024 .f32) (x1 x2 : Vec Ideal S512x512 .f32) (x3 x4 : Vec Ideal S1x512 .f32) (x5 : Vec Ideal S1024x1024 .bf16)
    (x6 : Vec Ideal S1x1024 .f32) (x7 x8 : Vec Ideal S1024x2816 .f32) (x9 : Vec Ideal S2816x1024 .f32) : FVec Ideal S512x1024 .f32 :=
  k0_pay2 (k0_pay5 (k0_pay3 x0) (k0_pay4 x1 x3 x2 x4 x5)) (act (k0_pay6 (k0_pay3 x0) (k0_pay4 x1 x3 x2 x4 x5) x6) x7 x8) x9

theorem block_eq (m : (ℓ : Loc nD τ sig) → Buf (Elt Ideal) ℓ) (c : Dev nD) (t : Fin cfg0.N) :
    outsAt0 m c t = written (iblk m c 0 t) (iblk m c 1 t) (iblk m c 2 t) (iblk m c 3 t) (iblk m c 4 t) (iblk m c 5 t) (iblk m c 6 t)
      (iblk m c 7 t) (iblk m c 8 t) (iblk m c 9 t) := by
  unfold outsAt0
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (iblk m c 9 t) = x9
  frame_out
  unfold written
  rw [piece1, piece23, piece22, piece19, piece18, piece14, piece13, piece11, piece10, piece9, piece7]
  generalize k0_pay6 (k0_pay3 x0) (k0_pay4 x1 x3 x2 x4 x5) x6 = h
  refine congrArg (fun a => k0_pay2 _ a x9) ?_
  refine whole_eq _ (act h x7 x8) _ ?_ (by rfl) _
  exact ⟨slab_eq h x7 x8 2560 inb_S1024x2816_S1024x256_0_2560 inb_S512x2816_S512x256_0_2560,
    slab_eq h x7 x8 2304 inb_S1024x2816_S1024x256_0_2304 inb_S512x2816_S512x256_0_2304,
    slab_eq h x7 x8 2048 inb_S1024x2816_S1024x256_0_2048 inb_S512x2816_S512x256_0_2048,
    slab_eq h x7 x8 1792 inb_S1024x2816_S1024x256_0_1792 inb_S512x2816_S512x256_0_1792,
    slab_eq h x7 x8 1536 inb_S1024x2816_S1024x256_0_1536 inb_S512x2816_S512x256_0_1536,
    slab_eq h x7 x8 1280 inb_S1024x2816_S1024x256_0_1280 inb_S512x2816_S512x256_0_1280,
    slab_eq h x7 x8 1024 inb_S1024x2816_S1024x256_0_1024 inb_S512x2816_S512x256_0_1024,
    slab_eq h x7 x8 768 inb_S1024x2816_S1024x256_0_768 inb_S512x2816_S512x256_0_768,
    slab_eq h x7 x8 512 inb_S1024x2816_S1024x256_0_512 inb_S512x2816_S512x256_0_512,
    slab_eq h x7 x8 256 inb_S1024x2816_S1024x256_0_256 inb_S512x2816_S512x256_0_256,
    slab_eq h x7 x8 0 inb_S1024x2816_S1024x256_0_0 inb_S512x2816_S512x256_0_0, trivial⟩

/-- A row of the projected attentions added to the layer's input. -/
def merged (x0 : Vec Ideal S512x1024 .f32) (x1 x2 : Vec Ideal S512x512 .f32) (x3 x4 : Vec Ideal S1x512 .f32) (x5 : Vec Ideal S1024x1024 .bf16)
    (i : Fin 512) : Fin 1024 → EReal :=
  project (fun e => x0 (ix2 i e)) (fun e => x1 (ix2 i e)) (fun e => x2 (ix2 i e)) (fun e => x3 (ix2 0 e)) (fun e => x4 (ix2 0 e)) fun k e => x5 (ix2 k e)

/-- The sum of the input and of the projection, at an index. -/
theorem merged_apply (x0 : Vec Ideal S512x1024 .f32) (x1 x2 : Vec Ideal S512x512 .f32) (x3 x4 : Vec Ideal S1x512 .f32) (x5 : Vec Ideal S1024x1024 .bf16)
    (i : Fin 512) (d : Fin 1024) : k0_pay5 (k0_pay3 x0) (k0_pay4 x1 x3 x2 x4 x5) (ix2 i d) = merged x0 x1 x2 x3 x4 x5 i d := by
  unfold merged project joined normed len512 eps
  pointwise [k0_pay5, k0_pay3, k0_pay4]

/-- The normalised sum, at an index. -/
theorem normed_apply (v35 v39 : FVec Ideal S512x1024 .f32) (g : Vec Ideal S1x1024 .f32) (i : Fin 512) (d : Fin 1024) :
    k0_pay6 v35 v39 g (ix2 i d) = normed len1024 (fun e => k0_pay5 v35 v39 (ix2 i e)) (fun e => g (ix2 0 e)) d := by
  unfold normed len1024 eps
  unfold k0_pay6
  generalize k0_pay5 v35 v39 = s
  pointwise

/-- The output, at an index. -/
theorem out_apply (s : FVec Ideal S512x1024 .f32) (a : Vec Ideal S512x2816 .bf16) (wd : Vec Ideal S2816x1024 .f32) (i : Fin 512) (d : Fin 1024) :
    k0_pay2 s a wd (ix2 i d) = s (ix2 i d) + half * ∑ f : Fin 2816, a (ix2 i f) * wd (ix2 f d) := by
  unfold half
  pointwise [k0_pay2]

/-- The block written, at an index. -/
theorem written_apply (x0 : Vec Ideal S512x1024 .f32) (x1 x2 : Vec Ideal S512x512 .f32) (x3 x4 : Vec Ideal S1x512 .f32) (x5 : Vec Ideal S1024x1024 .bf16)
    (x6 : Vec Ideal S1x1024 .f32) (x7 x8 : Vec Ideal S1024x2816 .f32) (x9 : Vec Ideal S2816x1024 .f32) (i : Fin 512) (d : Fin 1024) :
    written x0 x1 x2 x3 x4 x5 x6 x7 x8 x9 (ix2 i d)
      = step len1024 (merged x0 x1 x2 x3 x4 x5 i) (fun e => x6 (ix2 0 e)) (fun e f => x7 (ix2 e f)) (fun e f => x8 (ix2 e f)) (fun f e => x9 (ix2 f e)) d := by
  unfold written
  rw [out_apply, merged_apply]
  unfold step act
  simp only [ix2_0, ix2_1, normed_apply, merged_apply]

end Cert.OutKernelIdeal.Block

end
-- ==== Proof.Layout.lean ====
module

public import proofs.«01_k».proof.Proof.Swiglu
public import Idealize.ShloMosaic.Lib.Pointwise.IndexVar

/-! The host's reshapes read at an index: rows laid flat, a leading axis of one dropped. -/

@[expose] public section

set_option maxRecDepth 16384

noncomputable section

namespace Cert.Swiglu

open Idealize.ShloMosaic

/-- Rows of two batch entries, laid flat. -/
theorem flat_apply {k : ℕ} (x : FVec Ideal ⟨3, ![2, 8192, k]⟩ .f32) (h : (⟨3, ![2, 8192, k]⟩ : Shape).ShapeCasts ⟨2, ![16384, k]⟩) (r : Fin 16384) (e : Fin k) :
    shapeCast ⟨2, ![16384, k]⟩ x h (ix2 r e) = x (ix3 (entry r) (position r) e) := by
  refine congrArg x (Shape.reshapeEquiv_eq_of_rowMajor _ ?_)
  rw [rowMajor_val3 _ (8192 * k) k rfl rfl, rowMajor_val2 _ k rfl]
  simp only [ix3_0, ix3_1, ix3_2, ix2_0, ix2_1]
  unfold entry position
  have hr : 8192 * (r.val / 8192) + r.val % 8192 = r.val := Nat.div_add_mod r.val 8192
  conv_rhs => rw [← hr]
  ring

/-- A weight array without its leading axis of one. -/
theorem drop_apply {n k : ℕ} (x : FVec Ideal ⟨3, ![1, n, k]⟩ .f32) (h : (⟨3, ![1, n, k]⟩ : Shape).ShapeCasts ⟨2, ![n, k]⟩) (i : Fin n) (e : Fin k) :
    shapeCast ⟨2, ![n, k]⟩ x h (ix2 i e) = x (ix3 0 i e) := by
  refine congrArg x (Shape.reshapeEquiv_eq_of_rowMajor _ ?_)
  rw [rowMajor_val3 _ (n * k) k rfl rfl, rowMajor_val2 _ k rfl]
  simp

end Cert.Swiglu

end
-- ==== Proof.OutArray.lean ====
module

public import proofs.«01_k».proof.Proof.OutBlock
public import proofs.«01_k».proof.Proof.Layout

/-! The blocks that a point of `out_ffn` reads, as entries of the arguments, and the array that the points write. -/

@[expose] public section

set_option maxRecDepth 16384

noncomputable section

namespace Cert.OutKernelIdeal.Block

open Cert.OutKernelIdeal Cert.OutKernelIdeal.Gen Cert.Swiglu
open Idealize.ShloMosaic Idealize.ShloMosaic.TcCoe Idealize.ShloMosaic.Tactic Idealize.ShloMosaic.StableHlo

variable (m : (ℓ : Loc nD τ sig) → Buf (Elt Ideal) ℓ)

/-! What the host lays out for each window. -/

theorem at0 (c : Dev nD) : V m c (Pipeline.arrRef spec0 0) = shapeCast S16384x1024 (m ((c : Thread nD τ).loc main_arg0) : FVec Ideal S2x8192x1024 .f32) shapeCasts_S2x8192x1024_S16384x1024 := by
  simp only [V, hostOps0]
  after_results_simp <;> rfl

theorem at1 (c : Dev nD) : V m c (Pipeline.arrRef spec0 1) = shapeCast S16384x512 (m ((c : Thread nD τ).loc main_arg1) : FVec Ideal S2x8192x512 .f32) shapeCasts_S2x8192x512_S16384x512 := by
  simp only [V, hostOps0]
  after_results_simp <;> rfl

theorem at2 (c : Dev nD) : V m c (Pipeline.arrRef spec0 2) = shapeCast S16384x512 (m ((c : Thread nD τ).loc main_arg2) : FVec Ideal S2x8192x512 .f32) shapeCasts_S2x8192x512_S16384x512 := by
  simp only [V, hostOps0]
  after_results_simp <;> rfl

theorem at3 (c : Dev nD) : V m c (Pipeline.arrRef spec0 3) = shapeCast S1x512 (shapeCast S512 (m ((c : Thread nD τ).loc main_arg3) : FVec Ideal S1x512 .f32) shapeCasts_S1x512_S512) shapeCasts_S512_S1x512 := by
  simp only [V, hostOps0]
  after_results_simp <;> rfl

theorem at4 (c : Dev nD) : V m c (Pipeline.arrRef spec0 4) = shapeCast S1x512 (shapeCast S512 (m ((c : Thread nD τ).loc main_arg4) : FVec Ideal S1x512 .f32) shapeCasts_S1x512_S512) shapeCasts_S512_S1x512 := by
  simp only [V, hostOps0]
  after_results_simp <;> rfl

theorem at5 (c : Dev nD) : V m c (Pipeline.arrRef spec0 5) = truncf (F := Ideal) .bf16 (shapeCast S1024x1024 (m ((c : Thread nD τ).loc main_arg5) : FVec Ideal S1x1024x1024 .f32) shapeCasts_S1x1024x1024_S1024x1024) bitsLt_bf16_f32 := by
  simp only [V, hostOps0]
  after_results_simp <;> rfl

theorem at6 (c : Dev nD) : V m c (Pipeline.arrRef spec0 6) = shapeCast S1x1024 (shapeCast S1024 (m ((c : Thread nD τ).loc main_arg6) : FVec Ideal S1x1024 .f32) shapeCasts_S1x1024_S1024) shapeCasts_S1024_S1x1024 := by
  simp only [V, hostOps0]
  after_results_simp <;> rfl

theorem at7 (c : Dev nD) : V m c (Pipeline.arrRef spec0 7) = shapeCast S1024x2816 (m ((c : Thread nD τ).loc main_arg7) : FVec Ideal S1x1024x2816 .f32) shapeCasts_S1x1024x2816_S1024x2816 := by
  simp only [V, hostOps0]
  after_results_simp <;> rfl

theorem at8 (c : Dev nD) : V m c (Pipeline.arrRef spec0 8) = shapeCast S1024x2816 (m ((c : Thread nD τ).loc main_arg8) : FVec Ideal S1x1024x2816 .f32) shapeCasts_S1x1024x2816_S1024x2816 := by
  simp only [V, hostOps0]
  after_results_simp <;> rfl

theorem at9 (c : Dev nD) : V m c (Pipeline.arrRef spec0 9) = shapeCast S2816x1024 (m ((c : Thread nD τ).loc main_arg9) : FVec Ideal S1x2816x1024 .f32) shapeCasts_S1x2816x1024_S2816x1024 := by
  simp only [V, hostOps0]
  after_results_simp <;> rfl

theorem idx_all : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] := by decide +kernel

/-- A point's row among all the rows. -/
def rowOf (t : Fin cfg0.N) (i : Fin 512) : Fin 16384 := ⟨512 * t.val + i.val, by have h : t.val < 32 := t.isLt; omega⟩

/-! The entries of the blocks. -/

theorem read0 (A : Vec Ideal S16384x1024 .f32) (t : Fin cfg0.N) (i : Fin 512) (e : Fin 1024) :
    ((cfg0.win 0).blk t).view.read (Elt Ideal) A (ix2 i e) = A (ix2 (rowOf t i) e) := by
  blk_simp
  refine congrArg A (funext fun a => Fin.ext ?_)
  refine (Pipeline.Window.rect_emb_val (w := win0_0) t (ix2 i e) a).trans ?_
  rw [(idx_all t).1]
  fin_cases a
  · show t.val * 512 + i.val = 512 * t.val + i.val
    omega
  · show 0 * 1024 + e.val = e.val
    omega

theorem cell0 (c : Dev nD) (t : Fin cfg0.N) (i : Fin 512) (e : Fin 1024) : iblk m c 0 t (ix2 i e) = (m ((c : Thread nD τ).loc main_arg0) : FVec Ideal S2x8192x1024 .f32) (ix3 (entry (rowOf t i)) (position (rowOf t i)) e) := by
  unfold iblk
  rw [at0]
  refine (read0 _ t i e).trans ?_
  exact flat_apply _ _ (rowOf t i) e

theorem read1 (A : Vec Ideal S16384x512 .f32) (t : Fin cfg0.N) (i : Fin 512) (e : Fin 512) :
    ((cfg0.win 1).blk t).view.read (Elt Ideal) A (ix2 i e) = A (ix2 (rowOf t i) e) := by
  blk_simp
  refine congrArg A (funext fun a => Fin.ext ?_)
  refine (Pipeline.Window.rect_emb_val (w := win0_1) t (ix2 i e) a).trans ?_
  rw [(idx_all t).2.1]
  fin_cases a
  · show t.val * 512 + i.val = 512 * t.val + i.val
    omega
  · show 0 * 512 + e.val = e.val
    omega

theorem cell1 (c : Dev nD) (t : Fin cfg0.N) (i : Fin 512) (e : Fin 512) : iblk m c 1 t (ix2 i e) = (m ((c : Thread nD τ).loc main_arg1) : FVec Ideal S2x8192x512 .f32) (ix3 (entry (rowOf t i)) (position (rowOf t i)) e) := by
  unfold iblk
  rw [at1]
  refine (read1 _ t i e).trans ?_
  exact flat_apply _ _ (rowOf t i) e

theorem read2 (A : Vec Ideal S16384x512 .f32) (t : Fin cfg0.N) (i : Fin 512) (e : Fin 512) :
    ((cfg0.win 2).blk t).view.read (Elt Ideal) A (ix2 i e) = A (ix2 (rowOf t i) e) := by
  blk_simp
  refine congrArg A (funext fun a => Fin.ext ?_)
  refine (Pipeline.Window.rect_emb_val (w := win0_2) t (ix2 i e) a).trans ?_
  rw [(idx_all t).2.2.1]
  fin_cases a
  · show t.val * 512 + i.val = 512 * t.val + i.val
    omega
  · show 0 * 512 + e.val = e.val
    omega

theorem cell2 (c : Dev nD) (t : Fin cfg0.N) (i : Fin 512) (e : Fin 512) : iblk m c 2 t (ix2 i e) = (m ((c : Thread nD τ).loc main_arg2) : FVec Ideal S2x8192x512 .f32) (ix3 (entry (rowOf t i)) (position (rowOf t i)) e) := by
  unfold iblk
  rw [at2]
  refine (read2 _ t i e).trans ?_
  exact flat_apply _ _ (rowOf t i) e

theorem read3 (A : Vec Ideal S1x512 .f32) (t : Fin cfg0.N) (e : Fin 512) :
    ((cfg0.win 3).blk t).view.read (Elt Ideal) A (ix2 0 e) = A (ix2 0 e) := by
  blk_simp
  refine congrArg A (funext fun a => Fin.ext ?_)
  refine (Pipeline.Window.rect_emb_val (w := win0_3) t (ix2 0 e) a).trans ?_
  rw [(idx_all t).2.2.2.1]
  fin_cases a
  · show 0 * 1 + 0 = 0
    omega
  · show 0 * 512 + e.val = e.val
    omega

theorem cell3 (c : Dev nD) (t : Fin cfg0.N) (e : Fin 512) : iblk m c 3 t (ix2 0 e) = (m ((c : Thread nD τ).loc main_arg3) : FVec Ideal S1x512 .f32) (ix2 0 e) := by
  unfold iblk
  rw [at3]
  refine (read3 _ t e).trans ?_
  pointwise

theorem read4 (A : Vec Ideal S1x512 .f32) (t : Fin cfg0.N) (e : Fin 512) :
    ((cfg0.win 4).blk t).view.read (Elt Ideal) A (ix2 0 e) = A (ix2 0 e) := by
  blk_simp
  refine congrArg A (funext fun a => Fin.ext ?_)
  refine (Pipeline.Window.rect_emb_val (w := win0_4) t (ix2 0 e) a).trans ?_
  rw [(idx_all t).2.2.2.2.1]
  fin_cases a
  · show 0 * 1 + 0 = 0
    omega
  · show 0 * 512 + e.val = e.val
    omega

theorem cell4 (c : Dev nD) (t : Fin cfg0.N) (e : Fin 512) : iblk m c 4 t (ix2 0 e) = (m ((c : Thread nD τ).loc main_arg4) : FVec Ideal S1x512 .f32) (ix2 0 e) := by
  unfold iblk
  rw [at4]
  refine (read4 _ t e).trans ?_
  pointwise

theorem read5 (A : Vec Ideal S1024x1024 .bf16) (t : Fin cfg0.N) (i : Fin 1024) (e : Fin 1024) :
    ((cfg0.win 5).blk t).view.read (Elt Ideal) A (ix2 i e) = A (ix2 i e) := by
  blk_simp
  refine congrArg A (funext fun a => Fin.ext ?_)
  refine (Pipeline.Window.rect_emb_val (w := win0_5) t (ix2 i e) a).trans ?_
  rw [(idx_all t).2.2.2.2.2.1]
  fin_cases a
  · show 0 * 1024 + i.val = i.val
    omega
  · show 0 * 1024 + e.val = e.val
    omega

theorem cell5 (c : Dev nD) (t : Fin cfg0.N) (i : Fin 1024) (e : Fin 1024) : iblk m c 5 t (ix2 i e) = (m ((c : Thread nD τ).loc main_arg5) : FVec Ideal S1x1024x1024 .f32) (ix3 0 i e) := by
  unfold iblk
  rw [at5]
  refine (read5 _ t i e).trans ?_
  exact drop_apply _ _ i e

theorem read6 (A : Vec Ideal S1x1024 .f32) (t : Fin cfg0.N) (e : Fin 1024) :
    ((cfg0.win 6).blk t).view.read (Elt Ideal) A (ix2 0 e) = A (ix2 0 e) := by
  blk_simp
  refine congrArg A (funext fun a => Fin.ext ?_)
  refine (Pipeline.Window.rect_emb_val (w := win0_6) t (ix2 0 e) a).trans ?_
  rw [(idx_all t).2.2.2.2.2.2.1]
  fin_cases a
  · show 0 * 1 + 0 = 0
    omega
  · show 0 * 1024 + e.val = e.val
    omega

theorem cell6 (c : Dev nD) (t : Fin cfg0.N) (e : Fin 1024) : iblk m c 6 t (ix2 0 e) = (m ((c : Thread nD τ).loc main_arg6) : FVec Ideal S1x1024 .f32) (ix2 0 e) := by
  unfold iblk
  rw [at6]
  refine (read6 _ t e).trans ?_
  pointwise

theorem read7 (A : Vec Ideal S1024x2816 .f32) (t : Fin cfg0.N) (i : Fin 1024) (e : Fin 2816) :
    ((cfg0.win 7).blk t).view.read (Elt Ideal) A (ix2 i e) = A (ix2 i e) := by
  blk_simp
  refine congrArg A (funext fun a => Fin.ext ?_)
  refine (Pipeline.Window.rect_emb_val (w := win0_7) t (ix2 i e) a).trans ?_
  rw [(idx_all t).2.2.2.2.2.2.2.1]
  fin_cases a
  · show 0 * 1024 + i.val = i.val
    omega
  · show 0 * 2816 + e.val = e.val
    omega

theorem cell7 (c : Dev nD) (t : Fin cfg0.N) (i : Fin 1024) (e : Fin 2816) : iblk m c 7 t (ix2 i e) = (m ((c : Thread nD τ).loc main_arg7) : FVec Ideal S1x1024x2816 .f32) (ix3 0 i e) := by
  unfold iblk
  rw [at7]
  refine (read7 _ t i e).trans ?_
  exact drop_apply _ _ i e

theorem read8 (A : Vec Ideal S1024x2816 .f32) (t : Fin cfg0.N) (i : Fin 1024) (e : Fin 2816) :
    ((cfg0.win 8).blk t).view.read (Elt Ideal) A (ix2 i e) = A (ix2 i e) := by
  blk_simp
  refine congrArg A (funext fun a => Fin.ext ?_)
  refine (Pipeline.Window.rect_emb_val (w := win0_8) t (ix2 i e) a).trans ?_
  rw [(idx_all t).2.2.2.2.2.2.2.2.1]
  fin_cases a
  · show 0 * 1024 + i.val = i.val
    omega
  · show 0 * 2816 + e.val = e.val
    omega

theorem cell8 (c : Dev nD) (t : Fin cfg0.N) (i : Fin 1024) (e : Fin 2816) : iblk m c 8 t (ix2 i e) = (m ((c : Thread nD τ).loc main_arg8) : FVec Ideal S1x1024x2816 .f32) (ix3 0 i e) := by
  unfold iblk
  rw [at8]
  refine (read8 _ t i e).trans ?_
  exact drop_apply _ _ i e

theorem read9 (A : Vec Ideal S2816x1024 .f32) (t : Fin cfg0.N) (i : Fin 2816) (e : Fin 1024) :
    ((cfg0.win 9).blk t).view.read (Elt Ideal) A (ix2 i e) = A (ix2 i e) := by
  blk_simp
  refine congrArg A (funext fun a => Fin.ext ?_)
  refine (Pipeline.Window.rect_emb_val (w := win0_9) t (ix2 i e) a).trans ?_
  rw [(idx_all t).2.2.2.2.2.2.2.2.2.1]
  fin_cases a
  · show 0 * 2816 + i.val = i.val
    omega
  · show 0 * 1024 + e.val = e.val
    omega

theorem cell9 (c : Dev nD) (t : Fin cfg0.N) (i : Fin 2816) (e : Fin 1024) : iblk m c 9 t (ix2 i e) = (m ((c : Thread nD τ).loc main_arg9) : FVec Ideal S1x2816x1024 .f32) (ix3 0 i e) := by
  unfold iblk
  rw [at9]
  refine (read9 _ t i e).trans ?_
  exact drop_apply _ _ i e

theorem emb_out (t : Fin cfg0.N) (i : Fin 512) (e : Fin 1024) :
    ((cfg0.win 10).blk t).view.emb (ix2 i e : S512x1024.Idx) = ix2 (rowOf t i) e := by
  refine funext fun a => Fin.ext ?_
  refine (Pipeline.Window.rect_emb_val (w := win0_10) t (ix2 i e) a).trans ?_
  rw [(idx_all t).2.2.2.2.2.2.2.2.2.2]
  fin_cases a
  · show t.val * 512 + i.val = 512 * t.val + i.val
    omega
  · show 0 * 1024 + e.val = e.val
    omega

/-- The output array after the run. -/
theorem final (c : Dev nD) : (dats m 0 c).arrAt 10 cfg0.N = outArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t hf y => ?_
  rw [after0_10, block_eq]
  obtain ⟨i, e, rfl⟩ : ∃ (i : Fin 512) (e : Fin 1024), y = (ix2 i e : S512x1024.Idx) := ⟨y 0, y 1, eq_ix2 (n0 := 512) (n1 := 1024) y⟩
  refine Eq.trans ?_ (congrArg _ (emb_out t i e)).symm
  refine (written_apply _ _ _ _ _ _ _ _ _ _ i e).trans ?_
  unfold merged
  simp only [cell0, cell1, cell2, cell3, cell4, cell5, cell6, cell7, cell8, cell9]
  rfl

end Cert.OutKernelIdeal.Block

end
-- ==== Proof.OutReference.lean ====
module

public import proofs.«01_k».proof.Proof.Gen.OutReferenceIdeal.Run
public import proofs.«01_k».proof.Proof.Layout
public import Idealize.ShloMosaic.Lib.Pipeline.ValueKit

/-! The result of the plain projection and second feed-forward, a row at a time. -/

@[expose] public section

set_option maxRecDepth 16384

noncomputable section

namespace Cert.OutReferenceIdeal.Rows

open Cert.OutReferenceIdeal Cert.OutReferenceIdeal.Gen Cert.Swiglu
open Idealize.ShloMosaic Idealize.ShloMosaic.TcCoe Idealize.ShloMosaic.Tactic

/-- The normalised rows. -/
def normV (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf
      (Host.divf (broadcastInDim S2x8192x1 ![0, 1] bcast_S2x8192_S2x8192x1_0_1
        (Host.reduceAdd (mulf x x) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast _ g shapeCasts_S1x1024_S1024)))

/-- An attention's normalised rows. -/
def halfV (x : FVec Ideal S2x8192x512 .f32) (g : FVec Ideal S1x512 .f32) : FVec Ideal S2x8192x512 .f32 :=
  mulf (mulf x (broadcastInDim S2x8192x512 ![0, 1, 2] bcast_S2x8192x1_S2x8192x512_0_1_2 (Host.rsqrt (addf
      (Host.divf (broadcastInDim S2x8192x1 ![0, 1] bcast_S2x8192_S2x8192x1_0_1
        (Host.reduceAdd (mulf x x) (constant S_ .f32 0x00000000#32) reducesTo_S2x8192x512_S2x8192_d2 h_S_))
        (broadcastInDim S2x8192x1 ![] bcast_S_S2x8192x1 (constant S_ .f32 0x44000000#32)))
      (broadcastInDim S2x8192x1 ![] bcast_S_S2x8192x1 (constant S_ .f32 0x358637BD#32))))))
    (broadcastInDim S2x8192x512 ![0, 1, 2] bcast_S1x1x512_S2x8192x512_0_1_2 (broadcastInDim S1x1x512 ![2] bcast_S512_S1x1x512_2
      (shapeCast _ g shapeCasts_S1x512_S512)))

/-- The rows plus the projection of two attentions' rows side by side. -/
def mergeV (x : FVec Ideal S2x8192x1024 .f32) (a b : FVec Ideal S2x8192x512 .f32) (w : FVec Ideal S1x1024x1024 .f32) : FVec Ideal S2x8192x1024 .f32 :=
  addf x (Host.dotGeneral dot_S2x8192x1024_S1024x1024_S2x8192x1024_2_0_01_1_n_n none
    (concatenate S2x8192x1024 2 [⟨S2x8192x512, a⟩, ⟨S2x8192x512, b⟩] concatenates_S2x8192x512_S2x8192x512_S2x8192x1024_d2)
    (shapeCast _ w shapeCasts_S1x1024x1024_S1024x1024))

/-- A product with a weight array. -/
def upV (h : FVec Ideal S2x8192x1024 .f32) (w : FVec Ideal S1x1024x2816 .f32) : FVec Ideal S2x8192x2816 .f32 :=
  Host.dotGeneral dot_S2x8192x1024_S1024x2816_S2x8192x2816_2_0_01_1_n_n none h (shapeCast _ w shapeCasts_S1x1024x2816_S1024x2816)

/-- The gate's products. -/
def gateV (a b : FVec Ideal S2x8192x2816 .f32) : FVec Ideal S2x8192x2816 .f32 :=
  mulf (mulf a (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf a))))) b

/-- The rows plus half of the product with the last weights. -/
def stepV (x : FVec Ideal S2x8192x1024 .f32) (a : FVec Ideal S2x8192x2816 .f32) (w : FVec Ideal S1x2816x1024 .f32) : FVec Ideal S2x8192x1024 .f32 :=
  addf x (mulf (broadcastInDim S2x8192x1024 ![] bcast_S_S2x8192x1024 (constant S_ .f32 0x3F000000#32))
    (Host.dotGeneral dot_S2x8192x2816_S2816x1024_S2x8192x1024_2_0_01_1_n_n none a (shapeCast _ w shapeCasts_S1x2816x1024_S2816x1024)))

theorem norm_apply (x : FVec Ideal S2x8192x1024 .f32) (g : FVec Ideal S1x1024 .f32) (b : Fin 2) (s : Fin 8192) (d : Fin 1024) :
    normV x g (ix3 b s d) = normed len1024 (fun e => x (ix3 b s e)) (fun e => g (ix2 0 e)) d := by
  unfold normed len1024 eps
  pointwise [normV]

theorem up_apply (h : FVec Ideal S2x8192x1024 .f32) (w : FVec Ideal S1x1024x2816 .f32) (b : Fin 2) (s : Fin 8192) (f : Fin 2816) :
    upV h w (ix3 b s f) = ∑ e : Fin 1024, h (ix3 b s e) * w (ix3 0 e f) := by
  pointwise [upV]

theorem gate_apply (a b : FVec Ideal S2x8192x2816 .f32) (i : S2x8192x2816.Idx) : gateV a b i = silu (a i) * b i := rfl

theorem step_apply (x : FVec Ideal S2x8192x1024 .f32) (a : FVec Ideal S2x8192x2816 .f32) (w : FVec Ideal S1x2816x1024 .f32)
    (b : Fin 2) (s : Fin 8192) (d : Fin 1024) :
    stepV x a w (ix3 b s d) = x (ix3 b s d) + half * ∑ f : Fin 2816, a (ix3 b s f) * w (ix3 0 f d) := by
  unfold half
  pointwise [stepV]

theorem half_apply (x : FVec Ideal S2x8192x512 .f32) (g : FVec Ideal S1x512 .f32) (b : Fin 2) (s : Fin 8192) (d : Fin 512) :
    halfV x g (ix3 b s d) = normed len512 (fun e => x (ix3 b s e)) (fun e => g (ix2 0 e)) d := by
  unfold normed len512 eps
  pointwise [halfV]

theorem merge_apply (x : FVec Ideal S2x8192x1024 .f32) (u v : FVec Ideal S2x8192x512 .f32) (w : FVec Ideal S1x1024x1024 .f32)
    (b : Fin 2) (s : Fin 8192) (d : Fin 1024) :
    mergeV x u v w (ix3 b s d)
      = x (ix3 b s d) + ∑ k : Fin 1024, joined (fun e => u (ix3 b s e)) (fun e => v (ix3 b s e)) k * w (ix3 0 k d) := by
  unfold joined
  pointwise [mergeV]

/-- The merged rows are the rows' projections. -/
theorem project_apply (x : FVec Ideal S2x8192x1024 .f32) (od om : FVec Ideal S2x8192x512 .f32) (gd gm : FVec Ideal S1x512 .f32) (wo : FVec Ideal S1x1024x1024 .f32)
    (b : Fin 2) (s : Fin 8192) (d : Fin 1024) :
    mergeV x (halfV od gd) (halfV om gm) wo (ix3 b s d)
      = project (fun e => x (ix3 b s e)) (fun e => od (ix3 b s e)) (fun e => om (ix3 b s e)) (fun e => gd (ix2 0 e)) (fun e => gm (ix2 0 e)) (fun k e => wo (ix3 0 k e)) d := by
  rw [merge_apply]
  simp only [half_apply]
  rfl

/-- The result is the array of the rows' values. -/
theorem result_eq (x : FVec Ideal S2x8192x1024 .f32) (od om : FVec Ideal S2x8192x512 .f32) (gd gm : FVec Ideal S1x512 .f32) (wo : FVec Ideal S1x1024x1024 .f32)
    (g : FVec Ideal S1x1024 .f32) (wg wu : FVec Ideal S1x1024x2816 .f32) (wd : FVec Ideal S1x2816x1024 .f32) :
    shapeCast S16384x1024 (stepV (mergeV x (halfV od gd) (halfV om gm) wo) (gateV (upV (normV (mergeV x (halfV od gd) (halfV om gm) wo) g) wg)
      (upV (normV (mergeV x (halfV od gd) (halfV om gm) wo) g) wu)) wd) shapeCasts_S2x8192x1024_S16384x1024 = outArray x od om gd gm wo g wg wu wd := by
  funext y
  obtain ⟨r, d, rfl⟩ : ∃ (r : Fin 16384) (d : Fin 1024), y = ix2 r d := ⟨y 0, y 1, eq_ix2 y⟩
  rw [flat_apply, step_apply]
  simp only [gate_apply, up_apply, norm_apply, project_apply]
  rfl

/-- The run's result. -/
theorem res_eq (m : (ℓ : Loc nD τ sig) → Buf (Elt Ideal) ℓ) (c : Dev nD) :
    Value.res_main_v57 m c = outArray (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  rw [← result_eq]
  rfl

end Cert.OutReferenceIdeal.Rows

end
-- ==== Proof.FfnBlock.lean ====
module

public import proofs.«01_k».proof.Proof.Gen.FfnKernelIdeal.Value
public import proofs.«01_k».proof.Proof.Pieces

/-! The block that a point of `ffn` writes, two tiles of rows, from the blocks that it reads. -/

@[expose] public section

set_option maxRecDepth 16384

noncomputable section

namespace Cert.FfnKernelIdeal.Block

open Cert.FfnKernelIdeal Cert.FfnKernelIdeal.Gen Cert.Swiglu
open Idealize.ShloMosaic Idealize.ShloMosaic.TcCoe Idealize.ShloMosaic.Tactic

/-- One piece: 256 columns of the gate's products. The others of both tiles are the same function. -/
theorem first1 (h : FVec Ideal S512x1024 .bf16) (a b : Vec Ideal S1024x256 .f32) : k0_pay6 h a b = slab h a b := by
  funext y
  obtain ⟨i, j, rfl⟩ : ∃ (i : Fin 512) (j : Fin 256), y = ix2 i j := ⟨y 0, y 1, eq_ix2 y⟩
  unfold slab products
  rw [← gated_eq]
  unfold gated half
  pointwise [k0_pay6]

theorem first0 (x : Vec Ideal S512x1024 .f32) (g : Vec Ideal S1x1024 .f32) (a b : Vec Ideal S1024x256 .f32) :
    k0_pay5 x g a b = slab (k0_pay4 x g) a b := first1 _ a b
theorem first2 (h : FVec Ideal S512x1024 .bf16) (a b : Vec Ideal S1024x256 .f32) :
    k0_pay8 (k0_pay7 h a b) = slab h a b := first1 h a b
theorem first3 (h : FVec Ideal S512x1024 .bf16) (a b : Vec Ideal S1024x256 .f32) :
    k0_pay9 h a b = slab h a b := first1 h a b
theorem first4 (h : FVec Ideal S512x1024 .bf16) (a b : Vec Ideal S1024x256 .f32) :
    k0_pay14 (k0_pay10 h a) (k0_pay11 h b) (k0_pay12 h a) k0_pay13 = slab h a b := first1 h a b
theorem first5 (h : FVec Ideal S512x1024 .bf16) (a b : Vec Ideal S1024x256 .f32) :
    k0_pay15 h a b = slab h a b := first1 h a b
theorem first6 (h : FVec Ideal S512x1024 .bf16) (a b : Vec Ideal S1024x256 .f32) :
    k0_pay19 (k0_pay16 h a) (k0_pay17 h b) (k0_pay18 h a) = slab h a b := first1 h a b
theorem first7 (h : FVec Ideal S512x1024 .bf16) (a b : Vec Ideal S1024x256 .f32) :
    k0_pay20 h a b = slab h a b := first1 h a b
theorem first8 (h : FVec Ideal S512x1024 .bf16) (a b : Vec Ideal S1024x256 .f32) :
    k0_pay23 h (k0_pay21 h a) (k0_pay22 b) = slab h a b := first1 h a b
theorem first9 (h : FVec Ideal S512x1024 .bf16) (a b : Vec Ideal S1024x256 .f32) :
    k0_pay24 h a b = slab h a b := first1 h a b
theorem first10 (h : FVec Ideal S512x1024 .bf16) (a b : Vec Ideal S1024x256 .f32) :
    k0_pay26 h (k0_pay25 a) b = slab h a b := first1 h a b
theorem second0 (x : Vec Ideal S512x1024 .f32) (g : Vec Ideal S1x1024 .f32) (a b : Vec Ideal S1024x256 .f32) :
    k0_pay33 (k0_pay28 x) (k0_pay29 g) (k0_pay30 x) k0_pay31 a b = slab (k0_pay4 x g) a b := first1 _ a b
theorem second1 (x : Vec Ideal S512x1024 .f32) (g : Vec Ideal S1x1024 .f32) (a b : Vec Ideal S1024x256 .f32) :
    k0_pay37 (k0_pay34 (k0_pay28 x) (k0_pay29 g) (k0_pay30 x) k0_pay31 a) (k0_pay35 (k0_pay28 x) (k0_pay29 g) (k0_pay30 x) k0_pay31 b) (k0_pay36 (k0_pay28 x) (k0_pay29 g) (k0_pay30 x) k0_pay31 a) = slab (k0_pay4 x g) a b := first1 _ a b
theorem second2 (h : FVec Ideal S512x1024 .bf16) (a b : Vec Ideal S1024x256 .f32) :
    k0_pay38 h a b = slab h a b := first1 h a b
theorem second3 (h : FVec Ideal S512x1024 .bf16) (a b : Vec Ideal S1024x256 .f32) :
    k0_pay41 h (k0_pay39 h a) (k0_pay40 b) = slab h a b := first1 h a b
theorem second4 (h : FVec Ideal S512x1024 .bf16) (a b : Vec Ideal S1024x256 .f32) :
    k0_pay42 h a b = slab h a b := first1 h a b
theorem second5 (h : FVec Ideal S512x1024 .bf16) (a b : Vec Ideal S1024x256 .f32) :
    k0_pay44 h (k0_pay43 a) b = slab h a b := first1 h a b
theorem second6 (h : FVec Ideal S512x1024 .bf16) (a b : Vec Ideal S1024x256 .f32) :
    k0_pay45 h a b = slab h a b := first1 h a b
theorem second7 (h : FVec Ideal S512x1024 .bf16) (a b : Vec Ideal S1024x256 .f32) :
    k0_pay46 h a b = slab h a b := first1 h a b
theorem second8 (h : FVec Ideal S512x1024 .bf16) (a b : Vec Ideal S1024x256 .f32) :
    k0_pay48 (k0_pay47 h a b) = slab h a b := first1 h a b
theorem second9 (h : FVec Ideal S512x1024 .bf16) (a b : Vec Ideal S1024x256 .f32) :
    k0_pay49 h a b = slab h a b := first1 h a b
theorem second10 (h : FVec Ideal S512x1024 .bf16) (a b : Vec Ideal S1024x256 .f32) :
    k0_pay1 (k0_pay50 h a) (k0_pay51 h b) (k0_pay52 h a) k0_pay53 = slab h a b := first1 h a b

/-- The second tile's normalised rows are the first tile's function of its rows. -/
theorem second_rows (x : Vec Ideal S512x1024 .f32) (g : Vec Ideal S1x1024 .f32) : k0_pay32 (k0_pay28 x) (k0_pay29 g) (k0_pay30 x) k0_pay31 = k0_pay4 x g := rfl

/-- A tile's rows. -/
def tile (x : Vec Ideal S512x1024 .f32) (g : Vec Ideal S1x1024 .f32) (wg wu : Vec Ideal S1024x2816 .f32) (wd : Vec Ideal S2816x1024 .f32) :
    FVec Ideal S512x1024 .f32 :=
  k0_pay27 (k0_pay3 x) (act (k0_pay4 x g) wg wu) wd

/-- The normalised rows, at an index. -/
theorem normed_apply (x : Vec Ideal S512x1024 .f32) (g : Vec Ideal S1x1024 .f32) (i : Fin 512) (d : Fin 1024) :
    k0_pay4 x g (ix2 i d) = normed len1024 (fun e => x (ix2 i e)) (fun e => g (ix2 0 e)) d := by
  unfold normed len1024 eps
  pointwise [k0_pay4, k0_pay3]

/-- A tile's output, at an index. -/
theorem out_apply (x : Vec Ideal S512x1024 .f32) (a : Vec Ideal S512x2816 .bf16) (wd : Vec Ideal S2816x1024 .f32) (i : Fin 512) (d : Fin 1024) :
    k0_pay27 (k0_pay3 x) a wd (ix2 i d) = x (ix2 i d) + half * ∑ f : Fin 2816, a (ix2 i f) * wd (ix2 f d) := by
  unfold half
  pointwise [k0_pay27, k0_pay3]

theorem tile_apply (x : Vec Ideal S512x1024 .f32) (g : Vec Ideal S1x1024 .f32) (wg wu : Vec Ideal S1024x2816 .f32) (wd : Vec Ideal S2816x1024 .f32)
    (i : Fin 512) (d : Fin 1024) : tile x g wg wu wd (ix2 i d)
      = step len1024 (fun e => x (ix2 i e)) (fun e => g (ix2 0 e)) (fun e f => wg (ix2 e f)) (fun e f => wu (ix2 e f)) (fun f e => wd (ix2 f e)) d := by
  unfold tile
  rw [out_apply]
  unfold step act
  simp only [ix2_0, ix2_1, normed_apply]

/-- The block written, over the blocks read: every row by itself. -/
def written (x0 : Vec Ideal S1024x1024 .f32) (g : Vec Ideal S1x1024 .f32) (wg wu : Vec Ideal S1024x2816 .f32) (wd : Vec Ideal S2816x1024 .f32) :
    Vec Ideal S1024x1024 .f32 := fun y =>
  step len1024 (fun e : Fin 1024 => x0 (ix2 (y 0) e)) (fun e => g (ix2 0 e)) (fun e (f : Fin 2816) => wg (ix2 e f)) (fun e f => wu (ix2 e f)) (fun f e => wd (ix2 f e)) (y 1)

theorem written_apply (x0 : Vec Ideal S1024x1024 .f32) (g : Vec Ideal S1x1024 .f32) (wg wu : Vec Ideal S1024x2816 .f32) (wd : Vec Ideal S2816x1024 .f32)
    (i d : Fin 1024) : written x0 g wg wu wd (ix2 i d)
      = step len1024 (fun e => x0 (ix2 i e)) (fun e => g (ix2 0 e)) (fun e f => wg (ix2 e f)) (fun e f => wu (ix2 e f)) (fun f e => wd (ix2 f e)) d := rfl

/-- A tile of loaded rows is the block's function at the tile's place. -/
theorem tile_eq (x0 : Vec Ideal S1024x1024 .f32) (g : Vec Ideal S1x1024 .f32) (wg wu : Vec Ideal S1024x2816 .f32) (wd : Vec Ideal S2816x1024 .f32)
    (o : ℕ) (hs : ∀ a, (![o, 0] : Fin 2 → ℕ) a + (![512, 1024] : Fin 2 → ℕ) a ≤ S1024x1024.size a) (x : S512x1024.Idx) :
    tile (View.ld (Val := Elt Ideal) (e' := .f32) x0 (Rect.unit (s := S1024x1024) ![o, 0] ![512, 1024] hs)) g wg wu wd x
      = written x0 g wg wu wd ((Rect.unit (s := S1024x1024) ![o, 0] ![512, 1024] hs).emb x) := by
  obtain ⟨i, d, rfl⟩ : ∃ (i : Fin 512) (d : Fin 1024), x = ix2 i d := ⟨x 0, x 1, eq_ix2 x⟩
  have ho : o + 512 ≤ 1024 := hs 0
  have hi : o + i.val < 1024 := by omega
  have e : ∀ d : Fin 1024, (Rect.unit (s := S1024x1024) ![o, 0] ![512, 1024] hs).emb (ix2 i d : S512x1024.Idx) = ix2 ⟨o + i.val, hi⟩ d := fun d => funext fun a => Fin.ext (by
    refine (Rect.idx_unit_val ![o, 0] ![512, 1024] hs (ix2 i d : S512x1024.Idx) a).trans ?_
    fin_cases a
    · rfl
    · show 0 + d.val = d.val
      omega)
  rw [tile_apply, e, written_apply]
  have hl : ∀ d : Fin 1024, View.ld (Val := Elt Ideal) (e' := .f32) x0 (Rect.unit (s := S1024x1024) ![o, 0] ![512, 1024] hs) (ix2 i d : S512x1024.Idx)
      = x0 (ix2 ⟨o + i.val, hi⟩ d) := fun d => congrArg x0 (e d)
  simp only [hl]

/-- The pieces that a tile stores are the array of products at their places. -/
theorem pieces_eq (h : FVec Ideal S512x1024 .bf16) (wg wu : Vec Ideal S1024x2816 .f32) :
    View.PiecesOf (act h wg wu) ([⟨Rect.unit ![0, 2560] ![512, 256] inb_S512x2816_S512x256_0_2560, slab h (View.ld wg (Rect.unit ![0, 2560] ![1024, 256] inb_S1024x2816_S1024x256_0_2560)) (View.ld wu (Rect.unit ![0, 2560] ![1024, 256] inb_S1024x2816_S1024x256_0_2560))⟩,⟨Rect.unit ![0, 2304] ![512, 256] inb_S512x2816_S512x256_0_2304, slab h (View.ld wg (Rect.unit ![0, 2304] ![1024, 256] inb_S1024x2816_S1024x256_0_2304)) (View.ld wu (Rect.unit ![0, 2304] ![1024, 256] inb_S1024x2816_S1024x256_0_2304))⟩,⟨Rect.unit ![0, 2048] ![512, 256] inb_S512x2816_S512x256_0_2048, slab h (View.ld wg (Rect.unit ![0, 2048] ![1024, 256] inb_S1024x2816_S1024x256_0_2048)) (View.ld wu (Rect.unit ![0, 2048] ![1024, 256] inb_S1024x2816_S1024x256_0_2048))⟩,⟨Rect.unit ![0, 1792] ![512, 256] inb_S512x2816_S512x256_0_1792, slab h (View.ld wg (Rect.unit ![0, 1792] ![1024, 256] inb_S1024x2816_S1024x256_0_1792)) (View.ld wu (Rect.unit ![0, 1792] ![1024, 256] inb_S1024x2816_S1024x256_0_1792))⟩,⟨Rect.unit ![0, 1536] ![512, 256] inb_S512x2816_S512x256_0_1536, slab h (View.ld wg (Rect.unit ![0, 1536] ![1024, 256] inb_S1024x2816_S1024x256_0_1536)) (View.ld wu (Rect.unit ![0, 1536] ![1024, 256] inb_S1024x2816_S1024x256_0_1536))⟩,⟨Rect.unit ![0, 1280] ![512, 256] inb_S512x2816_S512x256_0_1280, slab h (View.ld wg (Rect.unit ![0, 1280] ![1024, 256] inb_S1024x2816_S1024x256_0_1280)) (View.ld wu (Rect.unit ![0, 1280] ![1024, 256] inb_S1024x2816_S1024x256_0_1280))⟩,⟨Rect.unit ![0, 1024] ![512, 256] inb_S512x2816_S512x256_0_1024, slab h (View.ld wg (Rect.unit ![0, 1024] ![1024, 256] inb_S1024x2816_S1024x256_0_1024)) (View.ld wu (Rect.unit ![0, 1024] ![1024, 256] inb_S1024x2816_S1024x256_0_1024))⟩,⟨Rect.unit ![0, 768] ![512, 256] inb_S512x2816_S512x256_0_768, slab h (View.ld wg (Rect.unit ![0, 768] ![1024, 256] inb_S1024x2816_S1024x256_0_768)) (View.ld wu (Rect.unit ![0, 768] ![1024, 256] inb_S1024x2816_S1024x256_0_768))⟩,⟨Rect.unit ![0, 512] ![512, 256] inb_S512x2816_S512x256_0_512, slab h (View.ld wg (Rect.unit ![0, 512] ![1024, 256] inb_S1024x2816_S1024x256_0_512)) (View.ld wu (Rect.unit ![0, 512] ![1024, 256] inb_S1024x2816_S1024x256_0_512))⟩,⟨Rect.unit ![0, 256] ![512, 256] inb_S512x2816_S512x256_0_256, slab h (View.ld wg (Rect.unit ![0, 256] ![1024, 256] inb_S1024x2816_S1024x256_0_256)) (View.ld wu (Rect.unit ![0, 256] ![1024, 256] inb_S1024x2816_S1024x256_0_256))⟩,⟨Rect.unit ![0, 0] ![512, 256] inb_S512x2816_S512x256_0_0, slab h (View.ld wg (Rect.unit ![0, 0] ![1024, 256] inb_S1024x2816_S1024x256_0_0)) (View.ld wu (Rect.unit ![0, 0] ![1024, 256] inb_S1024x2816_S1024x256_0_0))⟩] : List (View.Piece (Elt Ideal) S512x2816 .bf16)) :=
  ⟨slab_eq h wg wu 2560 inb_S1024x2816_S1024x256_0_2560 inb_S512x2816_S512x256_0_2560,
    slab_eq h wg wu 2304 inb_S1024x2816_S1024x256_0_2304 inb_S512x2816_S512x256_0_2304,
    slab_eq h wg wu 2048 inb_S1024x2816_S1024x256_0_2048 inb_S512x2816_S512x256_0_2048,
    slab_eq h wg wu 1792 inb_S1024x2816_S1024x256_0_1792 inb_S512x2816_S512x256_0_1792,
    slab_eq h wg wu 1536 inb_S1024x2816_S1024x256_0_1536 inb_S512x2816_S512x256_0_1536,
    slab_eq h wg wu 1280 inb_S1024x2816_S1024x256_0_1280 inb_S512x2816_S512x256_0_1280,
    slab_eq h wg wu 1024 inb_S1024x2816_S1024x256_0_1024 inb_S512x2816_S512x256_0_1024,
    slab_eq h wg wu 768 inb_S1024x2816_S1024x256_0_768 inb_S512x2816_S512x256_0_768,
    slab_eq h wg wu 512 inb_S1024x2816_S1024x256_0_512 inb_S512x2816_S512x256_0_512,
    slab_eq h wg wu 256 inb_S1024x2816_S1024x256_0_256 inb_S512x2816_S512x256_0_256,
    slab_eq h wg wu 0 inb_S1024x2816_S1024x256_0_0 inb_S512x2816_S512x256_0_0, trivial⟩

theorem block_eq (m : (ℓ : Loc nD τ sig) → Buf (Elt Ideal) ℓ) (c : Dev nD) (t : Fin cfg0.N) :
    outsAt0 m c t = written (iblk m c 0 t) (iblk m c 1 t) (iblk m c 2 t) (iblk m c 3 t) (iblk m c 4 t) := by
  unfold outsAt0
  generalize (iblk m c 0 t) = x0
  generalize (iblk m c 1 t) = x1
  generalize (iblk m c 2 t) = x2
  generalize (iblk m c 3 t) = x3
  generalize (iblk m c 4 t) = x4
  frame_out
  simp only [second_rows, first1, first0, first2, first3, first4, first5, first6, first7, first8, first9, first10, second0, second1, second2, second3, second4, second5, second6, second7, second8, second9, second10]
  funext y
  refine View.canon_apply_of_pieces (written x0 x1 x2 x3 x4) _ ?_ y (View.cover_of_tiledL _ ![512, 1024] (by rfl) y)
  refine View.PiecesOf.mem (L := [_, _]) ⟨fun x => ?_, fun x => ?_, trivial⟩
  · refine Eq.trans (congrFun ?_ x) (tile_eq x0 x1 x2 x3 x4 512 inb_S1024x1024_S512x1024_512_0 x)
    refine congrArg (fun a => k0_pay27 (k0_pay3 _) a x4) ?_
    refine whole_eq _ (act (k0_pay4 _ x1) x2 x3) _ ?_ (by rfl) _
    exact pieces_eq _ x2 x3
  · refine Eq.trans (congrFun ?_ x) (tile_eq x0 x1 x2 x3 x4 0 inb_S1024x1024_S512x1024_0_0 x)
    refine congrArg (fun a => k0_pay27 (k0_pay3 _) a x4) ?_
    refine whole_eq _ (act (k0_pay4 _ x1) x2 x3) _ ?_ (by rfl) _
    exact pieces_eq _ x2 x3

end Cert.FfnKernelIdeal.Block

end
-- ==== Proof.FfnArray.lean ====
module

public import proofs.«01_k».proof.Proof.FfnBlock
public import proofs.«01_k».proof.Proof.Layout

/-! The blocks that a point of `ffn` reads, as entries of the arguments, and the array that the points write. -/

@[expose] public section

set_option maxRecDepth 16384

noncomputable section

namespace Cert.FfnKernelIdeal.Block

open Cert.FfnKernelIdeal Cert.FfnKernelIdeal.Gen Cert.Swiglu
open Idealize.ShloMosaic Idealize.ShloMosaic.TcCoe Idealize.ShloMosaic.Tactic Idealize.ShloMosaic.StableHlo

variable (m : (ℓ : Loc nD τ sig) → Buf (Elt Ideal) ℓ)

/-! What the host lays out for each window. -/

theorem at0 (c : Dev nD) : V m c (Pipeline.arrRef spec0 0) = shapeCast S16384x1024 (m ((c : Thread nD τ).loc main_arg0) : FVec Ideal S2x8192x1024 .f32) shapeCasts_S2x8192x1024_S16384x1024 := by
  simp only [V, hostOps0]
  after_results_simp <;> rfl

theorem at1 (c : Dev nD) : V m c (Pipeline.arrRef spec0 1) = shapeCast S1x1024 (shapeCast S1024 (m ((c : Thread nD τ).loc main_arg1) : FVec Ideal S1x1024 .f32) shapeCasts_S1x1024_S1024) shapeCasts_S1024_S1x1024 := by
  simp only [V, hostOps0]
  after_results_simp <;> rfl

theorem at2 (c : Dev nD) : V m c (Pipeline.arrRef spec0 2) = shapeCast S1024x2816 (m ((c : Thread nD τ).loc main_arg2) : FVec Ideal S1x1024x2816 .f32) shapeCasts_S1x1024x2816_S1024x2816 := by
  simp only [V, hostOps0]
  after_results_simp <;> rfl

theorem at3 (c : Dev nD) : V m c (Pipeline.arrRef spec0 3) = shapeCast S1024x2816 (m ((c : Thread nD τ).loc main_arg3) : FVec Ideal S1x1024x2816 .f32) shapeCasts_S1x1024x2816_S1024x2816 := by
  simp only [V, hostOps0]
  after_results_simp <;> rfl

theorem at4 (c : Dev nD) : V m c (Pipeline.arrRef spec0 4) = shapeCast S2816x1024 (m ((c : Thread nD τ).loc main_arg4) : FVec Ideal S1x2816x1024 .f32) shapeCasts_S1x2816x1024_S2816x1024 := by
  simp only [V, hostOps0]
  after_results_simp <;> rfl

theorem idx_all : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] := by decide +kernel

/-- A point's row among all the rows. -/
def rowOf (t : Fin cfg0.N) (i : Fin 1024) : Fin 16384 := ⟨1024 * t.val + i.val, by have h : t.val < 16 := t.isLt; omega⟩

/-! The entries of the blocks. -/

theorem read0 (A : Vec Ideal S16384x1024 .f32) (t : Fin cfg0.N) (i : Fin 1024) (e : Fin 1024) :
    ((cfg0.win 0).blk t).view.read (Elt Ideal) A (ix2 i e) = A (ix2 (rowOf t i) e) := by
  blk_simp
  refine congrArg A (funext fun a => Fin.ext ?_)
  refine (Pipeline.Window.rect_emb_val (w := win0_0) t (ix2 i e) a).trans ?_
  rw [(idx_all t).1]
  fin_cases a
  · show t.val * 1024 + i.val = 1024 * t.val + i.val
    omega
  · show 0 * 1024 + e.val = e.val
    omega

theorem cell0 (c : Dev nD) (t : Fin cfg0.N) (i : Fin 1024) (e : Fin 1024) : iblk m c 0 t (ix2 i e) = (m ((c : Thread nD τ).loc main_arg0) : FVec Ideal S2x8192x1024 .f32) (ix3 (entry (rowOf t i)) (position (rowOf t i)) e) := by
  unfold iblk
  rw [at0]
  refine (read0 _ t i e).trans ?_
  exact flat_apply _ _ (rowOf t i) e

theorem read1 (A : Vec Ideal S1x1024 .f32) (t : Fin cfg0.N) (e : Fin 1024) :
    ((cfg0.win 1).blk t).view.read (Elt Ideal) A (ix2 0 e) = A (ix2 0 e) := by
  blk_simp
  refine congrArg A (funext fun a => Fin.ext ?_)
  refine (Pipeline.Window.rect_emb_val (w := win0_1) t (ix2 0 e) a).trans ?_
  rw [(idx_all t).2.1]
  fin_cases a
  · show 0 * 1 + 0 = 0
    omega
  · show 0 * 1024 + e.val = e.val
    omega

theorem cell1 (c : Dev nD) (t : Fin cfg0.N) (e : Fin 1024) : iblk m c 1 t (ix2 0 e) = (m ((c : Thread nD τ).loc main_arg1) : FVec Ideal S1x1024 .f32) (ix2 0 e) := by
  unfold iblk
  rw [at1]
  refine (read1 _ t e).trans ?_
  pointwise

theorem read2 (A : Vec Ideal S1024x2816 .f32) (t : Fin cfg0.N) (i : Fin 1024) (e : Fin 2816) :
    ((cfg0.win 2).blk t).view.read (Elt Ideal) A (ix2 i e) = A (ix2 i e) := by
  blk_simp
  refine congrArg A (funext fun a => Fin.ext ?_)
  refine (Pipeline.Window.rect_emb_val (w := win0_2) t (ix2 i e) a).trans ?_
  rw [(idx_all t).2.2.1]
  fin_cases a
  · show 0 * 1024 + i.val = i.val
    omega
  · show 0 * 2816 + e.val = e.val
    omega

theorem cell2 (c : Dev nD) (t : Fin cfg0.N) (i : Fin 1024) (e : Fin 2816) : iblk m c 2 t (ix2 i e) = (m ((c : Thread nD τ).loc main_arg2) : FVec Ideal S1x1024x2816 .f32) (ix3 0 i e) := by
  unfold iblk
  rw [at2]
  refine (read2 _ t i e).trans ?_
  exact drop_apply _ _ i e

theorem read3 (A : Vec Ideal S1024x2816 .f32) (t : Fin cfg0.N) (i : Fin 1024) (e : Fin 2816) :
    ((cfg0.win 3).blk t).view.read (Elt Ideal) A (ix2 i e) = A (ix2 i e) := by
  blk_simp
  refine congrArg A (funext fun a => Fin.ext ?_)
  refine (Pipeline.Window.rect_emb_val (w := win0_3) t (ix2 i e) a).trans ?_
  rw [(idx_all t).2.2.2.1]
  fin_cases a
  · show 0 * 1024 + i.val = i.val
    omega
  · show 0 * 2816 + e.val = e.val
    omega

theorem cell3 (c : Dev nD) (t : Fin cfg0.N) (i : Fin 1024) (e : Fin 2816) : iblk m c 3 t (ix2 i e) = (m ((c : Thread nD τ).loc main_arg3) : FVec Ideal S1x1024x2816 .f32) (ix3 0 i e) := by
  unfold iblk
  rw [at3]
  refine (read3 _ t i e).trans ?_
  exact drop_apply _ _ i e

theorem read4 (A : Vec Ideal S2816x1024 .f32) (t : Fin cfg0.N) (i : Fin 2816) (e : Fin 1024) :
    ((cfg0.win 4).blk t).view.read (Elt Ideal) A (ix2 i e) = A (ix2 i e) := by
  blk_simp
  refine congrArg A (funext fun a => Fin.ext ?_)
  refine (Pipeline.Window.rect_emb_val (w := win0_4) t (ix2 i e) a).trans ?_
  rw [(idx_all t).2.2.2.2.1]
  fin_cases a
  · show 0 * 2816 + i.val = i.val
    omega
  · show 0 * 1024 + e.val = e.val
    omega

theorem cell4 (c : Dev nD) (t : Fin cfg0.N) (i : Fin 2816) (e : Fin 1024) : iblk m c 4 t (ix2 i e) = (m ((c : Thread nD τ).loc main_arg4) : FVec Ideal S1x2816x1024 .f32) (ix3 0 i e) := by
  unfold iblk
  rw [at4]
  refine (read4 _ t i e).trans ?_
  exact drop_apply _ _ i e

theorem emb_out (t : Fin cfg0.N) (i : Fin 1024) (e : Fin 1024) :
    ((cfg0.win 5).blk t).view.emb (ix2 i e : S1024x1024.Idx) = ix2 (rowOf t i) e := by
  refine funext fun a => Fin.ext ?_
  refine (Pipeline.Window.rect_emb_val (w := win0_5) t (ix2 i e) a).trans ?_
  rw [(idx_all t).2.2.2.2.2]
  fin_cases a
  · show t.val * 1024 + i.val = 1024 * t.val + i.val
    omega
  · show 0 * 1024 + e.val = e.val
    omega

/-- The output array after the run. -/
theorem final (c : Dev nD) : (dats m 0 c).arrAt 5 cfg0.N = ffnArray (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  rw [after0_5, block_eq]
  obtain ⟨i, e, rfl⟩ : ∃ (i : Fin 1024) (e : Fin 1024), y = (ix2 i e : S1024x1024.Idx) := ⟨y 0, y 1, eq_ix2 (n0 := 1024) (n1 := 1024) y⟩
  refine Eq.trans ?_ (congrArg _ (emb_out t i e)).symm
  refine (written_apply _ _ _ _ _ i e).trans ?_
  simp only [cell0, cell1, cell2, cell3, cell4]
  rfl

end Cert.FfnKernelIdeal.Block

end
-- ==== Proof.FfnReference.lean ====
module

public import proofs.«01_k».proof.Proof.Gen.FfnReferenceIdeal.Run
public import proofs.«01_k».proof.Proof.Layout
public import Idealize.ShloMosaic.Lib.Pipeline.ValueKit

/-! The plain feed-forward's result, a row at a time. -/

@[expose] public section

set_option maxRecDepth 16384

noncomputable section

namespace Cert.FfnReferenceIdeal.Rows

open Cert.FfnReferenceIdeal Cert.FfnReferenceIdeal.Gen Cert.Swiglu
open Idealize.ShloMosaic Idealize.ShloMosaic.TcCoe Idealize.ShloMosaic.Tactic

/-- The normalised rows. -/
def normV (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf
      (Host.divf (broadcastInDim S2x8192x1 ![0, 1] bcast_S2x8192_S2x8192x1_0_1
        (Host.reduceAdd (mulf x x) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2
      (shapeCast _ g shapeCasts_S1x1024_S1024)))

/-- A product with a weight array. -/
def upV (h : FVec Ideal S2x8192x1024 .f32) (w : FVec Ideal S1x1024x2816 .f32) : FVec Ideal S2x8192x2816 .f32 :=
  Host.dotGeneral dot_S2x8192x1024_S1024x2816_S2x8192x2816_2_0_01_1_n_n none h (shapeCast _ w shapeCasts_S1x1024x2816_S1024x2816)

/-- The gate's products. -/
def gateV (a b : FVec Ideal S2x8192x2816 .f32) : FVec Ideal S2x8192x2816 .f32 :=
  mulf (mulf a (Host.divf (broadcastInDim S2x8192x2816 ![] bcast_S_S2x8192x2816 (constant S_ .f32 0x3F800000#32))
    (addf (broadcastInDim S2x8192x2816 ![] bcast_S_S2x8192x2816 (constant S_ .f32 0x3F800000#32)) (Host.exp (Host.negf a))))) b

/-- The rows plus half of the product with the last weights. -/
def stepV (x : FVec Ideal S2x8192x1024 .f32) (a : FVec Ideal S2x8192x2816 .f32) (w : FVec Ideal S1x2816x1024 .f32) : FVec Ideal S2x8192x1024 .f32 :=
  addf x (mulf (broadcastInDim S2x8192x1024 ![] bcast_S_S2x8192x1024 (constant S_ .f32 0x3F000000#32))
    (Host.dotGeneral dot_S2x8192x2816_S2816x1024_S2x8192x1024_2_0_01_1_n_n none a (shapeCast _ w shapeCasts_S1x2816x1024_S2816x1024)))

theorem norm_apply (x : FVec Ideal S2x8192x1024 .f32) (g : FVec Ideal S1x1024 .f32) (b : Fin 2) (s : Fin 8192) (d : Fin 1024) :
    normV x g (ix3 b s d) = normed len1024 (fun e => x (ix3 b s e)) (fun e => g (ix2 0 e)) d := by
  unfold normed len1024 eps
  pointwise [normV]

theorem up_apply (h : FVec Ideal S2x8192x1024 .f32) (w : FVec Ideal S1x1024x2816 .f32) (b : Fin 2) (s : Fin 8192) (f : Fin 2816) :
    upV h w (ix3 b s f) = ∑ e : Fin 1024, h (ix3 b s e) * w (ix3 0 e f) := by
  pointwise [upV]

theorem gate_apply (a b : FVec Ideal S2x8192x2816 .f32) (i : S2x8192x2816.Idx) : gateV a b i = silu (a i) * b i := rfl

theorem step_apply (x : FVec Ideal S2x8192x1024 .f32) (a : FVec Ideal S2x8192x2816 .f32) (w : FVec Ideal S1x2816x1024 .f32)
    (b : Fin 2) (s : Fin 8192) (d : Fin 1024) :
    stepV x a w (ix3 b s d) = x (ix3 b s d) + half * ∑ f : Fin 2816, a (ix3 b s f) * w (ix3 0 f d) := by
  unfold half
  pointwise [stepV]

/-- The feed-forward's result is the array of the rows' values. -/
theorem result_eq (x : FVec Ideal S2x8192x1024 .f32) (g : FVec Ideal S1x1024 .f32) (wg wu : FVec Ideal S1x1024x2816 .f32) (wd : FVec Ideal S1x2816x1024 .f32) :
    shapeCast S16384x1024 (stepV x (gateV (upV (normV x g) wg) (upV (normV x g) wu)) wd) shapeCasts_S2x8192x1024_S16384x1024 = ffnArray x g wg wu wd := by
  funext y
  obtain ⟨r, d, rfl⟩ : ∃ (r : Fin 16384) (d : Fin 1024), y = ix2 r d := ⟨y 0, y 1, eq_ix2 y⟩
  rw [flat_apply, step_apply]
  simp only [gate_apply, up_apply, norm_apply]
  rfl

end Cert.FfnReferenceIdeal.Rows

end
-- ==== Proof.Finite.lean ====
module

public import proofs.«01_k».proof.Pre_finite
public import proofs.«01_k».proof.Proof.Online
public import Idealize.ShloMosaic.Lib.ReduceAll

/-! What the precondition says: every entry of the queries and of the keys is a real number. -/

@[expose] public section

set_option maxRecDepth 16384

noncomputable section

namespace Cert.Pre_finite

open Idealize.ShloMosaic

/-- The shapes of the precondition's operations fit. -/
instance facts : Facts where
  bcast_S_S2x8192x4x192 := by decide
  reducesTo_S2x8192x4x192_S_d0_1_2_3 := by decide
  h_S_ := by decide

theorem infinity_top : Ideal.ofBits .f32 0x7F800000#32 = (⊤ : EReal) := by simp [Ideal.ofBits, Ideal.ieee]

/-- A magnitude below infinity is a real number's. -/
theorem real_of_abs_lt {x : EReal} (h : BitVec.ofBool (decide (max x (-x) < ⊤)) = 1#1) : ∃ r : ℝ, x = r := by
  have h' : max x (-x) < ⊤ := by
    by_contra hn
    rw [decide_eq_false hn] at h
    exact absurd h (by decide)
  rw [max_lt_iff] at h'
  refine Cert.KernelIdeal.Flash.real_of_ne h'.1.ne fun e => ?_
  rw [e] at h'
  exact absurd h'.2 (by simp)

/-- One array's half of the precondition: the comparison with infinity, all of it. -/
theorem real_of_all (x : FVec Ideal S2x8192x4x192 .f32) (init : IVec S_ 1) (j : S_.Idx)
    (e : Host.reduce IntOp.andi
      (cmpf .olt (Host.absf x) (broadcastInDim S2x8192x4x192 ![] facts.bcast_S_S2x8192x4x192 (constant (F := Ideal) S_ .f32 0x7F800000#32)))
      init facts.reducesTo_S2x8192x4x192_S_d0_1_2_3 facts.h_S_ j = 1#1) (i : S2x8192x4x192.Idx) : ∃ r : ℝ, x i = r := by
  haveI : Subsingleton S_.Idx := ⟨fun a b => funext fun n => n.elim0⟩
  have h := Host.reduce_andi_all _ init _ _ j e i
  refine real_of_abs_lt ?_
  rw [← infinity_top]
  exact h

theorem reals (q k : FVec Ideal S2x8192x4x192 .f32) (v : FVec Ideal S2x8192x4x128 .f32) (h : fn (F := Ideal) q k v = fun _ => 1#1) :
    (∀ i, ∃ r : ℝ, q i = r) ∧ ∀ i, ∃ r : ℝ, k i = r := by
  have e := congrFun h (fun n => n.elim0)
  dsimp only [fn] at e
  obtain ⟨eq, ek⟩ := IntOp.andi_eq_one.1 e
  exact ⟨real_of_all q _ _ eq, real_of_all k _ _ ek⟩

end Cert.Pre_finite

end
-- ==== Proof.ProjIdealFrame.lean ====
module

public import proofs.«01_k».proof.Proof.Gen.ProjKernelIdeal.Frame
public import proofs.«01_k».proof.Proof.Gen.ProjKernelIdeal.Skeleton
public import proofs.«01_k».proof.Proof.Gen.ProjKernelIdeal.Points
public import Idealize.ShloMosaic.Lib.Pipeline.FrameBody
public import Idealize.ShloMosaic.Lib.Claim
public import Idealize.ShloMosaic.Lib.Ring
public import Idealize.ShloMosaic.Lib.Tactic

/-! The launch of `proj`, laid out as the generated launches are, under a larger budget: 24 windows pass the default one. -/

@[expose] public section

set_option maxRecDepth 16384

noncomputable section

namespace Cert.ProjKernelIdeal.Launched

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S1984x1024 := Rect.unit (s := S1984x1024) ![1536, 0] S384x1024.size inb_S1984x1024_S384x1024_1536_0
abbrev r0_4 : Rect S128x1024 := Rect.unit (s := S128x1024) ![0, 0] S128x1024.size inb_S128x1024_S128x1024_0_0
abbrev r0_5 : Rect S1x256 := Rect.unit (s := S1x256) ![0, 0] S1x256.size inb_S1x256_S1x256_0_0
abbrev r0_6 : Rect S256x1024 := Rect.unit (s := S256x1024) ![0, 0] S256x1024.size inb_S256x1024_S256x1024_0_0
abbrev r0_7 : Rect S1x128 := Rect.unit (s := S1x128) ![0, 0] S1x128.size inb_S1x128_S1x128_0_0
abbrev r0_8 : Rect S512x1024 := Rect.unit (s := S512x1024) ![0, 0] S512x128.size inb_S512x1024_S512x128_0_0
abbrev r0_9 : Rect S512x1024 := Rect.unit (s := S512x1024) ![0, 128] S512x128.size inb_S512x1024_S512x128_0_128
abbrev r0_10 : Rect S512x1024 := Rect.unit (s := S512x1024) ![0, 256] S512x128.size inb_S512x1024_S512x128_0_256
abbrev r0_11 : Rect S512x1024 := Rect.unit (s := S512x1024) ![0, 384] S512x128.size inb_S512x1024_S512x128_0_384
abbrev r0_12 : Rect S512x1024 := Rect.unit (s := S512x1024) ![0, 512] S512x128.size inb_S512x1024_S512x128_0_512
abbrev r0_13 : Rect S512x1024 := Rect.unit (s := S512x1024) ![0, 640] S512x128.size inb_S512x1024_S512x128_0_640
abbrev r0_14 : Rect S512x1024 := Rect.unit (s := S512x1024) ![0, 768] S512x128.size inb_S512x1024_S512x128_0_768
abbrev r0_15 : Rect S512x1024 := Rect.unit (s := S512x1024) ![0, 896] S512x128.size inb_S512x1024_S512x128_0_896
abbrev r0_16 : Rect S512x512 := Rect.unit (s := S512x512) ![0, 0] S512x512.size inb_S512x512_S512x512_0_0
abbrev r0_17 : Rect S1984x1024 := Rect.unit (s := S1984x1024) ![0, 0] S512x1024.size inb_S1984x1024_S512x1024_0_0
abbrev r0_18 : Rect S256x256 := Rect.unit (s := S256x256) ![0, 0] S256x256.size inb_S256x256_S256x256_0_0
abbrev r0_19 : Rect S1x512 := Rect.unit (s := S1x512) ![0, 0] S1x512.size inb_S1x512_S1x512_0_0
abbrev r0_20 : Rect S1x16x32x512 := Rect.unit (s := S1x16x32x512) ![0, 0, 0, 0] S1x16x32x512.size inb_S1x16x32x512_S1x16x32x512_0_0_0_0
abbrev r0_21 : Rect S1984x1024 := Rect.unit (s := S1984x1024) ![512, 0] S512x1024.size inb_S1984x1024_S512x1024_512_0
abbrev r0_22 : Rect S1984x1024 := Rect.unit (s := S1984x1024) ![1024, 0] S512x1024.size inb_S1984x1024_S512x1024_1024_0

/-! Values of the body over the blocks read. -/

def val72 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x128 .f32 :=
  k0_pay3 (View.ld x16 r0_2)
def val73 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x128 .f32 :=
  k0_pay4 (View.ld x17 r0_2)
def val74 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x256 .f32 :=
  k0_pay6 (View.ld x0 r0_0) (View.ld x1 r0_1) (View.ld x2 r0_3) (View.ld x3 r0_4)
def val75 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x128 .f32 :=
  k0_pay8 (View.ld x0 r0_0) (View.ld x1 r0_1) (View.ld x2 r0_3) (View.ld x3 r0_4)
def val76 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S1x256 .f32 :=
  k0_pay9 (View.ld x8 r0_5)
def val77 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1 .f32 :=
  k0_pay10 (View.ld x0 r0_0) (View.ld x1 r0_1) (View.ld x2 r0_3) (View.ld x3 r0_4)
def val78 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1024 .f32 :=
  k0_pay11 (val74 x0 x1 x2 x3 x4 x5 x6 x7 x8 x9 x10 x11 x12 x13 x14 x15 x16 x17) (val76 x0 x1 x2 x3 x4 x5 x6 x7 x8 x9 x10 x11 x12 x13 x14 x15 x16 x17) (val77 x0 x1 x2 x3 x4 x5 x6 x7 x8 x9 x10 x11 x12 x13 x14 x15 x16 x17) (Scalar.ofBits .f32 0x358637BD#32) (View.ld x9 r0_6)
def val79 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x128 .f32 :=
  k0_pay25 (val78 x0 x1 x2 x3 x4 x5 x6 x7 x8 x9 x10 x11 x12 x13 x14 x15 x16 x17)
def val80 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1 .f32 :=
  k0_pay26 (val78 x0 x1 x2 x3 x4 x5 x6 x7 x8 x9 x10 x11 x12 x13 x14 x15 x16 x17)
def val81 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1 .f32 :=
  k0_pay27 (val78 x0 x1 x2 x3 x4 x5 x6 x7 x8 x9 x10 x11 x12 x13 x14 x15 x16 x17)
def val82 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1024 .f32 :=
  k0_pay42 (k0_pay7 (View.ld x0 r0_0) (View.ld x1 r0_1) (View.ld x2 r0_3) (View.ld x3 r0_4)) (View.ld x10 r0_7) (View.ld x11 r0_4)
def val83 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1 .f32 :=
  k0_pay43 (val75 x0 x1 x2 x3 x4 x5 x6 x7 x8 x9 x10 x11 x12 x13 x14 x15 x16 x17)
def val84 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x128 .f32 :=
  k0_pay45 (val72 x0 x1 x2 x3 x4 x5 x6 x7 x8 x9 x10 x11 x12 x13 x14 x15 x16 x17) (val73 x0 x1 x2 x3 x4 x5 x6 x7 x8 x9 x10 x11 x12 x13 x14 x15 x16 x17) (val75 x0 x1 x2 x3 x4 x5 x6 x7 x8 x9 x10 x11 x12 x13 x14 x15 x16 x17) (k0_pay44 (View.ld x15 r0_7))
def val85 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : FVec F S512x1024 .f32 :=
  k0_pay64 (k0_pay2 (View.ld x0 r0_0) (View.ld x1 r0_1)) (View.ld x5 r0_16)

/-! The pieces stored in each output's buffer, the last one first. -/

def out0_18 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S1x16x32x512 .f32 :=
  View.canon [⟨r0_20, k0_pay66 (val85 x0 x1 x2 x3 x4 x5 x6 x7 x8 x9 x10 x11 x12 x13 x14 x15 x16 x17) (View.ld x2 r0_17) (View.ld x4 r0_18) (View.ld x4 r0_18) (View.ld x6 r0_19)⟩]

theorem cover0_18 (p0 : Vec F S1x16x32x512 .f32) (y : S1x16x32x512.Idx) :
    ∃ pc ∈ ([⟨r0_20, p0⟩] : List (View.Piece (Elt F) S1x16x32x512 .f32)), y ∈ pc.1.set :=
  View.cover_of_tiled [⟨r0_20, p0⟩] S1x16x32x512.size (by rfl) y

def out0_19 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S1x16x32x512 .f32 :=
  View.canon [⟨r0_20, k0_pay70 (k0_pay67 (val85 x0 x1 x2 x3 x4 x5 x6 x7 x8 x9 x10 x11 x12 x13 x14 x15 x16 x17) (View.ld x2 r0_21)) (k0_pay68 (val85 x0 x1 x2 x3 x4 x5 x6 x7 x8 x9 x10 x11 x12 x13 x14 x15 x16 x17) (View.ld x2 r0_21)) (k0_pay69 (val85 x0 x1 x2 x3 x4 x5 x6 x7 x8 x9 x10 x11 x12 x13 x14 x15 x16 x17) (View.ld x2 r0_21)) (View.ld x4 r0_18) (View.ld x4 r0_18) (View.ld x7 r0_19)⟩]

theorem cover0_19 (p0 : Vec F S1x16x32x512 .f32) (y : S1x16x32x512.Idx) :
    ∃ pc ∈ ([⟨r0_20, p0⟩] : List (View.Piece (Elt F) S1x16x32x512 .f32)), y ∈ pc.1.set :=
  View.cover_of_tiled [⟨r0_20, p0⟩] S1x16x32x512.size (by rfl) y

def out0_20 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S1x16x32x512 .f32 :=
  View.canon [⟨r0_20, k0_pay1 (k0_pay71 (k0_pay65 (val85 x0 x1 x2 x3 x4 x5 x6 x7 x8 x9 x10 x11 x12 x13 x14 x15 x16 x17)) (View.ld x2 r0_22))⟩]

theorem cover0_20 (p0 : Vec F S1x16x32x512 .f32) (y : S1x16x32x512.Idx) :
    ∃ pc ∈ ([⟨r0_20, p0⟩] : List (View.Piece (Elt F) S1x16x32x512 .f32)), y ∈ pc.1.set :=
  View.cover_of_tiled [⟨r0_20, p0⟩] S1x16x32x512.size (by rfl) y

def out0_21 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S512x1024 .bf16 :=
  View.canon [⟨r0_15, k0_pay41 (val72 x0 x1 x2 x3 x4 x5 x6 x7 x8 x9 x10 x11 x12 x13 x14 x15 x16 x17) (val73 x0 x1 x2 x3 x4 x5 x6 x7 x8 x9 x10 x11 x12 x13 x14 x15 x16 x17) (k0_pay37 (val78 x0 x1 x2 x3 x4 x5 x6 x7 x8 x9 x10 x11 x12 x13 x14 x15 x16 x17) (View.ld x13 r0_7)) (Scalar.select (Scalar.cmpi .eq 64#32 0#32) 1#32 64#32) k0_pay38 k0_pay39 k0_pay40⟩,
    ⟨r0_14, k0_pay36 (val78 x0 x1 x2 x3 x4 x5 x6 x7 x8 x9 x10 x11 x12 x13 x14 x15 x16 x17) (View.ld x12 r0_7)⟩,
    ⟨r0_13, k0_pay32 (val72 x0 x1 x2 x3 x4 x5 x6 x7 x8 x9 x10 x11 x12 x13 x14 x15 x16 x17) (val73 x0 x1 x2 x3 x4 x5 x6 x7 x8 x9 x10 x11 x12 x13 x14 x15 x16 x17) (k0_pay30 (val79 x0 x1 x2 x3 x4 x5 x6 x7 x8 x9 x10 x11 x12 x13 x14 x15 x16 x17) (val80 x0 x1 x2 x3 x4 x5 x6 x7 x8 x9 x10 x11 x12 x13 x14 x15 x16 x17) (val81 x0 x1 x2 x3 x4 x5 x6 x7 x8 x9 x10 x11 x12 x13 x14 x15 x16 x17) (View.ld x13 r0_7)) (k0_pay31 (val79 x0 x1 x2 x3 x4 x5 x6 x7 x8 x9 x10 x11 x12 x13 x14 x15 x16 x17) (val80 x0 x1 x2 x3 x4 x5 x6 x7 x8 x9 x10 x11 x12 x13 x14 x15 x16 x17) (val81 x0 x1 x2 x3 x4 x5 x6 x7 x8 x9 x10 x11 x12 x13 x14 x15 x16 x17) (View.ld x13 r0_7))⟩,
    ⟨r0_12, k0_pay29 (k0_pay24 (val78 x0 x1 x2 x3 x4 x5 x6 x7 x8 x9 x10 x11 x12 x13 x14 x15 x16 x17)) (val80 x0 x1 x2 x3 x4 x5 x6 x7 x8 x9 x10 x11 x12 x13 x14 x15 x16 x17) (val81 x0 x1 x2 x3 x4 x5 x6 x7 x8 x9 x10 x11 x12 x13 x14 x15 x16 x17) (View.ld x12 r0_7)⟩,
    ⟨r0_11, k0_pay23 (val72 x0 x1 x2 x3 x4 x5 x6 x7 x8 x9 x10 x11 x12 x13 x14 x15 x16 x17) (val73 x0 x1 x2 x3 x4 x5 x6 x7 x8 x9 x10 x11 x12 x13 x14 x15 x16 x17) (k0_pay20 (val78 x0 x1 x2 x3 x4 x5 x6 x7 x8 x9 x10 x11 x12 x13 x14 x15 x16 x17)) (k0_pay21 (val78 x0 x1 x2 x3 x4 x5 x6 x7 x8 x9 x10 x11 x12 x13 x14 x15 x16 x17)) (View.ld x13 r0_7)⟩,
    ⟨r0_10, k0_pay22 (val78 x0 x1 x2 x3 x4 x5 x6 x7 x8 x9 x10 x11 x12 x13 x14 x15 x16 x17) (View.ld x12 r0_7)⟩,
    ⟨r0_9, k0_pay18 (val72 x0 x1 x2 x3 x4 x5 x6 x7 x8 x9 x10 x11 x12 x13 x14 x15 x16 x17) (val73 x0 x1 x2 x3 x4 x5 x6 x7 x8 x9 x10 x11 x12 x13 x14 x15 x16 x17) (k0_pay16 (val74 x0 x1 x2 x3 x4 x5 x6 x7 x8 x9 x10 x11 x12 x13 x14 x15 x16 x17) (val76 x0 x1 x2 x3 x4 x5 x6 x7 x8 x9 x10 x11 x12 x13 x14 x15 x16 x17) (val77 x0 x1 x2 x3 x4 x5 x6 x7 x8 x9 x10 x11 x12 x13 x14 x15 x16 x17) (Scalar.ofBits .f32 0x358637BD#32) (View.ld x9 r0_6) (View.ld x13 r0_7)) (iota .tc S512x128 32 [1] iota_S512x128_d1_w32) (Scalar.select (Scalar.cmpi .eq 64#32 0#32) 1#32 64#32) k0_pay17⟩,
    ⟨r0_8, k0_pay15 (val74 x0 x1 x2 x3 x4 x5 x6 x7 x8 x9 x10 x11 x12 x13 x14 x15 x16 x17) (val76 x0 x1 x2 x3 x4 x5 x6 x7 x8 x9 x10 x11 x12 x13 x14 x15 x16 x17) (val77 x0 x1 x2 x3 x4 x5 x6 x7 x8 x9 x10 x11 x12 x13 x14 x15 x16 x17) (Scalar.ofBits .f32 0x358637BD#32) (View.ld x9 r0_6) (View.ld x12 r0_7)⟩]

theorem cover0_21 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩] : List (View.Piece (Elt F) S512x1024 .bf16)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩] S512x128.size (by rfl) y

def out0_22 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S512x1024 .bf16 :=
  View.canon [⟨r0_15, k0_pay62 (val82 x0 x1 x2 x3 x4 x5 x6 x7 x8 x9 x10 x11 x12 x13 x14 x15 x16 x17) (val83 x0 x1 x2 x3 x4 x5 x6 x7 x8 x9 x10 x11 x12 x13 x14 x15 x16 x17) (val84 x0 x1 x2 x3 x4 x5 x6 x7 x8 x9 x10 x11 x12 x13 x14 x15 x16 x17)⟩,
    ⟨r0_14, k0_pay61 (val82 x0 x1 x2 x3 x4 x5 x6 x7 x8 x9 x10 x11 x12 x13 x14 x15 x16 x17) (val83 x0 x1 x2 x3 x4 x5 x6 x7 x8 x9 x10 x11 x12 x13 x14 x15 x16 x17) (View.ld x14 r0_7)⟩,
    ⟨r0_13, k0_pay58 (val84 x0 x1 x2 x3 x4 x5 x6 x7 x8 x9 x10 x11 x12 x13 x14 x15 x16 x17) (k0_pay55 (val82 x0 x1 x2 x3 x4 x5 x6 x7 x8 x9 x10 x11 x12 x13 x14 x15 x16 x17) (val83 x0 x1 x2 x3 x4 x5 x6 x7 x8 x9 x10 x11 x12 x13 x14 x15 x16 x17))⟩,
    ⟨r0_12, k0_pay57 (k0_pay56 (val82 x0 x1 x2 x3 x4 x5 x6 x7 x8 x9 x10 x11 x12 x13 x14 x15 x16 x17) (val83 x0 x1 x2 x3 x4 x5 x6 x7 x8 x9 x10 x11 x12 x13 x14 x15 x16 x17)) (View.ld x14 r0_7)⟩,
    ⟨r0_11, k0_pay53 (val82 x0 x1 x2 x3 x4 x5 x6 x7 x8 x9 x10 x11 x12 x13 x14 x15 x16 x17) (val83 x0 x1 x2 x3 x4 x5 x6 x7 x8 x9 x10 x11 x12 x13 x14 x15 x16 x17) (val84 x0 x1 x2 x3 x4 x5 x6 x7 x8 x9 x10 x11 x12 x13 x14 x15 x16 x17)⟩,
    ⟨r0_10, k0_pay52 (val82 x0 x1 x2 x3 x4 x5 x6 x7 x8 x9 x10 x11 x12 x13 x14 x15 x16 x17) (val83 x0 x1 x2 x3 x4 x5 x6 x7 x8 x9 x10 x11 x12 x13 x14 x15 x16 x17) (View.ld x14 r0_7)⟩,
    ⟨r0_9, k0_pay49 (val84 x0 x1 x2 x3 x4 x5 x6 x7 x8 x9 x10 x11 x12 x13 x14 x15 x16 x17) (k0_pay47 (val82 x0 x1 x2 x3 x4 x5 x6 x7 x8 x9 x10 x11 x12 x13 x14 x15 x16 x17) (val83 x0 x1 x2 x3 x4 x5 x6 x7 x8 x9 x10 x11 x12 x13 x14 x15 x16 x17))⟩,
    ⟨r0_8, k0_pay48 (val82 x0 x1 x2 x3 x4 x5 x6 x7 x8 x9 x10 x11 x12 x13 x14 x15 x16 x17) (val83 x0 x1 x2 x3 x4 x5 x6 x7 x8 x9 x10 x11 x12 x13 x14 x15 x16 x17) (View.ld x14 r0_7)⟩]

theorem cover0_22 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_15, p0⟩, ⟨r0_14, p1⟩, ⟨r0_13, p2⟩, ⟨r0_12, p3⟩, ⟨r0_11, p4⟩, ⟨r0_10, p5⟩, ⟨r0_9, p6⟩, ⟨r0_8, p7⟩] : List (View.Piece (Elt F) S512x1024 .bf16)), y ∈ pc.1.set :=
  View.cover_of_tiled [⟨r0_15, p0⟩, ⟨r0_14, p1⟩, ⟨r0_13, p2⟩, ⟨r0_12, p3⟩, ⟨r0_11, p4⟩, ⟨r0_10, p5⟩, ⟨r0_9, p6⟩, ⟨r0_8, p7⟩] S512x128.size (by rfl) y

def out0_23 (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) : Vec F S512x512 .bf16 :=
  View.canon [⟨r0_16, k0_pay63 (val82 x0 x1 x2 x3 x4 x5 x6 x7 x8 x9 x10 x11 x12 x13 x14 x15 x16 x17)⟩]

theorem cover0_23 (p0 : Vec F S512x512 .bf16) (y : S512x512.Idx) :
    ∃ pc ∈ ([⟨r0_16, p0⟩] : List (View.Piece (Elt F) S512x512 .bf16)), y ∈ pc.1.set :=
  View.cover_of_tiled [⟨r0_16, p0⟩] S512x512.size (by rfl) y

set_option maxHeartbeats 1000000 in
/-- The body on whole buffers: the inputs stay and each output is left at its pieces. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1984x1024 .f32) (harg3 : arg3.IsWhole) (arg4 : Memref sig .tc .vmem S128x1024 .bf16) (harg4 : arg4.IsWhole) (arg5 : Memref sig .tc .vmem S256x256 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S1x128 .f32) (harg11 : arg11.IsWhole) (arg12 : Memref sig .tc .vmem S128x1024 .bf16) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S512x128 .f32) (harg17 : arg17.IsWhole) (arg18 : Memref sig .tc .vmem S512x128 .f32) (harg18 : arg18.IsWhole) (arg19 : Memref sig .tc .vmem S1x16x32x512 .f32) (harg19 : arg19.IsWhole) (arg20 : Memref sig .tc .vmem S1x16x32x512 .f32) (harg20 : arg20.IsWhole) (arg21 : Memref sig .tc .vmem S1x16x32x512 .f32) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x512 .bf16) (harg24 : arg24.IsWhole)
    (x0 : Vec F S512x1024 .f32) (x1 : Vec F S1x1024 .f32) (x2 : Vec F S1984x1024 .f32) (x3 : Vec F S128x1024 .bf16) (x4 : Vec F S256x256 .bf16) (x5 : Vec F S512x512 .bf16) (x6 : Vec F S1x512 .f32) (x7 : Vec F S1x512 .f32) (x8 : Vec F S1x256 .f32) (x9 : Vec F S256x1024 .bf16) (x10 : Vec F S1x128 .f32) (x11 : Vec F S128x1024 .bf16) (x12 : Vec F S1x128 .f32) (x13 : Vec F S1x128 .f32) (x14 : Vec F S1x128 .f32) (x15 : Vec F S1x128 .f32) (x16 : Vec F S512x128 .f32) (x17 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (out0_18 x0 x1 x2 x3 x4 x5 x6 x7 x8 x9 x10 x11 x12 x13 x14 x15 x16 x17) ∗ owns (c : Thread nD τ) arg20 fullShare (out0_19 x0 x1 x2 x3 x4 x5 x6 x7 x8 x9 x10 x11 x12 x13 x14 x15 x16 x17) ∗ owns (c : Thread nD τ) arg21 fullShare (out0_20 x0 x1 x2 x3 x4 x5 x6 x7 x8 x9 x10 x11 x12 x13 x14 x15 x16 x17) ∗ owns (c : Thread nD τ) arg22 fullShare (out0_21 x0 x1 x2 x3 x4 x5 x6 x7 x8 x9 x10 x11 x12 x13 x14 x15 x16 x17) ∗ owns (c : Thread nD τ) arg23 fullShare (out0_22 x0 x1 x2 x3 x4 x5 x6 x7 x8 x9 x10 x11 x12 x13 x14 x15 x16 x17) ∗ owns (c : Thread nD τ) arg24 fullShare (out0_23 x0 x1 x2 x3 x4 x5 x6 x7 x8 x9 x10 x11 x12 x13 x14 x15 x16 x17)) -∗ K ⟨⟩))
      ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_proj_eq_skeleton]; unfold cc0_proj_skel
  simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _ _ _ _ _ _ _)).trans ?_
    rfl
  iexists _; isplitr
  swap; · iexact H23
  ipureintro
  refine (View.read_writes_eq_canon _ _ _ (cover0_23 _)).trans ?_
  rfl

/-- What the pipeline holds: the arrays as launched, and after a point the inputs' blocks and the pieces stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
/-- The body at any point, the windows one by one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at any point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- The launch, and the counters at zero after it. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)
-- ==== Proof.ProjKept.lean ====
module

public import proofs.«01_k».proof.Proof.ProjFrame
public import proofs.«01_k».proof.Proof.ProjIdealFrame

/-! What a run of `proj` leaves alone: its arguments, on machine words and over exact numbers. -/

@[expose] public section

set_option maxRecDepth 16384
set_option maxHeartbeats 1000000

noncomputable section

open Idealize.ShloMosaic Idealize.ShloMosaic.TcCoe Idealize.SL.Sem

namespace Cert.ProjKernel.Launched

open Cert.ProjKernel Cert.ProjKernel.Gen

variable {F : FTy → Type} [FloatOps F]
variable (m : (ℓ : Loc nD τ sig) → Buf (Elt F) ℓ) (ρ : Dev nD → PrngReg)

/-- The eleven arguments end as they began, and every counter is back at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0 :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩)
    (run_main_quiescent m ρ)

end Cert.ProjKernel.Launched

namespace Cert.ProjKernelIdeal.Launched

open Cert.ProjKernelIdeal Cert.ProjKernelIdeal.Gen

variable {F : FTy → Type} [FloatOps F] [Named F]
variable (m : (ℓ : Loc nD τ sig) → Buf (Elt F) ℓ) (ρ : Dev nD → PrngReg)

/-- The eleven arguments end as they began, and every counter is back at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0 :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩)
    (run_main_quiescent m ρ)

end Cert.ProjKernelIdeal.Launched

end
-- ==== Proof.ProjRun.lean ====
module

public import proofs.«01_k».proof.Proof.ProjIdealFrame
public import Idealize.ShloMosaic.Lib.Pipeline.Value

/-! The run of `proj` over exact numbers: the six output arrays after it, and the arguments as they were. -/

@[expose] public section

set_option maxRecDepth 16384
set_option maxHeartbeats 1000000

noncomputable section

namespace Cert.ProjKernelIdeal.Launched

open Cert.ProjKernelIdeal Cert.ProjKernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post18 (r : PUnit × MemSt nD τ sig (Elt F)) (h : Pipeline.FramePost cfgs (dats m) 0 (V m) r) (c : Dev nD) :
    r.2.mem ((c : Thread nD τ).loc main_v88_0) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v88_1) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v88_2) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v88_3) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v88_4) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v88_5) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After a run: the six arrays `proj` writes, each as its grid steps left it, and the eleven arguments as they were. -/
theorem run_blocks : θ_run defs (onTc (τ := τ) (main (F := F))) ⟨m, fun _ => 0, ρ⟩ fun r => ∀ c : Dev nD,
      r.2.mem ((c : Thread nD τ).loc main_v88_0) = (dats m 0 c).arrAt 18 cfg0.N
      ∧ r.2.mem ((c : Thread nD τ).loc main_v88_1) = (dats m 0 c).arrAt 19 cfg0.N
      ∧ r.2.mem ((c : Thread nD τ).loc main_v88_2) = (dats m 0 c).arrAt 20 cfg0.N
      ∧ r.2.mem ((c : Thread nD τ).loc main_v88_3) = (dats m 0 c).arrAt 21 cfg0.N
      ∧ r.2.mem ((c : Thread nD τ).loc main_v88_4) = (dats m 0 c).arrAt 22 cfg0.N
      ∧ r.2.mem ((c : Thread nD τ).loc main_v88_5) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.ProjKernelIdeal.Launched

end
-- ==== Proof.ProjRows.lean ====
module

public import proofs.«01_k».proof.Proof.Swiglu

/-! A row through the layer's projections, as numbers: the one product, the heads' norms, the rotary embedding. -/

@[expose] public section

noncomputable section

namespace Cert.Projection

open Idealize.ShloMosaic Cert.Swiglu

/-- The printed lengths. -/
def len64 : EReal := Ideal.ofBits .f32 0x42800000#32
def len128 : EReal := Ideal.ofBits .f32 0x43000000#32
def len192 : EReal := Ideal.ofBits .f32 0x43400000#32
def len256 : EReal := Ideal.ofBits .f32 0x43800000#32

/-- The printed reciprocal of a dilated head's length. -/
def inv64 : EReal := Ideal.ofBits .f32 0x3C800000#32

theorem len64_eq : len64 = ((64 : ℝ) : EReal) := by
  unfold len64
  simp [Ideal.ofBits, Ideal.ieee]
  rw [← EReal.coe_mul]
  norm_num

theorem len192_eq : len192 = ((192 : ℝ) : EReal) := by
  unfold len192
  simp [Ideal.ofBits, Ideal.ieee]
  rw [← EReal.coe_mul]
  norm_num

theorem inv64_eq : inv64 = ((1 / 64 : ℝ) : EReal) := by
  unfold inv64
  simp [Ideal.ofBits, Ideal.ieee]
  rw [← EReal.coe_mul]
  norm_num

theorem eps_pos : ∃ r : ℝ, 0 < r ∧ eps = (r : EReal) := by
  unfold eps
  simp only [Ideal.ofBits, Ideal.ieee]
  simp
  rw [← EReal.coe_mul]
  exact ⟨_, by positivity, rfl⟩

/-- The projection of a row: its norm through one weight array. -/
def inner (x g : Fin 1024 → EReal) (w : Fin 1024 → Fin 1984 → EReal) (j : Fin 1984) : EReal := ∑ e, normed len1024 x g e * w e j

/-- The columns of a projected row from an offset on. -/
def from_ (p : Fin 1984 → EReal) {n : ℕ} (o : ℕ) (h : o + n ≤ 1984) (a : Fin n) : EReal := p ⟨o + a.val, by omega⟩

/-- A dilated head's norm, where the heads lie side by side. -/
def dilated (u : Fin 512 → EReal) (g : Fin 64 → EReal) (j : Fin 512) : EReal :=
  normed len64 (fun a : Fin 64 => u ⟨64 * (j.val / 64) + a.val, by omega⟩) g ⟨j.val % 64, by omega⟩

/-- A latent head's query row. -/
def query (u : Fin 256 → EReal) (g : Fin 256 → EReal) (w : Fin 256 → Fin 768 → EReal) (h : Fin 4) (d : Fin 192) : EReal :=
  ∑ a, normed len256 u g a * w a ⟨192 * h.val + d.val, by omega⟩

/-- A latent head's unrotated keys and its values. -/
def keyValue (u : Fin 128 → EReal) (g : Fin 128 → EReal) (w : Fin 128 → Fin 1024 → EReal) (h : Fin 4) (d : Fin 256) : EReal :=
  ∑ a, normed len128 u g a * w a ⟨256 * h.val + d.val, by omega⟩

/-- A latent head's key row: its own columns, then those that all heads share. -/
def key (kv : Fin 256 → EReal) (pe : Fin 64 → EReal) (d : Fin 192) : EReal :=
  if h : d.val < 128 then kv ⟨d.val, by omega⟩ else pe ⟨d.val - 128, by omega⟩

/-- The rotary angle of a position and a frequency. -/
def angle (s : Fin 8192) (f : Fin 32) : EReal :=
  (((BitVec.ofNat 32 s.val).toInt : ℝ) : EReal) * Ideal.pow (Ideal.ofBits .f32 0x461C4000#32)
    (Ideal.div (-(Ideal.ofBits .f32 0x00000000#32 + Ideal.ofBits .f32 0x40000000#32 * (((BitVec.ofNat 32 f.val).toInt : ℝ) : EReal))) len64)

/-- A latent head's row with its last 64 columns turned, and 64 columns of zeros after it. -/
def turned (y : Fin 192 → EReal) (cs sn : Fin 32 → EReal) (d : Fin 256) : EReal :=
  if h : d.val < 128 then y ⟨d.val, by omega⟩
  else if h : d.val < 160 then y ⟨d.val, by omega⟩ * cs ⟨d.val - 128, by omega⟩ - y ⟨d.val + 32, by omega⟩ * sn ⟨d.val - 128, by omega⟩
  else if h : d.val < 192 then y ⟨d.val, by omega⟩ * cs ⟨d.val - 160, by omega⟩ + y ⟨d.val - 32, by omega⟩ * sn ⟨d.val - 160, by omega⟩
  else 0

/-- The reciprocal root of a mean over 192 entries, from two sums. -/
def root (s t : EReal) : EReal := Ideal.rsqrt ((s + t) * ((1 / 192 : ℝ) : EReal) + eps)

theorem mul_self_nonneg' (x : EReal) : 0 ≤ x * x := by
  rcases le_total 0 x with h | h
  · exact mul_nonneg h h
  · exact EReal.mul_nonneg_iff.mpr (Or.inr ⟨h, h⟩)

theorem root_bounds (s t : EReal) (hs : 0 ≤ s) (ht : 0 ≤ t) : 0 ≤ root s t ∧ root s t ≠ ⊤ := by
  obtain ⟨r, hr, he⟩ := eps_pos
  unfold root
  rw [he]
  have h0 : 0 ≤ s + t := add_nonneg hs ht
  generalize s + t = z at h0
  induction z using EReal.rec with
  | bot => exact absurd h0 (by simp)
  | top =>
    rw [EReal.top_mul_of_pos (EReal.coe_pos.mpr (by norm_num)), EReal.top_add_coe, Ideal.rsqrt_top]
    exact ⟨le_refl _, EReal.zero_ne_top⟩
  | coe z =>
    have hz : 0 ≤ z := EReal.coe_nonneg.mp h0
    rw [← EReal.coe_mul, ← EReal.coe_add, Ideal.rsqrt_coe]
    have hp : 0 < z * (1 / 192) + r := by positivity
    rw [if_neg (not_lt.mpr hp.le), if_neg hp.ne']
    exact ⟨EReal.coe_nonneg.mpr (by positivity), EReal.coe_ne_top _⟩

/-- 192 squares are 128 squares and 128 more of which the last 64 are zeros. -/
theorem sum_split (q : Fin 192 → EReal) (a b : Fin 128 → EReal) (ha : ∀ e : Fin 128, a e = q ⟨e.val, by omega⟩)
    (hb : ∀ e : Fin 128, b e = if h : e.val < 64 then q ⟨128 + e.val, by omega⟩ else 0) :
    ∑ e, a e * a e + ∑ e, b e * b e = ∑ d, q d * q d := by
  have e1 : ∑ d : Fin 192, q d * q d = ∑ d : Fin (128 + 64), q d * q d := rfl
  rw [e1, Fin.sum_univ_add]
  have e2 : ∑ e : Fin 128, b e * b e = ∑ e : Fin (64 + 64), b e * b e := rfl
  rw [e2, Fin.sum_univ_add]
  have z : ∑ e : Fin 64, b (Fin.natAdd 64 e) * b (Fin.natAdd 64 e) = 0 := by
    refine Finset.sum_eq_zero fun e _ => ?_
    rw [hb, dif_neg (by simp)]
    simp
  rw [z, add_zero]
  refine congrArg₂ (· + ·) (Finset.sum_congr rfl fun e _ => ?_) (Finset.sum_congr rfl fun e _ => ?_)
  · rw [ha]
    rfl
  · rw [hb, dif_pos (by simp)]
    rfl

theorem root_eq (q : Fin 192 → EReal) (a b : Fin 128 → EReal) (ha : ∀ e : Fin 128, a e = q ⟨e.val, by omega⟩)
    (hb : ∀ e : Fin 128, b e = if h : e.val < 64 then q ⟨128 + e.val, by omega⟩ else 0) :
    root (∑ e, a e * a e) (∑ e, b e * b e) = Ideal.rsqrt (Ideal.div (∑ d, q d * q d) len192 + eps) := by
  unfold root
  rw [sum_split q a b ha hb, len192_eq, Ideal.div_coe (by norm_num)]

/-- What the rotation brings beside lane `l`. -/
def beside (t : Fin 128 → EReal) (l : Fin 128) : EReal :=
  if l.val % 64 < 32 then t ⟨(l.val + 32) % 128, by omega⟩ else t ⟨(l.val + 96) % 128, by omega⟩

/-- Lanes turned by the tables' rows. -/
def rotated (t c s : Fin 128 → EReal) (l : Fin 128) : EReal := t l * c l + beside t l * s l

/-- The turned lanes of a head, when its last 64 columns fill 128 lanes with zeros. -/
theorem rotated_eq (y : Fin 192 → EReal) (t c s : Fin 128 → EReal) (cs sn : Fin 32 → EReal)
    (ht : ∀ l : Fin 128, t l = if h : l.val < 64 then y ⟨128 + l.val, by omega⟩ else 0)
    (hc : ∀ l : Fin 128, c l = cs ⟨l.val % 32, by omega⟩)
    (hs : ∀ l : Fin 128, s l = if l.val % 64 < 32 then -sn ⟨l.val % 32, by omega⟩ else sn ⟨l.val % 32, by omega⟩) (l : Fin 128) :
    rotated t c s l = turned y cs sn ⟨128 + l.val, by omega⟩ := by
  unfold rotated beside turned
  rw [dif_neg (by show ¬ 128 + l.val < 128; omega)]
  have hl : l.val < 128 := l.isLt
  by_cases h1 : l.val < 32
  · rw [dif_pos (show 128 + l.val < 160 by omega), if_pos (show l.val % 64 < 32 by omega), hs, if_pos (show l.val % 64 < 32 by omega),
      ht, dif_pos (by omega), ht, dif_pos (by show (l.val + 32) % 128 < 64; omega), hc, mul_neg, sub_eq_add_neg]
    have e1 : (⟨l.val % 32, by omega⟩ : Fin 32) = ⟨128 + l.val - 128, by omega⟩ := Fin.ext (by show l.val % 32 = _; simp; omega)
    have e2 : (⟨128 + (l.val + 32) % 128, by omega⟩ : Fin 192) = ⟨128 + l.val + 32, by omega⟩ := Fin.ext (by show 128 + (l.val + 32) % 128 = _; simp; omega)
    rw [e1, e2]
  · by_cases h2 : l.val < 64
    · rw [dif_neg (show ¬ 128 + l.val < 160 by omega), dif_pos (show 128 + l.val < 192 by omega), if_neg (show ¬ l.val % 64 < 32 by omega), hs,
        if_neg (show ¬ l.val % 64 < 32 by omega), ht, dif_pos (by omega), ht, dif_pos (by show (l.val + 96) % 128 < 64; omega), hc]
      have e1 : (⟨l.val % 32, by omega⟩ : Fin 32) = ⟨128 + l.val - 160, by omega⟩ := Fin.ext (by show l.val % 32 = 128 + l.val - 160; omega)
      have e2 : (⟨128 + (l.val + 96) % 128, by omega⟩ : Fin 192) = ⟨128 + l.val - 32, by omega⟩ := Fin.ext (by show 128 + (l.val + 96) % 128 = 128 + l.val - 32; omega)
      rw [e1, e2]
    · rw [dif_neg (show ¬ 128 + l.val < 160 by omega), dif_neg (show ¬ 128 + l.val < 192 by omega), ht, dif_neg h2, zero_mul, zero_add]
      by_cases h3 : l.val % 64 < 32
      · rw [if_pos h3, ht, dif_neg (by show ¬ (l.val + 32) % 128 < 64; omega), zero_mul]
      · rw [if_neg h3, ht, dif_neg (by show ¬ (l.val + 96) % 128 < 64; omega), zero_mul]

/-- Turning and then scaling by a number that is neither negative nor infinite is turning the scaled lanes. -/
theorem rotated_mul (t c s : Fin 128 → EReal) (r : EReal) (h0 : 0 ≤ r) (h1 : r ≠ ⊤) (l : Fin 128) :
    rotated t c s l * r = rotated (fun l => t l * r) c s l := by
  unfold rotated beside
  rw [EReal.right_distrib_of_nonneg_of_ne_top h0 h1]
  split
  · rw [mul_right_comm, mul_right_comm (t _) (s l) r]
  · rw [mul_right_comm, mul_right_comm (t _) (s l) r]

end Cert.Projection

end
-- ==== Proof.ProjPieces.lean ====
module

public import proofs.«01_k».proof.Proof.Gen.ProjKernelIdeal.Skeleton
public import proofs.«01_k».proof.Proof.ProjRows

/-! The pieces that a point of `proj` stores, at an index, from the rows that it reads. -/

@[expose] public section

set_option maxRecDepth 16384

noncomputable section

namespace Cert.ProjKernelIdeal.Block

open Cert.ProjKernelIdeal Cert.ProjKernelIdeal.Gen Cert.Swiglu Cert.Projection
open Idealize.ShloMosaic Idealize.ShloMosaic.TcCoe Idealize.ShloMosaic.Tactic

/-- A row's unrotated columns of a head. -/
def side (u : FVec Ideal S512x1024 .f32) (h : Fin 4) (i : Fin 512) (d : Fin 128) : EReal := u (ix2 i ⟨128 * h.val + d.val, by omega⟩)

/-- A row's columns of a head that are rotated, among 128 lanes. -/
def late (u : FVec Ideal S512x1024 .f32) (h : Fin 4) (i : Fin 512) (d : Fin 128) : EReal := u (ix2 i ⟨512 + 128 * h.val + d.val, by omega⟩)

/-- A row of lanes. -/
def lane (v : FVec Ideal S512x128 .f32) (i : Fin 512) (l : Fin 128) : EReal := v (ix2 i l)

/-- The name of a head's reciprocal length. -/
theorem named_eq : (Named.named κ "inv_qk_dim" 0x3BAAAAAB#32 : Ideal .f32) = ((1 / 192 : ℝ) : EReal) :=
  IdealRules.named_const.ideal_named_scalar _ _ _ _ rfl

/-- The reciprocal root of a query head. -/
def queryRoot (u : FVec Ideal S512x1024 .f32) (h : Fin 4) (i : Fin 512) : EReal :=
  root (∑ d, side u h i d * side u h i d) (∑ d, late u h i d * late u h i d)

theorem root0 (v28 : FVec Ideal S512x256 .f32) (v32 : FVec Ideal S1x256 .f32) (v37 : FVec Ideal S512x1 .f32) (e : Ideal .f32) (w : Vec Ideal S256x1024 .bf16) (i : Fin 512) :
    k0_pay14 v28 v32 v37 e w (ix2 i 0) = queryRoot (k0_pay11 v28 v32 v37 e w) 0 i := by
  unfold k0_pay14 k0_pay12 k0_pay13 queryRoot root side late eps
  rw [← named_eq]
  generalize k0_pay11 v28 v32 v37 e w = u
  pointwise

theorem root1 (u : FVec Ideal S512x1024 .f32) (i : Fin 512) : k0_pay21 u (ix2 i 0) = queryRoot u 1 i := by
  unfold queryRoot root side late eps
  rw [← named_eq]
  pointwise [k0_pay21, k0_pay19, k0_pay20]

theorem root2 (u : FVec Ideal S512x1024 .f32) (i : Fin 512) : k0_pay28 (k0_pay26 u) (k0_pay27 u) (ix2 i 0) = queryRoot u 2 i := by
  unfold queryRoot root side late eps
  rw [← named_eq]
  pointwise [k0_pay28, k0_pay24, k0_pay25, k0_pay26, k0_pay27]

theorem root3 (u : FVec Ideal S512x1024 .f32) (i : Fin 512) : k0_pay35 u (ix2 i 0) = queryRoot u 3 i := by
  unfold queryRoot root side late eps
  rw [← named_eq]
  pointwise [k0_pay35, k0_pay33, k0_pay34]

/-- The printed test of a lane: whether it lies in the first half of its 64. -/
theorem mask_eq : ∀ l : Fin 128, IntOp.cmpi CmpIPredicate.slt
      (Scalar.select
        (IntOp.andi
          (IntOp.xori
            (IntOp.cmpi CmpIPredicate.slt (IntOp.remsi ArithUnit.vector (BitVec.ofNat 32 l.val) (Scalar.select (Scalar.cmpi CmpIPredicate.eq 64#32 0#32) 1#32 64#32)) 0#32)
            (Scalar.cmpi CmpIPredicate.slt (Scalar.select (Scalar.cmpi CmpIPredicate.eq 64#32 0#32) 1#32 64#32) 0#32))
          (IntOp.cmpi CmpIPredicate.ne (IntOp.remsi ArithUnit.vector (BitVec.ofNat 32 l.val) (Scalar.select (Scalar.cmpi CmpIPredicate.eq 64#32 0#32) 1#32 64#32)) 0#32))
        (IntOp.addi (IntOp.remsi ArithUnit.vector (BitVec.ofNat 32 l.val) (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val) (Scalar.select (Scalar.cmpi CmpIPredicate.eq 64#32 0#32) 1#32 64#32)))
      32#32 = if l.val % 64 < 32 then 1#1 else 0#1 := by decide +kernel

/-- The rotation as printed turns the lanes of each row. -/
theorem rotated_apply (c s t : FVec Ideal S512x128 .f32) (i : Fin 512) (l : Fin 128) :
    k0_pay18 c s t (iota .tc S512x128 32 [1] iota_S512x128_d1_w32) (Scalar.select (Scalar.cmpi .eq 64#32 0#32) 1#32 64#32) k0_pay17 (ix2 i l)
      = rotated (lane t i) (lane c i) (lane s i) l := by
  unfold rotated beside lane
  pointwise [k0_pay18, k0_pay17]
  rw [mask_eq]
  by_cases hl : l.val % 64 < 32
  · rw [if_pos hl, if_pos hl]
    have e : (⟨(l.val + 128 - 96) % 128, by omega⟩ : Fin 128) = ⟨(l.val + 32) % 128, by omega⟩ := Fin.ext (by show (l.val + 128 - 96) % 128 = (l.val + 32) % 128; omega)
    rw [e]
    rfl
  · rw [if_neg hl, if_neg hl]
    have e : (⟨(l.val + 128 - 32) % 128, by omega⟩ : Fin 128) = ⟨(l.val + 96) % 128, by omega⟩ := Fin.ext (by show (l.val + 128 - 32) % 128 = (l.val + 96) % 128; omega)
    rw [e]
    rfl

/-! The query's pieces: a head's columns scaled, and its rotated columns scaled and turned. -/

theorem queryTile0 (v28 : FVec Ideal S512x256 .f32) (v32 : FVec Ideal S1x256 .f32) (v37 : FVec Ideal S512x1 .f32) (e : Ideal .f32) (w : Vec Ideal S256x1024 .bf16)
    (g : Vec Ideal S1x128 .f32) (i : Fin 512) (l : Fin 128) : k0_pay15 v28 v32 v37 e w g (ix2 i l)
      = side (k0_pay11 v28 v32 v37 e w) 0 i l * queryRoot (k0_pay11 v28 v32 v37 e w) 0 i * g (ix2 0 l) := by
  rw [← root0]
  unfold side
  unfold k0_pay15 k0_pay12
  generalize k0_pay14 v28 v32 v37 e w = r
  generalize k0_pay11 v28 v32 v37 e w = u
  pointwise

theorem queryTile1 (u : FVec Ideal S512x1024 .f32) (g : Vec Ideal S1x128 .f32) (i : Fin 512) (l : Fin 128) :
    k0_pay22 u g (ix2 i l) = side u 1 i l * queryRoot u 1 i * g (ix2 0 l) := by
  rw [← root1]
  unfold side k0_pay22
  generalize k0_pay21 u = r
  pointwise [k0_pay19]

theorem queryTile2 (u : FVec Ideal S512x1024 .f32) (g : Vec Ideal S1x128 .f32) (i : Fin 512) (l : Fin 128) :
    k0_pay29 (k0_pay24 u) (k0_pay26 u) (k0_pay27 u) g (ix2 i l) = side u 2 i l * queryRoot u 2 i * g (ix2 0 l) := by
  rw [← root2]
  unfold side k0_pay29
  generalize k0_pay28 (k0_pay26 u) (k0_pay27 u) = r
  pointwise [k0_pay24]

theorem queryTile3 (u : FVec Ideal S512x1024 .f32) (g : Vec Ideal S1x128 .f32) (i : Fin 512) (l : Fin 128) :
    k0_pay36 u g (ix2 i l) = side u 3 i l * queryRoot u 3 i * g (ix2 0 l) := by
  rw [← root3]
  unfold side k0_pay36
  generalize k0_pay35 u = r
  pointwise [k0_pay33]

theorem queryLate0 (v28 : FVec Ideal S512x256 .f32) (v32 : FVec Ideal S1x256 .f32) (v37 : FVec Ideal S512x1 .f32) (e : Ideal .f32) (w : Vec Ideal S256x1024 .bf16)
    (g : Vec Ideal S1x128 .f32) (i : Fin 512) (l : Fin 128) : k0_pay16 v28 v32 v37 e w g (ix2 i l)
      = late (k0_pay11 v28 v32 v37 e w) 0 i l * queryRoot (k0_pay11 v28 v32 v37 e w) 0 i * g (ix2 0 l) := by
  rw [← root0]
  unfold late
  unfold k0_pay16 k0_pay13
  generalize k0_pay14 v28 v32 v37 e w = r
  generalize k0_pay11 v28 v32 v37 e w = u
  pointwise

/-- The second query head's scaled columns before they are turned. -/
def late1 (v105 : FVec Ideal S512x128 .f32) (r : FVec Ideal S512x1 .f32) (g : Vec Ideal S1x128 .f32) : FVec Ideal S512x128 .f32 :=
  mulf (mulf v105 (broadcastTo S512x128 r broadcasts_S512x1_S512x128)) (broadcastTo S512x128 (shapeCast S1x128 g shapeCasts_S1x128_S1x128) broadcasts_S1x128_S512x128)

theorem queryLate1 (u : FVec Ideal S512x1024 .f32) (g : Vec Ideal S1x128 .f32) (i : Fin 512) (l : Fin 128) :
    late1 (k0_pay20 u) (k0_pay21 u) g (ix2 i l) = late u 1 i l * queryRoot u 1 i * g (ix2 0 l) := by
  rw [← root1]
  unfold late late1
  generalize k0_pay21 u = r
  pointwise [k0_pay20]

theorem queryLate2 (u : FVec Ideal S512x1024 .f32) (g : Vec Ideal S1x128 .f32) (i : Fin 512) (l : Fin 128) :
    k0_pay30 (k0_pay25 u) (k0_pay26 u) (k0_pay27 u) g (ix2 i l) = late u 2 i l * queryRoot u 2 i * g (ix2 0 l) := by
  rw [← root2]
  unfold late k0_pay30
  generalize k0_pay28 (k0_pay26 u) (k0_pay27 u) = r
  pointwise [k0_pay25]

theorem queryLate3 (u : FVec Ideal S512x1024 .f32) (g : Vec Ideal S1x128 .f32) (i : Fin 512) (l : Fin 128) :
    k0_pay37 u g (ix2 i l) = late u 3 i l * queryRoot u 3 i * g (ix2 0 l) := by
  rw [← root3]
  unfold late k0_pay37
  generalize k0_pay35 u = r
  pointwise [k0_pay34]

theorem queryTurn0 (c s : FVec Ideal S512x128 .f32) (v28 : FVec Ideal S512x256 .f32) (v32 : FVec Ideal S1x256 .f32) (v37 : FVec Ideal S512x1 .f32) (e : Ideal .f32) (w : Vec Ideal S256x1024 .bf16)
    (g : Vec Ideal S1x128 .f32) (i : Fin 512) (l : Fin 128) :
    k0_pay18 c s (k0_pay16 v28 v32 v37 e w g) (iota .tc S512x128 32 [1] iota_S512x128_d1_w32) (Scalar.select (Scalar.cmpi .eq 64#32 0#32) 1#32 64#32) k0_pay17 (ix2 i l)
      = rotated (fun l => late (k0_pay11 v28 v32 v37 e w) 0 i l * queryRoot (k0_pay11 v28 v32 v37 e w) 0 i * g (ix2 0 l)) (lane c i) (lane s i) l := by
  rw [rotated_apply]
  exact congrArg (fun t => rotated t (lane c i) (lane s i) l) (funext fun l => queryLate0 v28 v32 v37 e w g i l)

theorem queryTurn1 (c s : FVec Ideal S512x128 .f32) (u : FVec Ideal S512x1024 .f32) (g : Vec Ideal S1x128 .f32) (i : Fin 512) (l : Fin 128) :
    k0_pay23 c s (k0_pay20 u) (k0_pay21 u) g (ix2 i l)
      = rotated (fun l => late u 1 i l * queryRoot u 1 i * g (ix2 0 l)) (lane c i) (lane s i) l :=
  (rotated_apply c s (late1 (k0_pay20 u) (k0_pay21 u) g) i l).trans
    (congrArg (fun t => rotated t (lane c i) (lane s i) l) (funext fun l => queryLate1 u g i l))

theorem queryTurn2 (c s : FVec Ideal S512x128 .f32) (u : FVec Ideal S512x1024 .f32) (g : Vec Ideal S1x128 .f32) (i : Fin 512) (l : Fin 128) :
    k0_pay32 c s (k0_pay30 (k0_pay25 u) (k0_pay26 u) (k0_pay27 u) g) (k0_pay31 (k0_pay25 u) (k0_pay26 u) (k0_pay27 u) g) (ix2 i l)
      = rotated (fun l => late u 2 i l * queryRoot u 2 i * g (ix2 0 l)) (lane c i) (lane s i) l :=
  (rotated_apply c s (k0_pay30 (k0_pay25 u) (k0_pay26 u) (k0_pay27 u) g) i l).trans
    (congrArg (fun t => rotated t (lane c i) (lane s i) l) (funext fun l => queryLate2 u g i l))

theorem queryTurn3 (c s : FVec Ideal S512x128 .f32) (u : FVec Ideal S512x1024 .f32) (g : Vec Ideal S1x128 .f32) (i : Fin 512) (l : Fin 128) :
    k0_pay41 c s (k0_pay37 u g) (Scalar.select (Scalar.cmpi .eq 64#32 0#32) 1#32 64#32) k0_pay38 k0_pay39 k0_pay40 (ix2 i l)
      = rotated (fun l => late u 3 i l * queryRoot u 3 i * g (ix2 0 l)) (lane c i) (lane s i) l :=
  (rotated_apply c s (k0_pay37 u g) i l).trans
    (congrArg (fun t => rotated t (lane c i) (lane s i) l) (funext fun l => queryLate3 u g i l))

/-! The key's pieces: the shared columns' sum of squares is a column of its own, and they are turned once for all heads. -/

/-- The reciprocal root of a key head. -/
def keyRoot (u : FVec Ideal S512x1024 .f32) (s : FVec Ideal S512x1 .f32) (h : Fin 4) (i : Fin 512) : EReal :=
  root (∑ d, side u h i d * side u h i d) (s (ix2 i 0))

theorem shared_apply (v : FVec Ideal S512x128 .f32) (i : Fin 512) : k0_pay43 v (ix2 i 0) = ∑ d, lane v i d * lane v i d := by
  unfold lane
  pointwise [k0_pay43]

theorem sharedTurn (c s v : FVec Ideal S512x128 .f32) (g : Vec Ideal S1x128 .f32) (i : Fin 512) (l : Fin 128) :
    k0_pay45 c s v (k0_pay44 g) (ix2 i l) = rotated (fun l => lane v i l * g (ix2 0 l)) (lane c i) (lane s i) l :=
  (rotated_apply c s (mulf v (broadcastTo S512x128 (k0_pay44 g) broadcasts_S1x128_S512x128)) i l).trans
    (congrArg (fun t => rotated t (lane c i) (lane s i) l) (funext fun l => by unfold lane; pointwise [k0_pay44]))

theorem keyRoot0 (u : FVec Ideal S512x1024 .f32) (s : FVec Ideal S512x1 .f32) (i : Fin 512) : k0_pay47 u s (ix2 i 0) = keyRoot u s 0 i := by
  unfold keyRoot root side eps
  rw [← named_eq]
  pointwise [k0_pay47, k0_pay46]

theorem keyTile0 (u : FVec Ideal S512x1024 .f32) (s : FVec Ideal S512x1 .f32) (g : Vec Ideal S1x128 .f32) (i : Fin 512) (l : Fin 128) :
    k0_pay48 u s g (ix2 i l) = side u 0 i l * keyRoot u s 0 i * g (ix2 0 l) := by
  rw [← keyRoot0]
  unfold side k0_pay48
  generalize k0_pay47 u s = r
  pointwise [k0_pay46]

theorem keyTurn0 (u : FVec Ideal S512x1024 .f32) (s : FVec Ideal S512x1 .f32) (v : FVec Ideal S512x128 .f32) (i : Fin 512) (l : Fin 128) :
    k0_pay49 v (k0_pay47 u s) (ix2 i l) = v (ix2 i l) * keyRoot u s 0 i := by
  rw [← keyRoot0]
  unfold k0_pay49
  generalize k0_pay47 u s = r
  pointwise

theorem keyRoot1 (u : FVec Ideal S512x1024 .f32) (s : FVec Ideal S512x1 .f32) (i : Fin 512) : k0_pay51 u s (ix2 i 0) = keyRoot u s 1 i := by
  unfold keyRoot root side eps
  rw [← named_eq]
  pointwise [k0_pay51, k0_pay50]

theorem keyTile1 (u : FVec Ideal S512x1024 .f32) (s : FVec Ideal S512x1 .f32) (g : Vec Ideal S1x128 .f32) (i : Fin 512) (l : Fin 128) :
    k0_pay52 u s g (ix2 i l) = side u 1 i l * keyRoot u s 1 i * g (ix2 0 l) := by
  rw [← keyRoot1]
  unfold side k0_pay52
  generalize k0_pay51 u s = r
  pointwise [k0_pay50]

theorem keyTurn1 (u : FVec Ideal S512x1024 .f32) (s : FVec Ideal S512x1 .f32) (v : FVec Ideal S512x128 .f32) (i : Fin 512) (l : Fin 128) :
    k0_pay53 u s v (ix2 i l) = v (ix2 i l) * keyRoot u s 1 i := by
  rw [← keyRoot1]
  unfold k0_pay53
  generalize k0_pay51 u s = r
  pointwise

theorem keyRoot2 (u : FVec Ideal S512x1024 .f32) (s : FVec Ideal S512x1 .f32) (i : Fin 512) : k0_pay55 u s (ix2 i 0) = keyRoot u s 2 i := by
  unfold keyRoot root side eps
  rw [← named_eq]
  pointwise [k0_pay55, k0_pay54]

theorem keyTile2 (u : FVec Ideal S512x1024 .f32) (s : FVec Ideal S512x1 .f32) (g : Vec Ideal S1x128 .f32) (i : Fin 512) (l : Fin 128) :
    k0_pay57 (k0_pay56 u s) g (ix2 i l) = side u 2 i l * keyRoot u s 2 i * g (ix2 0 l) := by
  rw [← keyRoot2]
  unfold side k0_pay57 k0_pay56
  generalize k0_pay55 u s = r
  pointwise [k0_pay54]

theorem keyTurn2 (u : FVec Ideal S512x1024 .f32) (s : FVec Ideal S512x1 .f32) (v : FVec Ideal S512x128 .f32) (i : Fin 512) (l : Fin 128) :
    k0_pay58 v (k0_pay55 u s) (ix2 i l) = v (ix2 i l) * keyRoot u s 2 i := by
  rw [← keyRoot2]
  unfold k0_pay58
  generalize k0_pay55 u s = r
  pointwise

theorem keyRoot3 (u : FVec Ideal S512x1024 .f32) (s : FVec Ideal S512x1 .f32) (i : Fin 512) : k0_pay60 u s (ix2 i 0) = keyRoot u s 3 i := by
  unfold keyRoot root side eps
  rw [← named_eq]
  pointwise [k0_pay60, k0_pay59]

theorem keyTile3 (u : FVec Ideal S512x1024 .f32) (s : FVec Ideal S512x1 .f32) (g : Vec Ideal S1x128 .f32) (i : Fin 512) (l : Fin 128) :
    k0_pay61 u s g (ix2 i l) = side u 3 i l * keyRoot u s 3 i * g (ix2 0 l) := by
  rw [← keyRoot3]
  unfold side k0_pay61
  generalize k0_pay60 u s = r
  pointwise [k0_pay59]

theorem keyTurn3 (u : FVec Ideal S512x1024 .f32) (s : FVec Ideal S512x1 .f32) (v : FVec Ideal S512x128 .f32) (i : Fin 512) (l : Fin 128) :
    k0_pay62 u s v (ix2 i l) = v (ix2 i l) * keyRoot u s 3 i := by
  rw [← keyRoot3]
  unfold k0_pay62
  generalize k0_pay60 u s = r
  pointwise

/-! The products of a tile of rows. -/

/-- A row's norm, as the kernel lays it out. -/
def normRow (x : Vec Ideal S512x1024 .f32) (g : Vec Ideal S1x1024 .f32) (i : Fin 512) : Fin 1024 → EReal :=
  normed len1024 (fun e => x (ix2 i e)) fun e => g (ix2 0 e)

theorem norm_apply (x : Vec Ideal S512x1024 .f32) (g : Vec Ideal S1x1024 .f32) (i : Fin 512) (e : Fin 1024) : k0_pay2 x g (ix2 i e) = normRow x g i e := by
  unfold normRow normed len1024 eps
  pointwise [k0_pay2]

theorem down_apply (x : Vec Ideal S512x1024 .f32) (g : Vec Ideal S1x1024 .f32) (a : Vec Ideal S384x1024 .f32) (b : Vec Ideal S128x1024 .bf16) (i : Fin 512) (j : Fin 512) :
    k0_pay5 x g a b (ix2 i j) = if h : j.val < 384 then ∑ e, normRow x g i e * a (ix2 ⟨j.val, h⟩ e) else ∑ e, normRow x g i e * b (ix2 ⟨j.val - 384, by omega⟩ e) := by
  simp only [← norm_apply]
  unfold k0_pay5
  generalize k0_pay2 x g = h
  pointwise
  by_cases hj : j.val < 384
  · simp only [dif_pos hj]
  · simp only [dif_neg hj]

theorem upQuery_apply (v : FVec Ideal S512x256 .f32) (g : Vec Ideal S1x256 .f32) (w : Vec Ideal S256x1024 .bf16) (x : Vec Ideal S512x1024 .f32) (gx : Vec Ideal S1x1024 .f32) (a : Vec Ideal S384x1024 .f32) (b : Vec Ideal S128x1024 .bf16) (i : Fin 512) (j : Fin 1024) :
    k0_pay11 (k0_pay6 x gx a b) (k0_pay9 g) (k0_pay10 x gx a b) (Scalar.ofBits .f32 0x358637BD#32) w (ix2 i j)
      = ∑ q : Fin 256, normed len256 (fun q : Fin 256 => k0_pay5 x gx a b (ix2 i ⟨q.val, by omega⟩)) (fun q => g (ix2 0 q)) q * w (ix2 q j) := by
  unfold normed len256 eps
  unfold k0_pay10 k0_pay6
  generalize k0_pay5 x gx a b = p
  pointwise [k0_pay11, k0_pay9]

theorem upKey_apply (g : Vec Ideal S1x128 .f32) (w : Vec Ideal S128x1024 .bf16) (x : Vec Ideal S512x1024 .f32) (gx : Vec Ideal S1x1024 .f32) (a : Vec Ideal S384x1024 .f32) (b : Vec Ideal S128x1024 .bf16) (i : Fin 512) (j : Fin 1024) :
    k0_pay42 (k0_pay7 x gx a b) g w (ix2 i j)
      = ∑ q : Fin 128, normed len128 (fun q : Fin 128 => k0_pay5 x gx a b (ix2 i ⟨256 + q.val, by omega⟩)) (fun q => g (ix2 0 q)) q * w (ix2 q j) := by
  unfold normed len128 eps
  unfold k0_pay7
  generalize k0_pay5 x gx a b = p
  pointwise [k0_pay42]

theorem shared_eq (x : Vec Ideal S512x1024 .f32) (gx : Vec Ideal S1x1024 .f32) (a : Vec Ideal S384x1024 .f32) (b : Vec Ideal S128x1024 .bf16) (i : Fin 512) (l : Fin 128) :
    lane (k0_pay8 x gx a b) i l = k0_pay5 x gx a b (ix2 i ⟨384 + l.val, by omega⟩) := by
  unfold lane k0_pay8
  generalize k0_pay5 x gx a b = p
  pointwise

theorem value_apply (u : FVec Ideal S512x1024 .f32) (i : Fin 512) (j : Fin 512) : k0_pay63 u (ix2 i j) = u (ix2 i ⟨512 + j.val, by omega⟩) := by
  pointwise [k0_pay63]

theorem moved_apply (h : FVec Ideal S512x1024 .bf16) (p : Vec Ideal S512x512 .bf16) (i : Fin 512) (e : Fin 1024) :
    k0_pay64 h p (ix2 i e) = ∑ r : Fin 512, p (ix2 i r) * h (ix2 r e) := by
  pointwise [k0_pay64]

/-- The product of moved rows with 512 of the weights' rows. -/
def moved (v : FVec Ideal S512x1024 .f32) (w : Vec Ideal S512x1024 .f32) (i j : Fin 512) : EReal := ∑ e : Fin 1024, v (ix2 i e) * w (ix2 j e)

theorem dilated_apply (v : FVec Ideal S512x1024 .f32) (w : Vec Ideal S512x1024 .f32) (a b : Vec Ideal S256x256 .bf16) (g : Vec Ideal S1x512 .f32) (r : Fin 16) (p : Fin 32) (j : Fin 512) :
    k0_pay66 v w a b g (ix4 0 r p j) = moved v w ⟨r.val * 32 + p.val, by omega⟩ j * Ideal.rsqrt
      ((if h : j.val < 256 then ∑ q : Fin 256, moved v w ⟨r.val * 32 + p.val, by omega⟩ ⟨q.val, by omega⟩ * moved v w ⟨r.val * 32 + p.val, by omega⟩ ⟨q.val, by omega⟩ * a (ix2 q ⟨j.val, h⟩)
        else ∑ q : Fin 256, moved v w ⟨r.val * 32 + p.val, by omega⟩ ⟨256 + q.val, by omega⟩ * moved v w ⟨r.val * 32 + p.val, by omega⟩ ⟨256 + q.val, by omega⟩ * b (ix2 q ⟨j.val - 256, by omega⟩)) * inv64 + eps)
      * g (ix2 0 j) := by
  unfold inv64 eps moved
  pointwise [k0_pay66, k0_pay65]

theorem values_apply (v : FVec Ideal S512x1024 .f32) (w : Vec Ideal S512x1024 .f32) (r : Fin 16) (p : Fin 32) (j : Fin 512) :
    k0_pay1 (k0_pay71 (k0_pay65 v) w) (ix4 0 r p j) = moved v w ⟨r.val * 32 + p.val, by omega⟩ j := by
  unfold moved
  pointwise [k0_pay1, k0_pay71, k0_pay65]

end Cert.ProjKernelIdeal.Block

end
-- ==== Proof.ProjBlock.lean ====
module

public import proofs.«01_k».proof.Proof.ProjIdealFrame
public import proofs.«01_k».proof.Proof.ProjPieces
public import proofs.«01_k».proof.Proof.Pieces
public import Idealize.ShloMosaic.Lib.Pipeline.Value

/-! The six blocks that a point of `proj` writes, from the blocks that it reads. -/

@[expose] public section

set_option maxRecDepth 16384

noncomputable section

namespace Cert.ProjKernelIdeal.Block

open Cert.ProjKernelIdeal Cert.ProjKernelIdeal.Gen Cert.ProjKernelIdeal.Launched Cert.Projection Cert.Swiglu
open Idealize.ShloMosaic Idealize.ShloMosaic.TcCoe Idealize.ShloMosaic.Tactic

/-! Loads of whole buffers, and of rows of the one weight array. -/

theorem zeros2 : (![0, 0] : Fin 2 → ℕ) = fun _ => 0 := by funext a; fin_cases a <;> rfl
theorem zeros4 : (![0, 0, 0, 0] : Fin 4 → ℕ) = fun _ => 0 := by funext a; fin_cases a <;> rfl

theorem load0 (x : Vec Ideal S512x1024 .f32) : View.ld (Val := Elt Ideal) (e' := .f32) x r0_0 = x := View.ld_unit_zero zeros2 _ x
theorem load1 (x : Vec Ideal S1x1024 .f32) : View.ld (Val := Elt Ideal) (e' := .f32) x r0_1 = x := View.ld_unit_zero zeros2 _ x
theorem load2 (x : Vec Ideal S512x128 .f32) : View.ld (Val := Elt Ideal) (e' := .f32) x r0_2 = x := View.ld_unit_zero zeros2 _ x
theorem load4 (x : Vec Ideal S128x1024 .bf16) : View.ld (Val := Elt Ideal) (e' := .bf16) x r0_4 = x := View.ld_unit_zero zeros2 _ x
theorem load5 (x : Vec Ideal S1x256 .f32) : View.ld (Val := Elt Ideal) (e' := .f32) x r0_5 = x := View.ld_unit_zero zeros2 _ x
theorem load6 (x : Vec Ideal S256x1024 .bf16) : View.ld (Val := Elt Ideal) (e' := .bf16) x r0_6 = x := View.ld_unit_zero zeros2 _ x
theorem load7 (x : Vec Ideal S1x128 .f32) : View.ld (Val := Elt Ideal) (e' := .f32) x r0_7 = x := View.ld_unit_zero zeros2 _ x
theorem load16 (x : Vec Ideal S512x512 .bf16) : View.ld (Val := Elt Ideal) (e' := .bf16) x r0_16 = x := View.ld_unit_zero zeros2 _ x
theorem load18 (x : Vec Ideal S256x256 .bf16) : View.ld (Val := Elt Ideal) (e' := .bf16) x r0_18 = x := View.ld_unit_zero zeros2 _ x
theorem load19 (x : Vec Ideal S1x512 .f32) : View.ld (Val := Elt Ideal) (e' := .f32) x r0_19 = x := View.ld_unit_zero zeros2 _ x

theorem rows_apply (w : Vec Ideal S1984x1024 .f32) (o n : ℕ) (hw : ∀ a, (![o, 0] : Fin 2 → ℕ) a + (![n, 1024] : Fin 2 → ℕ) a ≤ S1984x1024.size a)
    (j : Fin n) (e : Fin 1024) (hj : o + j.val < 1984) :
    View.ld (Val := Elt Ideal) (e' := .f32) w (Rect.unit (s := S1984x1024) ![o, 0] ![n, 1024] hw) (ix2 j e) = w (ix2 ⟨o + j.val, hj⟩ e) := by
  refine View.ld_unit_apply_of (Val := Elt Ideal) w ![o, 0] ![n, 1024] hw (ix2 j e) (ix2 ⟨o + j.val, hj⟩ e) fun a => ?_
  fin_cases a
  · rfl
  · show e.val = 0 + e.val
    omega

/-! Four heads of 256 columns, the first 128 of each as they are and the last 128 turned. -/

/-- The array of the heads. -/
def heads (f g : Fin 4 → Fin 512 → Fin 128 → EReal) : Vec Ideal S512x1024 .bf16 := fun y =>
  if h : (y 1).val % 256 < 128 then f ⟨(y 1).val / 256, by have := (y 1).isLt; simp at this; omega⟩ (y 0) ⟨(y 1).val % 256, h⟩
  else g ⟨(y 1).val / 256, by have := (y 1).isLt; simp at this; omega⟩ (y 0) ⟨(y 1).val % 256 - 128, by omega⟩

theorem heads_apply (f g : Fin 4 → Fin 512 → Fin 128 → EReal) (i : Fin 512) (j : Fin 1024) :
    heads f g (ix2 i j) = if h : j.val % 256 < 128 then f ⟨j.val / 256, by omega⟩ i ⟨j.val % 256, h⟩ else g ⟨j.val / 256, by omega⟩ i ⟨j.val % 256 - 128, by omega⟩ := rfl

theorem head_even (f g : Fin 4 → Fin 512 → Fin 128 → EReal) (h : Fin 4) (o : ℕ) (ho : o = 256 * h.val)
    (hs : ∀ a, (![0, o] : Fin 2 → ℕ) a + (![512, 128] : Fin 2 → ℕ) a ≤ S512x1024.size a) (p : FVec Ideal S512x128 .bf16) (hp : ∀ i l, p (ix2 i l) = f h i l) (x : S512x128.Idx) :
    p x = heads f g ((Rect.unit (s := S512x1024) ![0, o] ![512, 128] hs).emb x) := by
  obtain ⟨i, l, rfl⟩ : ∃ (i : Fin 512) (l : Fin 128), x = ix2 i l := ⟨x 0, x 1, eq_ix2 x⟩
  have e : (Rect.unit (s := S512x1024) ![0, o] ![512, 128] hs).emb (ix2 i l) = ix2 i (⟨o + l.val, by omega⟩ : Fin 1024) := funext fun a => Fin.ext (by
    refine (Rect.idx_unit_val ![0, o] ![512, 128] hs (ix2 i l) a).trans ?_
    fin_cases a
    · show 0 + i.val = i.val
      omega
    · rfl)
  rw [e, heads_apply, hp]
  subst ho
  have e1 : (256 * h.val + l.val) / 256 = h.val := by omega
  have e2 : (256 * h.val + l.val) % 256 = l.val := by omega
  simp only [e1, e2, l.isLt, dif_pos, Fin.eta]

theorem head_odd (f g : Fin 4 → Fin 512 → Fin 128 → EReal) (h : Fin 4) (o : ℕ) (ho : o = 256 * h.val + 128)
    (hs : ∀ a, (![0, o] : Fin 2 → ℕ) a + (![512, 128] : Fin 2 → ℕ) a ≤ S512x1024.size a) (p : FVec Ideal S512x128 .bf16) (hp : ∀ i l, p (ix2 i l) = g h i l) (x : S512x128.Idx) :
    p x = heads f g ((Rect.unit (s := S512x1024) ![0, o] ![512, 128] hs).emb x) := by
  obtain ⟨i, l, rfl⟩ : ∃ (i : Fin 512) (l : Fin 128), x = ix2 i l := ⟨x 0, x 1, eq_ix2 x⟩
  have e : (Rect.unit (s := S512x1024) ![0, o] ![512, 128] hs).emb (ix2 i l) = ix2 i (⟨o + l.val, by omega⟩ : Fin 1024) := funext fun a => Fin.ext (by
    refine (Rect.idx_unit_val ![0, o] ![512, 128] hs (ix2 i l) a).trans ?_
    fin_cases a
    · show 0 + i.val = i.val
      omega
    · rfl)
  rw [e, heads_apply, hp]
  subst ho
  have e1 : (256 * h.val + 128 + l.val) / 256 = h.val := by omega
  have e2 : (256 * h.val + 128 + l.val) % 256 = 128 + l.val := by omega
  have e3 : 128 + l.val - 128 = l.val := by omega
  have e4 : ¬ (128 + l.val < 128) := by omega
  simp only [e1, e2, e3, e4, dif_neg, not_false_eq_true, Fin.eta]

/-- The eight pieces are the array of the heads. -/
theorem canon_heads (f g : Fin 4 → Fin 512 → Fin 128 → EReal) (p0 q0 p1 q1 p2 q2 p3 q3 : FVec Ideal S512x128 .bf16)
    (hp0 : ∀ i l, p0 (ix2 i l) = f 0 i l) (hq0 : ∀ i l, q0 (ix2 i l) = g 0 i l) (hp1 : ∀ i l, p1 (ix2 i l) = f 1 i l) (hq1 : ∀ i l, q1 (ix2 i l) = g 1 i l)
    (hp2 : ∀ i l, p2 (ix2 i l) = f 2 i l) (hq2 : ∀ i l, q2 (ix2 i l) = g 2 i l) (hp3 : ∀ i l, p3 (ix2 i l) = f 3 i l) (hq3 : ∀ i l, q3 (ix2 i l) = g 3 i l) :
    View.canon (Val := Elt Ideal) (s := S512x1024) (e := .bf16) [⟨r0_15, q3⟩, ⟨r0_14, p3⟩, ⟨r0_13, q2⟩, ⟨r0_12, p2⟩, ⟨r0_11, q1⟩, ⟨r0_10, p1⟩, ⟨r0_9, q0⟩, ⟨r0_8, p0⟩] = heads f g := by
  funext y
  refine View.canon_apply_of_pieces (heads f g) _ ?_ y (View.cover_of_tiledL _ ![512, 128] (by rfl) y)
  refine View.PiecesOf.mem (L := [_, _, _, _, _, _, _, _]) ⟨fun x => ?_, fun x => ?_, fun x => ?_, fun x => ?_, fun x => ?_, fun x => ?_, fun x => ?_, fun x => ?_, trivial⟩
  · exact head_odd f g 3 896 rfl inb_S512x1024_S512x128_0_896 q3 hq3 x
  · exact head_even f g 3 768 rfl inb_S512x1024_S512x128_0_768 p3 hp3 x
  · exact head_odd f g 2 640 rfl inb_S512x1024_S512x128_0_640 q2 hq2 x
  · exact head_even f g 2 512 rfl inb_S512x1024_S512x128_0_512 p2 hp2 x
  · exact head_odd f g 1 384 rfl inb_S512x1024_S512x128_0_384 q1 hq1 x
  · exact head_even f g 1 256 rfl inb_S512x1024_S512x128_0_256 p1 hp1 x
  · exact head_odd f g 0 128 rfl inb_S512x1024_S512x128_0_128 q0 hq0 x
  · exact head_even f g 0 0 rfl inb_S512x1024_S512x128_0_0 p0 hp0 x

section
variable (x0 : Vec Ideal S512x1024 .f32) (x1 : Vec Ideal S1x1024 .f32) (x2 : Vec Ideal S1984x1024 .f32) (x3 : Vec Ideal S128x1024 .bf16) (x4 : Vec Ideal S256x256 .bf16) (x5 : Vec Ideal S512x512 .bf16) (x6 : Vec Ideal S1x512 .f32) (x7 : Vec Ideal S1x512 .f32) (x8 : Vec Ideal S1x256 .f32) (x9 : Vec Ideal S256x1024 .bf16) (x10 : Vec Ideal S1x128 .f32) (x11 : Vec Ideal S128x1024 .bf16) (x12 : Vec Ideal S1x128 .f32) (x13 : Vec Ideal S1x128 .f32) (x14 : Vec Ideal S1x128 .f32) (x15 : Vec Ideal S1x128 .f32) (x16 : Vec Ideal S512x128 .f32) (x17 : Vec Ideal S512x128 .f32)

/-- The latent columns of a tile's projected rows. -/
def latent : FVec Ideal S512x512 .f32 := k0_pay5 x0 x1 (View.ld (Val := Elt Ideal) (e' := .f32) x2 r0_3) x3

/-- The query's and the keys' rows before their norms, and the moved rows. -/
def upQ : FVec Ideal S512x1024 .f32 := val78 x0 x1 x2 x3 x4 x5 x6 x7 x8 x9 x10 x11 x12 x13 x14 x15 x16 x17
def upK : FVec Ideal S512x1024 .f32 := val82 x0 x1 x2 x3 x4 x5 x6 x7 x8 x9 x10 x11 x12 x13 x14 x15 x16 x17
def movedRows : FVec Ideal S512x1024 .f32 := val85 x0 x1 x2 x3 x4 x5 x6 x7 x8 x9 x10 x11 x12 x13 x14 x15 x16 x17

end

section
variable (x0 : Vec Ideal S512x1024 .f32) (x1 : Vec Ideal S1x1024 .f32) (x2 : Vec Ideal S1984x1024 .f32) (x3 : Vec Ideal S128x1024 .bf16) (x4 : Vec Ideal S256x256 .bf16) (x5 : Vec Ideal S512x512 .bf16) (x6 : Vec Ideal S1x512 .f32) (x7 : Vec Ideal S1x512 .f32) (x8 : Vec Ideal S1x256 .f32) (x9 : Vec Ideal S256x1024 .bf16) (x10 : Vec Ideal S1x128 .f32) (x11 : Vec Ideal S128x1024 .bf16) (x12 : Vec Ideal S1x128 .f32) (x13 : Vec Ideal S1x128 .f32) (x14 : Vec Ideal S1x128 .f32) (x15 : Vec Ideal S1x128 .f32) (x16 : Vec Ideal S512x128 .f32) (x17 : Vec Ideal S512x128 .f32)

theorem val72_eq : val72 x0 x1 x2 x3 x4 x5 x6 x7 x8 x9 x10 x11 x12 x13 x14 x15 x16 x17 = x16 := by
  unfold val72
  rw [load2]
  funext y
  obtain ⟨i, l, rfl⟩ : ∃ (i : Fin 512) (l : Fin 128), y = ix2 i l := ⟨y 0, y 1, eq_ix2 y⟩
  pointwise [k0_pay3]

theorem val73_eq : val73 x0 x1 x2 x3 x4 x5 x6 x7 x8 x9 x10 x11 x12 x13 x14 x15 x16 x17 = x17 := by
  unfold val73
  rw [load2]
  funext y
  obtain ⟨i, l, rfl⟩ : ∃ (i : Fin 512) (l : Fin 128), y = ix2 i l := ⟨y 0, y 1, eq_ix2 y⟩
  pointwise [k0_pay4]

theorem latent_apply (i j : Fin 512) : latent x0 x1 x2 x3 (ix2 i j)
    = if h : j.val < 384 then ∑ e, normRow x0 x1 i e * x2 (ix2 ⟨1536 + j.val, by omega⟩ e) else ∑ e, normRow x0 x1 i e * x3 (ix2 ⟨j.val - 384, by omega⟩ e) := by
  unfold latent
  rw [down_apply]
  by_cases h : j.val < 384
  · rw [dif_pos h, dif_pos h]
    exact Finset.sum_congr rfl fun e _ => congrArg (normRow x0 x1 i e * ·) (rows_apply x2 1536 384 _ ⟨j.val, h⟩ e (by show 1536 + j.val < 1984; omega))
  · rw [dif_neg h, dif_neg h]

theorem upQ_apply (i : Fin 512) (j : Fin 1024) : upQ x0 x1 x2 x3 x4 x5 x6 x7 x8 x9 x10 x11 x12 x13 x14 x15 x16 x17 (ix2 i j)
    = ∑ q : Fin 256, normed len256 (fun q : Fin 256 => latent x0 x1 x2 x3 (ix2 i ⟨q.val, by omega⟩)) (fun q => x8 (ix2 0 q)) q * x9 (ix2 q j) := by
  unfold upQ val78 val74 val76 val77
  rw [load0, load1, load4, load5, load6]
  exact upQuery_apply (k0_pay6 x0 x1 (View.ld (Val := Elt Ideal) (e' := .f32) x2 r0_3) x3) x8 x9 x0 x1 (View.ld (Val := Elt Ideal) (e' := .f32) x2 r0_3) x3 i j

theorem upK_apply (i : Fin 512) (j : Fin 1024) : upK x0 x1 x2 x3 x4 x5 x6 x7 x8 x9 x10 x11 x12 x13 x14 x15 x16 x17 (ix2 i j)
    = ∑ q : Fin 128, normed len128 (fun q : Fin 128 => latent x0 x1 x2 x3 (ix2 i ⟨256 + q.val, by omega⟩)) (fun q => x10 (ix2 0 q)) q * x11 (ix2 q j) := by
  unfold upK val82
  rw [load0, load1, load4, load7, load4]
  exact upKey_apply x10 x11 x0 x1 (View.ld (Val := Elt Ideal) (e' := .f32) x2 r0_3) x3 i j

theorem movedRows_apply (i : Fin 512) (e : Fin 1024) : movedRows x0 x1 x2 x3 x4 x5 x6 x7 x8 x9 x10 x11 x12 x13 x14 x15 x16 x17 (ix2 i e) = ∑ r : Fin 512, x5 (ix2 i r) * normRow x0 x1 r e := by
  unfold movedRows val85
  rw [load0, load1, load16, moved_apply]
  exact Finset.sum_congr rfl fun r _ => congrArg (x5 (ix2 i r) * ·) (norm_apply x0 x1 r e)

/-- The columns that all key heads share, with zeros after them. -/
def sharedLanes (i : Fin 512) (l : Fin 128) : EReal := latent x0 x1 x2 x3 (ix2 i ⟨384 + l.val, by omega⟩)

theorem val75_lane (i : Fin 512) (l : Fin 128) : lane (val75 x0 x1 x2 x3 x4 x5 x6 x7 x8 x9 x10 x11 x12 x13 x14 x15 x16 x17) i l = sharedLanes x0 x1 x2 x3 i l := by
  unfold val75 sharedLanes latent
  rw [load0, load1, load4]
  exact shared_eq x0 x1 _ x3 i l

theorem val75_lane' (i : Fin 512) : lane (val75 x0 x1 x2 x3 x4 x5 x6 x7 x8 x9 x10 x11 x12 x13 x14 x15 x16 x17) i = sharedLanes x0 x1 x2 x3 i := funext fun l => val75_lane x0 x1 x2 x3 x4 x5 x6 x7 x8 x9 x10 x11 x12 x13 x14 x15 x16 x17 i l

theorem val83_apply (i : Fin 512) : val83 x0 x1 x2 x3 x4 x5 x6 x7 x8 x9 x10 x11 x12 x13 x14 x15 x16 x17 (ix2 i 0) = ∑ d, sharedLanes x0 x1 x2 x3 i d * sharedLanes x0 x1 x2 x3 i d := by
  unfold val83
  rw [shared_apply, val75_lane']

theorem val84_apply (i : Fin 512) (l : Fin 128) : val84 x0 x1 x2 x3 x4 x5 x6 x7 x8 x9 x10 x11 x12 x13 x14 x15 x16 x17 (ix2 i l)
    = rotated (fun l => sharedLanes x0 x1 x2 x3 i l * x15 (ix2 0 l)) (lane x16 i) (lane x17 i) l := by
  unfold val84
  rw [load7, val72_eq, val73_eq, sharedTurn, val75_lane']

theorem query_block : out0_21 x0 x1 x2 x3 x4 x5 x6 x7 x8 x9 x10 x11 x12 x13 x14 x15 x16 x17 = heads
    (fun h i l => side (upQ x0 x1 x2 x3 x4 x5 x6 x7 x8 x9 x10 x11 x12 x13 x14 x15 x16 x17) h i l * queryRoot (upQ x0 x1 x2 x3 x4 x5 x6 x7 x8 x9 x10 x11 x12 x13 x14 x15 x16 x17) h i * x12 (ix2 0 l))
    (fun h i l => rotated (fun l => late (upQ x0 x1 x2 x3 x4 x5 x6 x7 x8 x9 x10 x11 x12 x13 x14 x15 x16 x17) h i l * queryRoot (upQ x0 x1 x2 x3 x4 x5 x6 x7 x8 x9 x10 x11 x12 x13 x14 x15 x16 x17) h i * x13 (ix2 0 l)) (lane x16 i) (lane x17 i) l) := by
  unfold out0_21
  refine canon_heads _ _ _ _ _ _ _ _ _ _ ?_ ?_ ?_ ?_ ?_ ?_ ?_ ?_
  all_goals intro i l
  · rw [load7]; exact queryTile0 _ _ _ _ _ x12 i l
  · rw [load7, val72_eq, val73_eq]; exact queryTurn0 x16 x17 _ _ _ _ _ x13 i l
  · rw [load7]; exact queryTile1 _ x12 i l
  · rw [load7, val72_eq, val73_eq]; exact queryTurn1 x16 x17 _ x13 i l
  · rw [load7]; exact queryTile2 _ x12 i l
  · rw [load7, val72_eq, val73_eq]; exact queryTurn2 x16 x17 _ x13 i l
  · rw [load7]; exact queryTile3 _ x12 i l
  · rw [load7, val72_eq, val73_eq]; exact queryTurn3 x16 x17 _ x13 i l

theorem key_block : out0_22 x0 x1 x2 x3 x4 x5 x6 x7 x8 x9 x10 x11 x12 x13 x14 x15 x16 x17 = heads
    (fun h i l => side (upK x0 x1 x2 x3 x4 x5 x6 x7 x8 x9 x10 x11 x12 x13 x14 x15 x16 x17) h i l * keyRoot (upK x0 x1 x2 x3 x4 x5 x6 x7 x8 x9 x10 x11 x12 x13 x14 x15 x16 x17) (val83 x0 x1 x2 x3 x4 x5 x6 x7 x8 x9 x10 x11 x12 x13 x14 x15 x16 x17) h i * x14 (ix2 0 l))
    (fun h i l => val84 x0 x1 x2 x3 x4 x5 x6 x7 x8 x9 x10 x11 x12 x13 x14 x15 x16 x17 (ix2 i l) * keyRoot (upK x0 x1 x2 x3 x4 x5 x6 x7 x8 x9 x10 x11 x12 x13 x14 x15 x16 x17) (val83 x0 x1 x2 x3 x4 x5 x6 x7 x8 x9 x10 x11 x12 x13 x14 x15 x16 x17) h i) := by
  unfold out0_22
  refine canon_heads _ _ _ _ _ _ _ _ _ _ ?_ ?_ ?_ ?_ ?_ ?_ ?_ ?_
  all_goals intro i l
  · rw [load7]; exact keyTile0 _ _ x14 i l
  · exact keyTurn0 _ _ _ i l
  · rw [load7]; exact keyTile1 _ _ x14 i l
  · exact keyTurn1 _ _ _ i l
  · rw [load7]; exact keyTile2 _ _ x14 i l
  · exact keyTurn2 _ _ _ i l
  · rw [load7]; exact keyTile3 _ _ x14 i l
  · exact keyTurn3 _ _ _ i l

theorem value_block (i j : Fin 512) : out0_23 x0 x1 x2 x3 x4 x5 x6 x7 x8 x9 x10 x11 x12 x13 x14 x15 x16 x17 (ix2 i j) = upK x0 x1 x2 x3 x4 x5 x6 x7 x8 x9 x10 x11 x12 x13 x14 x15 x16 x17 (ix2 i ⟨512 + j.val, by omega⟩) := by
  unfold out0_23
  rw [View.canon_unit_zero zeros2]
  exact value_apply _ i j

/-- The product of moved rows with 512 of the weights' rows from an offset on. -/
def product (o : ℕ) (ho : o + 512 ≤ 1984) (i j : Fin 512) : EReal := ∑ e : Fin 1024, movedRows x0 x1 x2 x3 x4 x5 x6 x7 x8 x9 x10 x11 x12 x13 x14 x15 x16 x17 (ix2 i e) * x2 (ix2 ⟨o + j.val, by omega⟩ e)

/-- A head's scaled columns of such products, its sum of squares through the table of the heads. -/
def headed (u : Fin 512 → EReal) (tb : Vec Ideal S256x256 .bf16) (g : Vec Ideal S1x512 .f32) (j : Fin 512) : EReal :=
  u j * Ideal.rsqrt
      ((if h : j.val < 256 then ∑ q : Fin 256, u ⟨q.val, by omega⟩ * u ⟨q.val, by omega⟩ * tb (ix2 q ⟨j.val, h⟩)
        else ∑ q : Fin 256, u ⟨256 + q.val, by omega⟩ * u ⟨256 + q.val, by omega⟩ * tb (ix2 q ⟨j.val - 256, by omega⟩)) * inv64 + eps)
      * g (ix2 0 j)

theorem first_block (r : Fin 16) (p : Fin 32) (j : Fin 512) : out0_18 x0 x1 x2 x3 x4 x5 x6 x7 x8 x9 x10 x11 x12 x13 x14 x15 x16 x17 (ix4 0 r p j)
    = headed (product x0 x1 x2 x3 x4 x5 x6 x7 x8 x9 x10 x11 x12 x13 x14 x15 x16 x17 0 (by norm_num) ⟨r.val * 32 + p.val, by omega⟩) x4 x6 j := by
  unfold out0_18
  rw [View.canon_unit_zero zeros4, load18, load19]
  refine (dilated_apply _ _ x4 x4 x6 r p j).trans ?_
  have hm : ∀ i j, moved (val85 x0 x1 x2 x3 x4 x5 x6 x7 x8 x9 x10 x11 x12 x13 x14 x15 x16 x17) (View.ld (Val := Elt Ideal) (e' := .f32) x2 r0_17) i j = product x0 x1 x2 x3 x4 x5 x6 x7 x8 x9 x10 x11 x12 x13 x14 x15 x16 x17 0 (by norm_num) i j := fun i j =>
    Finset.sum_congr rfl fun e _ => congrArg (val85 x0 x1 x2 x3 x4 x5 x6 x7 x8 x9 x10 x11 x12 x13 x14 x15 x16 x17 (ix2 i e) * ·) (rows_apply x2 0 512 _ j e (by omega))
  simp only [hm]
  rfl

theorem second_block (r : Fin 16) (p : Fin 32) (j : Fin 512) : out0_19 x0 x1 x2 x3 x4 x5 x6 x7 x8 x9 x10 x11 x12 x13 x14 x15 x16 x17 (ix4 0 r p j)
    = headed (product x0 x1 x2 x3 x4 x5 x6 x7 x8 x9 x10 x11 x12 x13 x14 x15 x16 x17 512 (by norm_num) ⟨r.val * 32 + p.val, by omega⟩) x4 x7 j := by
  unfold out0_19
  rw [View.canon_unit_zero zeros4, load18, load19]
  refine (dilated_apply _ _ x4 x4 x7 r p j).trans ?_
  have hm : ∀ i j, moved (val85 x0 x1 x2 x3 x4 x5 x6 x7 x8 x9 x10 x11 x12 x13 x14 x15 x16 x17) (View.ld (Val := Elt Ideal) (e' := .f32) x2 r0_21) i j = product x0 x1 x2 x3 x4 x5 x6 x7 x8 x9 x10 x11 x12 x13 x14 x15 x16 x17 512 (by norm_num) i j := fun i j =>
    Finset.sum_congr rfl fun e _ => congrArg (val85 x0 x1 x2 x3 x4 x5 x6 x7 x8 x9 x10 x11 x12 x13 x14 x15 x16 x17 (ix2 i e) * ·) (rows_apply x2 512 512 _ j e (by omega))
  simp only [hm]
  rfl

theorem third_block (r : Fin 16) (p : Fin 32) (j : Fin 512) : out0_20 x0 x1 x2 x3 x4 x5 x6 x7 x8 x9 x10 x11 x12 x13 x14 x15 x16 x17 (ix4 0 r p j)
    = product x0 x1 x2 x3 x4 x5 x6 x7 x8 x9 x10 x11 x12 x13 x14 x15 x16 x17 1024 (by norm_num) ⟨r.val * 32 + p.val, by omega⟩ j := by
  unfold out0_20
  rw [View.canon_unit_zero zeros4]
  refine (values_apply _ _ r p j).trans ?_
  exact Finset.sum_congr rfl fun e _ => congrArg (val85 x0 x1 x2 x3 x4 x5 x6 x7 x8 x9 x10 x11 x12 x13 x14 x15 x16 x17 (ix2 _ e) * ·) (rows_apply x2 1024 512 _ j e (by omega))

end

end Cert.ProjKernelIdeal.Block

end
-- ==== Proof.ProjHost.lean ====
module

public import proofs.«01_k».proof.Proof.ProjBlock
public import proofs.«01_k».proof.Proof.Layout

/-! What the host of `proj` lays out for each window, entry by entry. -/

@[expose] public section

set_option maxRecDepth 16384

noncomputable section

namespace Cert.ProjKernelIdeal.Block

open Cert.ProjKernelIdeal Cert.ProjKernelIdeal.Gen Cert.Projection Cert.Swiglu
open Idealize.ShloMosaic Idealize.ShloMosaic.TcCoe Idealize.ShloMosaic.Tactic Idealize.ShloMosaic.StableHlo

/-- The rotary angles of the positions. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0) : FVec Ideal S8192 .f32)))
    (broadcastInDim S8192x32 ![0, 1] bcast_S1x32_S8192x32_0_1 (broadcastInDim S1x32 ![1] bcast_S32_S1x32_1
      (Host.powf (broadcastInDim S32 ![] bcast_S_S32 (constant S_ .f32 0x461C4000#32 : FVec Ideal S_ .f32) : FVec Ideal S32 .f32)
        (Host.divf (Host.negf (addf (broadcastInDim S32 ![] bcast_S_S32 (constant S_ .f32 0x00000000#32 : FVec Ideal S_ .f32) : FVec Ideal S32 .f32) (mulf (broadcastInDim S32 ![] bcast_S_S32 (constant S_ .f32 0x40000000#32 : FVec Ideal S_ .f32) : FVec Ideal S32 .f32) (sitofp .f32 (iotaInDim S32 32 0) : FVec Ideal S32 .f32))))
          (broadcastInDim S32 ![] bcast_S_S32 (constant S_ .f32 0x42800000#32 : FVec Ideal S_ .f32) : FVec Ideal S32 .f32)))))

/-- The table of the cosines, and the table of the signed sines. -/
def cosines : FVec Ideal S8192x128 .f32 :=
  concatenate S8192x128 1 [⟨S8192x32, (Host.cos angles : FVec Ideal S8192x32 .f32)⟩, ⟨S8192x32, (Host.cos angles : FVec Ideal S8192x32 .f32)⟩, ⟨S8192x32, (Host.cos angles : FVec Ideal S8192x32 .f32)⟩, ⟨S8192x32, (Host.cos angles : FVec Ideal S8192x32 .f32)⟩] concatenates_S8192x32_S8192x32_S8192x32_S8192x32_S8192x128_d1

def sines : FVec Ideal S8192x128 .f32 :=
  concatenate S8192x128 1 [⟨S8192x32, (Host.negf (Host.sin angles) : FVec Ideal S8192x32 .f32)⟩, ⟨S8192x32, (Host.sin angles : FVec Ideal S8192x32 .f32)⟩, ⟨S8192x32, (Host.negf (Host.sin angles) : FVec Ideal S8192x32 .f32)⟩, ⟨S8192x32, (Host.sin angles : FVec Ideal S8192x32 .f32)⟩] concatenates_S8192x32_S8192x32_S8192x32_S8192x32_S8192x128_d1

/-- The table of the columns that share a head. -/
def sameHead : FVec Ideal S256x256 .bf16 :=
  shapeCast S256x256 (broadcastInDim S4x64x4x64 ![0, 1, 2, 3] bcast_S4x1x4x1_S4x64x4x64_0_1_2_3 (broadcastInDim S4x1x4x1 ![0, 2] bcast_S4x4_S4x1x4x1_0_2
    (uitofp .bf16 (cmpi .eq (addi (iotaInDim S4x4 32 0) (broadcastInDim S4x4 ![] bcast_S_S4x4 (constantI S_ 32 0#32))) (iotaInDim S4x4 32 1)) : FVec Ideal S4x4 .bf16))) shapeCasts_S4x64x4x64_S256x256

/-- The table that sends rows to their residues. -/
def order : FVec Ideal S512x512 .bf16 :=
  shapeCast S512x512 (transpose S16x32x512 [1, 0, 2] (shapeCast S32x16x512
    (uitofp .bf16 (cmpi .eq (addi (iotaInDim S512x512 32 0) (broadcastInDim S512x512 ![] bcast_S_S512x512 (constantI S_ 32 0#32))) (iotaInDim S512x512 32 1)) : FVec Ideal S512x512 .bf16)
    shapeCasts_S512x512_S32x16x512) transposes_S32x16x512_S16x32x512_1_0_2) shapeCasts_S16x32x512_S512x512

/-- The one weight array by its columns, and its last 64 with zeros after them. -/
def weightRows (a2 : FVec Ideal S1x1024x1984 .f32) : FVec Ideal S1984x1024 .f32 :=
  transpose S1984x1024 [1, 0] (shapeCast S1024x1984 a2 shapeCasts_S1x1024x1984_S1024x1984) transposes_S1024x1984_S1984x1024_1_0

def sharedRows (a2 : FVec Ideal S1x1024x1984 .f32) : FVec Ideal S128x1024 .bf16 :=
  truncf (F := Ideal) .bf16 (pad S128x1024 ![0, 0] ![64, 0] ![0, 0] (extractStridedSlice S64x1024 ![1920, 0] (weightRows a2) slices_S1984x1024_S64x1024_1920_0) (sitofp .f32 (constantI S_ 32 0#32) : FVec Ideal S_ .f32) pads_S64x1024_S128x1024_0640_000 h_S_) bitsLt_bf16_f32

/-- A dilated head's gain, once per head. -/
def tiled (a3 : FVec Ideal S1x64 .f32) : FVec Ideal S1x512 .f32 :=
  shapeCast S1x512 (shapeCast S512 (broadcastInDim S8x64 ![0, 1] bcast_S1x64_S8x64_0_1 (shapeCast S1x64 (shapeCast S64 a3 shapeCasts_S1x64_S64) shapeCasts_S64_S1x64)) shapeCasts_S8x64_S512) shapeCasts_S512_S1x512

/-- The latent query's weights: the heads' first columns, then their last with zeros after them. -/
def queryWeights (a6 : FVec Ideal S1x256x768 .f32) : FVec Ideal S256x1024 .bf16 :=
  truncf (F := Ideal) .bf16 (concatenate S256x1024 1
    [⟨S256x512, shapeCast S256x512 (extractStridedSlice S256x4x128 ![0, 0, 0] (shapeCast S256x4x192 (shapeCast S256x768 a6 shapeCasts_S1x256x768_S256x768) shapeCasts_S256x768_S256x4x192) slices_S256x4x192_S256x4x128_0_0_0) shapeCasts_S256x4x128_S256x512⟩,
     ⟨S256x512, shapeCast S256x512 (pad S256x4x128 ![0, 0, 0] ![0, 0, 64] ![0, 0, 0] (extractStridedSlice S256x4x64 ![0, 0, 128] (shapeCast S256x4x192 (shapeCast S256x768 a6 shapeCasts_S1x256x768_S256x768) shapeCasts_S256x768_S256x4x192) slices_S256x4x192_S256x4x64_0_0_128) (sitofp .f32 (constantI S_ 32 0#32) : FVec Ideal S_ .f32) pads_S256x4x64_S256x4x128_000_000_0640 h_S_) shapeCasts_S256x4x128_S256x512⟩]
    concatenates_S256x512_S256x512_S256x1024_d1) bitsLt_bf16_f32

/-- The latent keys' and values' weights: the heads' keys, then their values. -/
def keyWeights (a8 : FVec Ideal S1x128x1024 .f32) : FVec Ideal S128x1024 .bf16 :=
  truncf (F := Ideal) .bf16 (concatenate S128x1024 1
    [⟨S128x512, shapeCast S128x512 (extractStridedSlice S128x4x128 ![0, 0, 0] (shapeCast S128x4x256 (shapeCast S128x1024 a8 shapeCasts_S1x128x1024_S128x1024) shapeCasts_S128x1024_S128x4x256) slices_S128x4x256_S128x4x128_0_0_0) shapeCasts_S128x4x128_S128x512⟩,
     ⟨S128x512, shapeCast S128x512 (extractStridedSlice S128x4x128 ![0, 0, 128] (shapeCast S128x4x256 (shapeCast S128x1024 a8 shapeCasts_S1x128x1024_S128x1024) shapeCasts_S128x1024_S128x4x256) slices_S128x4x256_S128x4x128_0_0_128) shapeCasts_S128x4x128_S128x512⟩]
    concatenates_S128x512_S128x512_S128x1024_d1) bitsLt_bf16_f32

/-- A latent head's gain: its first 128 entries, and its last 64 with zeros after them. -/
def gainFirst (a9 : FVec Ideal S1x192 .f32) : FVec Ideal S1x128 .f32 :=
  extractStridedSlice S1x128 ![0, 0] (shapeCast S1x192 (shapeCast S192 a9 shapeCasts_S1x192_S192) shapeCasts_S192_S1x192) slices_S1x192_S1x128_0_0

def gainLast (a9 : FVec Ideal S1x192 .f32) : FVec Ideal S1x128 .f32 :=
  pad S1x128 ![0, 0] ![0, 64] ![0, 0] (extractStridedSlice S1x64 ![0, 128] (shapeCast S1x192 (shapeCast S192 a9 shapeCasts_S1x192_S192) shapeCasts_S192_S1x192) slices_S1x192_S1x64_0_128) (sitofp .f32 (constantI S_ 32 0#32) : FVec Ideal S_ .f32) pads_S1x64_S1x128_000_0640 h_S_

section
variable (m : (ℓ : Loc nD τ sig) → Buf (Elt Ideal) ℓ)

theorem at0 (c : Dev nD) : V m c (Pipeline.arrRef spec0 0) = shapeCast S16384x1024 (m ((c : Thread nD τ).loc main_arg0) : FVec Ideal S2x8192x1024 .f32) shapeCasts_S2x8192x1024_S16384x1024 := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at1 (c : Dev nD) : V m c (Pipeline.arrRef spec0 1) = shapeCast S1x1024 (shapeCast S1024 (m ((c : Thread nD τ).loc main_arg1) : FVec Ideal S1x1024 .f32) shapeCasts_S1x1024_S1024) shapeCasts_S1024_S1x1024 := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at2 (c : Dev nD) : V m c (Pipeline.arrRef spec0 2) = weightRows (m ((c : Thread nD τ).loc main_arg2) : FVec Ideal S1x1024x1984 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at3 (c : Dev nD) : V m c (Pipeline.arrRef spec0 3) = sharedRows (m ((c : Thread nD τ).loc main_arg2) : FVec Ideal S1x1024x1984 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at4 (c : Dev nD) : V m c (Pipeline.arrRef spec0 4) = sameHead := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at5 (c : Dev nD) : V m c (Pipeline.arrRef spec0 5) = order := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at6 (c : Dev nD) : V m c (Pipeline.arrRef spec0 6) = tiled (m ((c : Thread nD τ).loc main_arg3) : FVec Ideal S1x64 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at7 (c : Dev nD) : V m c (Pipeline.arrRef spec0 7) = tiled (m ((c : Thread nD τ).loc main_arg4) : FVec Ideal S1x64 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at8 (c : Dev nD) : V m c (Pipeline.arrRef spec0 8) = shapeCast S1x256 (shapeCast S256 (m ((c : Thread nD τ).loc main_arg5) : FVec Ideal S1x256 .f32) shapeCasts_S1x256_S256) shapeCasts_S256_S1x256 := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at9 (c : Dev nD) : V m c (Pipeline.arrRef spec0 9) = queryWeights (m ((c : Thread nD τ).loc main_arg6) : FVec Ideal S1x256x768 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at10 (c : Dev nD) : V m c (Pipeline.arrRef spec0 10) = shapeCast S1x128 (shapeCast S128 (m ((c : Thread nD τ).loc main_arg7) : FVec Ideal S1x128 .f32) shapeCasts_S1x128_S128) shapeCasts_S128_S1x128 := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at11 (c : Dev nD) : V m c (Pipeline.arrRef spec0 11) = keyWeights (m ((c : Thread nD τ).loc main_arg8) : FVec Ideal S1x128x1024 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at12 (c : Dev nD) : V m c (Pipeline.arrRef spec0 12) = gainFirst (m ((c : Thread nD τ).loc main_arg9) : FVec Ideal S1x192 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at13 (c : Dev nD) : V m c (Pipeline.arrRef spec0 13) = gainLast (m ((c : Thread nD τ).loc main_arg9) : FVec Ideal S1x192 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at14 (c : Dev nD) : V m c (Pipeline.arrRef spec0 14) = gainFirst (m ((c : Thread nD τ).loc main_arg10) : FVec Ideal S1x192 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at15 (c : Dev nD) : V m c (Pipeline.arrRef spec0 15) = gainLast (m ((c : Thread nD τ).loc main_arg10) : FVec Ideal S1x192 .f32) := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at16 (c : Dev nD) : V m c (Pipeline.arrRef spec0 16) = cosines := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

theorem at17 (c : Dev nD) : V m c (Pipeline.arrRef spec0 17) = sines := by
  simp only [V, List.flatten_cons, List.flatten_nil, List.append_nil, hostOps0, hostOps0_1, hostOps0_2, hostOps0_3, hostOps0_4, hostOps0_5, hostOps0_6, hostOps0_7, hostOps0_8, List.cons_append, List.nil_append]
  after_results_simp <;> rfl

end

end Cert.ProjKernelIdeal.Block

end
-- ==== Proof.ProjTables.lean ====
module

public import proofs.«01_k».proof.Proof.ProjHost

/-! The entries of what the host of `proj` lays out, in the arguments' entries. -/

@[expose] public section

set_option maxRecDepth 16384

noncomputable section

namespace Cert.ProjKernelIdeal.Block

open Cert.ProjKernelIdeal Cert.ProjKernelIdeal.Gen Cert.Projection Cert.Swiglu
open Idealize.ShloMosaic Idealize.ShloMosaic.TcCoe Idealize.ShloMosaic.Tactic Idealize.ShloMosaic.StableHlo

/-- A comparison of two numbers, as a number. -/
theorem flag_eq (a b : ℕ) (ha : a < 2 ^ 32) (hb : b < 2 ^ 32) :
    (FloatOps.uitofp .bf16 (IntOp.cmpi CmpIPredicate.eq (IntOp.addi (BitVec.ofNat 32 a) 0#32) (BitVec.ofNat 32 b)) : Ideal .bf16) = if a = b then (1 : EReal) else 0 := by
  have e0 : IntOp.addi (BitVec.ofNat 32 a) 0#32 = BitVec.ofNat 32 a := BitVec.add_zero _
  rw [e0]
  by_cases h : a = b
  · subst h
    rw [if_pos rfl]
    have e1 : IntOp.cmpi CmpIPredicate.eq (BitVec.ofNat 32 a) (BitVec.ofNat 32 a) = 1#1 := by simp [IntOp.cmpi]
    rw [e1]
    show (((1#1).toNat : ℝ) : EReal) = 1
    simp
  · rw [if_neg h]
    have hne : BitVec.ofNat 32 a ≠ BitVec.ofNat 32 b := fun he => h (by
      have := congrArg BitVec.toNat he
      rwa [BitVec.toNat_ofNat, BitVec.toNat_ofNat, Nat.mod_eq_of_lt ha, Nat.mod_eq_of_lt hb] at this)
    have e1 : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr hne]
      rfl
    rw [e1]
    show (((0#1).toNat : ℝ) : EReal) = 0
    simp

theorem zero_eq : (FloatOps.sitofp .f32 (0#32) : Ideal .f32) = (0 : EReal) := by
  show (((0#32).toInt : ℝ) : EReal) = 0
  simp

/-- Four times 32 lanes, of two kinds in turn. -/
theorem quarters (f g : Fin 32 → EReal) (l : Fin 128) :
    (if h : l.val < 32 then f ⟨l.val, h⟩ else if h : l.val - 32 < 32 then g ⟨l.val - 32, h⟩ else if h : l.val - 32 - 32 < 32 then f ⟨l.val - 32 - 32, h⟩
      else g ⟨l.val - 32 - 32 - 32, by omega⟩) = if l.val % 64 < 32 then f ⟨l.val % 32, by omega⟩ else g ⟨l.val % 32, by omega⟩ := by
  have hl : l.val < 128 := l.isLt
  by_cases h1 : l.val < 32
  · rw [dif_pos h1, if_pos (by omega)]
    exact congrArg f (Fin.ext (by show l.val = l.val % 32; omega))
  · rw [dif_neg h1]
    by_cases h2 : l.val - 32 < 32
    · rw [dif_pos h2, if_neg (by omega)]
      exact congrArg g (Fin.ext (by show l.val - 32 = l.val % 32; omega))
    · rw [dif_neg h2]
      by_cases h3 : l.val - 32 - 32 < 32
      · rw [dif_pos h3, if_pos (by omega)]
        exact congrArg f (Fin.ext (by show l.val - 32 - 32 = l.val % 32; omega))
      · rw [dif_neg h3, if_neg (by omega)]
        exact congrArg g (Fin.ext (by show l.val - 32 - 32 - 32 = l.val % 32; omega))

theorem query_columns (f : Fin 768 → EReal) (z : EReal) (hz : z = 0) (j : Fin 1024) :
    (if h : j.val < 512 then f ⟨j.val / 128 * 192 + j.val % 128, by omega⟩
      else if h : (j.val - 512) / 128 < 4 ∧ (j.val - 512) % 128 < 64 then f ⟨(j.val - 512) / 128 * 192 + (128 + (j.val - 512) % 128), by omega⟩ else z)
    = if h : j.val < 512 then f ⟨192 * (j.val / 128) + j.val % 128, by omega⟩
      else if h : j.val % 128 < 64 then f ⟨192 * ((j.val - 512) / 128) + 128 + j.val % 128, by omega⟩ else 0 := by
  subst hz
  have hj : j.val < 1024 := j.isLt
  by_cases h : j.val < 512
  · rw [dif_pos h, dif_pos h]
    exact congrArg f (Fin.ext (by show j.val / 128 * 192 + j.val % 128 = 192 * (j.val / 128) + j.val % 128; omega))
  · rw [dif_neg h, dif_neg h]
    by_cases h' : j.val % 128 < 64
    · rw [dif_pos h', dif_pos ⟨by omega, by omega⟩]
      exact congrArg f (Fin.ext (by show (j.val - 512) / 128 * 192 + (128 + (j.val - 512) % 128) = 192 * ((j.val - 512) / 128) + 128 + j.val % 128; omega))
    · rw [dif_neg h', dif_neg (by omega)]

theorem key_columns (f : Fin 1024 → EReal) (j : Fin 1024) :
    (if h : j.val < 512 then f ⟨j.val / 128 * 256 + j.val % 128, by omega⟩ else f ⟨(j.val - 512) / 128 * 256 + (128 + (j.val - 512) % 128), by omega⟩)
    = if h : j.val < 512 then f ⟨256 * (j.val / 128) + j.val % 128, by omega⟩ else f ⟨256 * ((j.val - 512) / 128) + 128 + j.val % 128, by omega⟩ := by
  have hj : j.val < 1024 := j.isLt
  by_cases h : j.val < 512
  · rw [dif_pos h, dif_pos h]
    exact congrArg f (Fin.ext (by show j.val / 128 * 256 + j.val % 128 = 256 * (j.val / 128) + j.val % 128; omega))
  · rw [dif_neg h, dif_neg h]
    exact congrArg f (Fin.ext (by show (j.val - 512) / 128 * 256 + (128 + (j.val - 512) % 128) = 256 * ((j.val - 512) / 128) + 128 + j.val % 128; omega))

theorem angles_apply (s : Fin 8192) (f : Fin 32) : angles (ix2 s f) = angle s f := by
  unfold angle len64
  pointwise [angles]
  rfl

theorem cosines_apply (s : Fin 8192) (l : Fin 128) : cosines (ix2 s l) = Ideal.cos (angle s ⟨l.val % 32, by omega⟩) := by
  rw [← angles_apply]
  unfold cosines
  generalize angles = a
  pointwise
  exact (quarters (fun k => Ideal.cos (a (ix2 s k))) (fun k => Ideal.cos (a (ix2 s k))) l).trans (ite_self _)

theorem sines_apply (s : Fin 8192) (l : Fin 128) : sines (ix2 s l) = if l.val % 64 < 32 then -Ideal.sin (angle s ⟨l.val % 32, by omega⟩) else Ideal.sin (angle s ⟨l.val % 32, by omega⟩) := by
  rw [← angles_apply]
  unfold sines
  generalize angles = a
  pointwise
  exact quarters (fun k => -Ideal.sin (a (ix2 s k))) (fun k => Ideal.sin (a (ix2 s k))) l

theorem sameHead_apply (q j : Fin 256) : sameHead (ix2 q j) = if q.val / 64 = j.val / 64 then 1 else 0 := by
  pointwise [sameHead]
  exact flag_eq _ _ (by omega) (by omega)

theorem order_apply (i r : Fin 512) : order (ix2 i r) = if r.val = 16 * (i.val % 32) + i.val / 32 then 1 else 0 := by
  pointwise [order]
  refine (flag_eq _ _ (by omega) (by omega)).trans ?_
  by_cases h : r.val = 16 * (i.val % 32) + i.val / 32
  · rw [if_pos h, if_pos (by omega)]
  · rw [if_neg h, if_neg (by omega)]

theorem weightRows_apply (a2 : FVec Ideal S1x1024x1984 .f32) (j : Fin 1984) (e : Fin 1024) : weightRows a2 (ix2 j e) = a2 (ix3 0 e j) := by
  pointwise [weightRows]

theorem sharedRows_apply (a2 : FVec Ideal S1x1024x1984 .f32) (j : Fin 128) (e : Fin 1024) :
    sharedRows a2 (ix2 j e) = if h : j.val < 64 then a2 (ix3 0 e ⟨1920 + j.val, by omega⟩) else 0 := by
  pointwise [sharedRows, weightRows]
  rw [zero_eq]

theorem tiled_apply (a3 : FVec Ideal S1x64 .f32) (j : Fin 512) : tiled a3 (ix2 0 j) = a3 (ix2 0 ⟨j.val % 64, by omega⟩) := by
  pointwise [tiled]

theorem gainFirst_apply (a9 : FVec Ideal S1x192 .f32) (l : Fin 128) : gainFirst a9 (ix2 0 l) = a9 (ix2 0 ⟨l.val, by omega⟩) := by
  pointwise [gainFirst]

theorem gainLast_apply (a9 : FVec Ideal S1x192 .f32) (l : Fin 128) : gainLast a9 (ix2 0 l) = if h : l.val < 64 then a9 (ix2 0 ⟨128 + l.val, by omega⟩) else 0 := by
  pointwise [gainLast]
  rw [zero_eq]

theorem queryWeights_apply (a6 : FVec Ideal S1x256x768 .f32) (q : Fin 256) (j : Fin 1024) : queryWeights a6 (ix2 q j)
    = if h : j.val < 512 then a6 (ix3 0 q ⟨192 * (j.val / 128) + j.val % 128, by omega⟩)
      else if h : j.val % 128 < 64 then a6 (ix3 0 q ⟨192 * ((j.val - 512) / 128) + 128 + j.val % 128, by omega⟩) else 0 := by
  pointwise [queryWeights]
  exact query_columns (fun k => a6 (ix3 0 q k)) _ zero_eq j

theorem keyWeights_apply (a8 : FVec Ideal S1x128x1024 .f32) (q : Fin 128) (j : Fin 1024) : keyWeights a8 (ix2 q j)
    = if h : j.val < 512 then a8 (ix3 0 q ⟨256 * (j.val / 128) + j.val % 128, by omega⟩)
      else a8 (ix3 0 q ⟨256 * ((j.val - 512) / 128) + 128 + j.val % 128, by omega⟩) := by
  pointwise [keyWeights]
  exact key_columns (fun k => a8 (ix3 0 q k)) j

end Cert.ProjKernelIdeal.Block

end
-- ==== Proof.ProjCells.lean ====
module

public import proofs.«01_k».proof.Proof.ProjTables
public import proofs.«01_k».proof.Proof.Layout

/-! The blocks that a point of `proj` reads, as entries of the arguments, and where its blocks lie in the outputs. -/

@[expose] public section

set_option maxRecDepth 16384

noncomputable section

namespace Cert.ProjKernelIdeal.Block

open Cert.ProjKernelIdeal Cert.ProjKernelIdeal.Gen Cert.Swiglu Cert.Projection
open Idealize.ShloMosaic Idealize.ShloMosaic.TcCoe Idealize.ShloMosaic.Tactic Idealize.ShloMosaic.StableHlo

variable (m : (ℓ : Loc nD τ sig) → Buf (Elt Ideal) ℓ)

theorem idx_all : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![t.val % 16, 0] ∧ win0_17.index t = ![t.val % 16, 0] ∧ win0_18.index t = ![t.val / 16, 0, t.val % 16, 0] ∧ win0_19.index t = ![t.val / 16, 0, t.val % 16, 0] ∧ win0_20.index t = ![t.val / 16, 0, t.val % 16, 0] ∧ win0_21.index t = ![t.val, 0] ∧ win0_22.index t = ![t.val, 0] ∧ win0_23.index t = ![t.val, 0] := by decide +kernel

/-- A point's row among all the rows, and its position. -/
def rowOf (t : Fin cfg0.N) (i : Fin 512) : Fin 16384 := ⟨512 * t.val + i.val, by have h : t.val < 32 := t.isLt; omega⟩
def placeOf (t : Fin cfg0.N) (i : Fin 512) : Fin 8192 := ⟨512 * (t.val % 16) + i.val, by omega⟩

theorem place_eq (t : Fin cfg0.N) (i : Fin 512) : placeOf t i = position (rowOf t i) :=
  Fin.ext (by show 512 * (t.val % 16) + i.val = (512 * t.val + i.val) % 8192; omega)

theorem read0 (A : Vec Ideal S16384x1024 .f32) (t : Fin cfg0.N) (i : Fin 512) (e : Fin 1024) :
    ((cfg0.win 0).blk t).view.read (Elt Ideal) A (ix2 i e) = A (ix2 (rowOf t i) e) := by
  blk_simp
  refine congrArg A (funext fun a => Fin.ext ?_)
  refine (Pipeline.Window.rect_emb_val (w := win0_0) t (ix2 i e) a).trans ?_
  rw [(idx_all t).1]
  fin_cases a
  · show t.val * 512 + i.val = 512 * t.val + i.val
    omega
  · show 0 * 1024 + e.val = e.val
    omega

theorem read1 (A : Vec Ideal S1x1024 .f32) (t : Fin cfg0.N) (e : Fin 1024) :
    ((cfg0.win 1).blk t).view.read (Elt Ideal) A (ix2 0 e) = A (ix2 0 e) := by
  blk_simp
  refine congrArg A (funext fun a => Fin.ext ?_)
  refine (Pipeline.Window.rect_emb_val (w := win0_1) t (ix2 0 e) a).trans ?_
  rw [(idx_all t).2.1]
  fin_cases a
  · show 0 * 1 + 0 = 0
    omega
  · show 0 * 1024 + e.val = e.val
    omega

theorem read2 (A : Vec Ideal S1984x1024 .f32) (t : Fin cfg0.N) (i : Fin 1984) (e : Fin 1024) :
    ((cfg0.win 2).blk t).view.read (Elt Ideal) A (ix2 i e) = A (ix2 i e) := by
  blk_simp
  refine congrArg A (funext fun a => Fin.ext ?_)
  refine (Pipeline.Window.rect_emb_val (w := win0_2) t (ix2 i e) a).trans ?_
  rw [(idx_all t).2.2.1]
  fin_cases a
  · show 0 * 1984 + i.val = i.val
    omega
  · show 0 * 1024 + e.val = e.val
    omega

theorem read3 (A : Vec Ideal S128x1024 .bf16) (t : Fin cfg0.N) (i : Fin 128) (e : Fin 1024) :
    ((cfg0.win 3).blk t).view.read (Elt Ideal) A (ix2 i e) = A (ix2 i e) := by
  blk_simp
  refine congrArg A (funext fun a => Fin.ext ?_)
  refine (Pipeline.Window.rect_emb_val (w := win0_3) t (ix2 i e) a).trans ?_
  rw [(idx_all t).2.2.2.1]
  fin_cases a
  · show 0 * 128 + i.val = i.val
    omega
  · show 0 * 1024 + e.val = e.val
    omega

theorem read4 (A : Vec Ideal S256x256 .bf16) (t : Fin cfg0.N) (i : Fin 256) (e : Fin 256) :
    ((cfg0.win 4).blk t).view.read (Elt Ideal) A (ix2 i e) = A (ix2 i e) := by
  blk_simp
  refine congrArg A (funext fun a => Fin.ext ?_)
  refine (Pipeline.Window.rect_emb_val (w := win0_4) t (ix2 i e) a).trans ?_
  rw [(idx_all t).2.2.2.2.1]
  fin_cases a
  · show 0 * 256 + i.val = i.val
    omega
  · show 0 * 256 + e.val = e.val
    omega

theorem read5 (A : Vec Ideal S512x512 .bf16) (t : Fin cfg0.N) (i : Fin 512) (e : Fin 512) :
    ((cfg0.win 5).blk t).view.read (Elt Ideal) A (ix2 i e) = A (ix2 i e) := by
  blk_simp
  refine congrArg A (funext fun a => Fin.ext ?_)
  refine (Pipeline.Window.rect_emb_val (w := win0_5) t (ix2 i e) a).trans ?_
  rw [(idx_all t).2.2.2.2.2.1]
  fin_cases a
  · show 0 * 512 + i.val = i.val
    omega
  · show 0 * 512 + e.val = e.val
    omega

theorem read6 (A : Vec Ideal S1x512 .f32) (t : Fin cfg0.N) (e : Fin 512) :
    ((cfg0.win 6).blk t).view.read (Elt Ideal) A (ix2 0 e) = A (ix2 0 e) := by
  blk_simp
  refine congrArg A (funext fun a => Fin.ext ?_)
  refine (Pipeline.Window.rect_emb_val (w := win0_6) t (ix2 0 e) a).trans ?_
  rw [(idx_all t).2.2.2.2.2.2.1]
  fin_cases a
  · show 0 * 1 + 0 = 0
    omega
  · show 0 * 512 + e.val = e.val
    omega

theorem read7 (A : Vec Ideal S1x512 .f32) (t : Fin cfg0.N) (e : Fin 512) :
    ((cfg0.win 7).blk t).view.read (Elt Ideal) A (ix2 0 e) = A (ix2 0 e) := by
  blk_simp
  refine congrArg A (funext fun a => Fin.ext ?_)
  refine (Pipeline.Window.rect_emb_val (w := win0_7) t (ix2 0 e) a).trans ?_
  rw [(idx_all t).2.2.2.2.2.2.2.1]
  fin_cases a
  · show 0 * 1 + 0 = 0
    omega
  · show 0 * 512 + e.val = e.val
    omega

theorem read8 (A : Vec Ideal S1x256 .f32) (t : Fin cfg0.N) (e : Fin 256) :
    ((cfg0.win 8).blk t).view.read (Elt Ideal) A (ix2 0 e) = A (ix2 0 e) := by
  blk_simp
  refine congrArg A (funext fun a => Fin.ext ?_)
  refine (Pipeline.Window.rect_emb_val (w := win0_8) t (ix2 0 e) a).trans ?_
  rw [(idx_all t).2.2.2.2.2.2.2.2.1]
  fin_cases a
  · show 0 * 1 + 0 = 0
    omega
  · show 0 * 256 + e.val = e.val
    omega

theorem read9 (A : Vec Ideal S256x1024 .bf16) (t : Fin cfg0.N) (i : Fin 256) (e : Fin 1024) :
    ((cfg0.win 9).blk t).view.read (Elt Ideal) A (ix2 i e) = A (ix2 i e) := by
  blk_simp
  refine congrArg A (funext fun a => Fin.ext ?_)
  refine (Pipeline.Window.rect_emb_val (w := win0_9) t (ix2 i e) a).trans ?_
  rw [(idx_all t).2.2.2.2.2.2.2.2.2.1]
  fin_cases a
  · show 0 * 256 + i.val = i.val
    omega
  · show 0 * 1024 + e.val = e.val
    omega

theorem read10 (A : Vec Ideal S1x128 .f32) (t : Fin cfg0.N) (e : Fin 128) :
    ((cfg0.win 10).blk t).view.read (Elt Ideal) A (ix2 0 e) = A (ix2 0 e) := by
  blk_simp
  refine congrArg A (funext fun a => Fin.ext ?_)
  refine (Pipeline.Window.rect_emb_val (w := win0_10) t (ix2 0 e) a).trans ?_
  rw [(idx_all t).2.2.2.2.2.2.2.2.2.2.1]
  fin_cases a
  · show 0 * 1 + 0 = 0
    omega
  · show 0 * 128 + e.val = e.val
    omega

theorem read11 (A : Vec Ideal S128x1024 .bf16) (t : Fin cfg0.N) (i : Fin 128) (e : Fin 1024) :
    ((cfg0.win 11).blk t).view.read (Elt Ideal) A (ix2 i e) = A (ix2 i e) := by
  blk_simp
  refine congrArg A (funext fun a => Fin.ext ?_)
  refine (Pipeline.Window.rect_emb_val (w := win0_11) t (ix2 i e) a).trans ?_
  rw [(idx_all t).2.2.2.2.2.2.2.2.2.2.2.1]
  fin_cases a
  · show 0 * 128 + i.val = i.val
    omega
  · show 0 * 1024 + e.val = e.val
    omega

theorem read12 (A : Vec Ideal S1x128 .f32) (t : Fin cfg0.N) (e : Fin 128) :
    ((cfg0.win 12).blk t).view.read (Elt Ideal) A (ix2 0 e) = A (ix2 0 e) := by
  blk_simp
  refine congrArg A (funext fun a => Fin.ext ?_)
  refine (Pipeline.Window.rect_emb_val (w := win0_12) t (ix2 0 e) a).trans ?_
  rw [(idx_all t).2.2.2.2.2.2.2.2.2.2.2.2.1]
  fin_cases a
  · show 0 * 1 + 0 = 0
    omega
  · show 0 * 128 + e.val = e.val
    omega

theorem read13 (A : Vec Ideal S1x128 .f32) (t : Fin cfg0.N) (e : Fin 128) :
    ((cfg0.win 13).blk t).view.read (Elt Ideal) A (ix2 0 e) = A (ix2 0 e) := by
  blk_simp
  refine congrArg A (funext fun a => Fin.ext ?_)
  refine (Pipeline.Window.rect_emb_val (w := win0_13) t (ix2 0 e) a).trans ?_
  rw [(idx_all t).2.2.2.2.2.2.2.2.2.2.2.2.2.1]
  fin_cases a
  · show 0 * 1 + 0 = 0
    omega
  · show 0 * 128 + e.val = e.val
    omega

theorem read14 (A : Vec Ideal S1x128 .f32) (t : Fin cfg0.N) (e : Fin 128) :
    ((cfg0.win 14).blk t).view.read (Elt Ideal) A (ix2 0 e) = A (ix2 0 e) := by
  blk_simp
  refine congrArg A (funext fun a => Fin.ext ?_)
  refine (Pipeline.Window.rect_emb_val (w := win0_14) t (ix2 0 e) a).trans ?_
  rw [(idx_all t).2.2.2.2.2.2.2.2.2.2.2.2.2.2.1]
  fin_cases a
  · show 0 * 1 + 0 = 0
    omega
  · show 0 * 128 + e.val = e.val
    omega

theorem read15 (A : Vec Ideal S1x128 .f32) (t : Fin cfg0.N) (e : Fin 128) :
    ((cfg0.win 15).blk t).view.read (Elt Ideal) A (ix2 0 e) = A (ix2 0 e) := by
  blk_simp
  refine congrArg A (funext fun a => Fin.ext ?_)
  refine (Pipeline.Window.rect_emb_val (w := win0_15) t (ix2 0 e) a).trans ?_
  rw [(idx_all t).2.2.2.2.2.2.2.2.2.2.2.2.2.2.2.1]
  fin_cases a
  · show 0 * 1 + 0 = 0
    omega
  · show 0 * 128 + e.val = e.val
    omega

theorem read16 (A : Vec Ideal S8192x128 .f32) (t : Fin cfg0.N) (i : Fin 512) (e : Fin 128) :
    ((cfg0.win 16).blk t).view.read (Elt Ideal) A (ix2 i e) = A (ix2 (placeOf t i) e) := by
  blk_simp
  refine congrArg A (funext fun a => Fin.ext ?_)
  refine (Pipeline.Window.rect_emb_val (w := win0_16) t (ix2 i e) a).trans ?_
  rw [(idx_all t).2.2.2.2.2.2.2.2.2.2.2.2.2.2.2.2.1]
  fin_cases a
  · show t.val % 16 * 512 + i.val = 512 * (t.val % 16) + i.val
    omega
  · show 0 * 128 + e.val = e.val
    omega

theorem read17 (A : Vec Ideal S8192x128 .f32) (t : Fin cfg0.N) (i : Fin 512) (e : Fin 128) :
    ((cfg0.win 17).blk t).view.read (Elt Ideal) A (ix2 i e) = A (ix2 (placeOf t i) e) := by
  blk_simp
  refine congrArg A (funext fun a => Fin.ext ?_)
  refine (Pipeline.Window.rect_emb_val (w := win0_17) t (ix2 i e) a).trans ?_
  rw [(idx_all t).2.2.2.2.2.2.2.2.2.2.2.2.2.2.2.2.2.1]
  fin_cases a
  · show t.val % 16 * 512 + i.val = 512 * (t.val % 16) + i.val
    omega
  · show 0 * 128 + e.val = e.val
    omega

/-- A vector through its flat form. -/
theorem vector_apply {n : ℕ} (x : FVec Ideal ⟨2, ![1, n]⟩ .f32) (h : (⟨2, ![1, n]⟩ : Shape).ShapeCasts ⟨1, ![n]⟩) (h' : (⟨1, ![n]⟩ : Shape).ShapeCasts ⟨2, ![1, n]⟩) (e : Fin n) :
    shapeCast ⟨2, ![1, n]⟩ (shapeCast ⟨1, ![n]⟩ x h) h' (ix2 0 e) = x (ix2 0 e) := by
  pointwise

theorem cell0 (c : Dev nD) (t : Fin cfg0.N) (i : Fin 512) (e : Fin 1024) : iblk m c 0 t (ix2 i e) = ((m ((c : Thread nD τ).loc main_arg0) : FVec Ideal S2x8192x1024 .f32) (ix3 (entry (rowOf t i)) (position (rowOf t i)) e) : EReal) := by
  unfold iblk
  rw [at0]
  refine (read0 _ t i e).trans ?_
  exact flat_apply _ _ (rowOf t i) e

theorem cell1 (c : Dev nD) (t : Fin cfg0.N) (e : Fin 1024) : iblk m c 1 t (ix2 0 e) = ((m ((c : Thread nD τ).loc main_arg1) : FVec Ideal S1x1024 .f32) (ix2 0 e) : EReal) := by
  unfold iblk
  rw [at1]
  refine (read1 _ t e).trans ?_
  exact vector_apply _ _ _ e

theorem cell2 (c : Dev nD) (t : Fin cfg0.N) (j : Fin 1984) (e : Fin 1024) : iblk m c 2 t (ix2 j e) = ((m ((c : Thread nD τ).loc main_arg2) : FVec Ideal S1x1024x1984 .f32) (ix3 0 e j) : EReal) := by
  unfold iblk
  rw [at2]
  refine (read2 _ t j e).trans ?_
  exact weightRows_apply _ j e

theorem cell3 (c : Dev nD) (t : Fin cfg0.N) (j : Fin 128) (e : Fin 1024) : iblk m c 3 t (ix2 j e) = (if h : j.val < 64 then (m ((c : Thread nD τ).loc main_arg2) : FVec Ideal S1x1024x1984 .f32) (ix3 0 e ⟨1920 + j.val, by omega⟩) else 0 : EReal) := by
  unfold iblk
  rw [at3]
  refine (read3 _ t j e).trans ?_
  exact sharedRows_apply _ j e

theorem cell4 (c : Dev nD) (t : Fin cfg0.N) (q j : Fin 256) : iblk m c 4 t (ix2 q j) = (if q.val / 64 = j.val / 64 then 1 else 0 : EReal) := by
  unfold iblk
  rw [at4]
  refine (read4 _ t q j).trans ?_
  exact sameHead_apply q j

theorem cell5 (c : Dev nD) (t : Fin cfg0.N) (i r : Fin 512) : iblk m c 5 t (ix2 i r) = (if r.val = 16 * (i.val % 32) + i.val / 32 then 1 else 0 : EReal) := by
  unfold iblk
  rw [at5]
  refine (read5 _ t i r).trans ?_
  exact order_apply i r

theorem cell6 (c : Dev nD) (t : Fin cfg0.N) (j : Fin 512) : iblk m c 6 t (ix2 0 j) = ((m ((c : Thread nD τ).loc main_arg3) : FVec Ideal S1x64 .f32) (ix2 0 ⟨j.val % 64, by omega⟩) : EReal) := by
  unfold iblk
  rw [at6]
  refine (read6 _ t j).trans ?_
  exact tiled_apply _ j

theorem cell7 (c : Dev nD) (t : Fin cfg0.N) (j : Fin 512) : iblk m c 7 t (ix2 0 j) = ((m ((c : Thread nD τ).loc main_arg4) : FVec Ideal S1x64 .f32) (ix2 0 ⟨j.val % 64, by omega⟩) : EReal) := by
  unfold iblk
  rw [at7]
  refine (read7 _ t j).trans ?_
  exact tiled_apply _ j

theorem cell8 (c : Dev nD) (t : Fin cfg0.N) (e : Fin 256) : iblk m c 8 t (ix2 0 e) = ((m ((c : Thread nD τ).loc main_arg5) : FVec Ideal S1x256 .f32) (ix2 0 e) : EReal) := by
  unfold iblk
  rw [at8]
  refine (read8 _ t e).trans ?_
  exact vector_apply _ _ _ e

theorem cell9 (c : Dev nD) (t : Fin cfg0.N) (q : Fin 256) (j : Fin 1024) : iblk m c 9 t (ix2 q j) = (if h : j.val < 512 then (m ((c : Thread nD τ).loc main_arg6) : FVec Ideal S1x256x768 .f32) (ix3 0 q ⟨192 * (j.val / 128) + j.val % 128, by omega⟩)
      else if h : j.val % 128 < 64 then (m ((c : Thread nD τ).loc main_arg6) : FVec Ideal S1x256x768 .f32) (ix3 0 q ⟨192 * ((j.val - 512) / 128) + 128 + j.val % 128, by omega⟩) else 0 : EReal) := by
  unfold iblk
  rw [at9]
  refine (read9 _ t q j).trans ?_
  exact queryWeights_apply _ q j

theorem cell10 (c : Dev nD) (t : Fin cfg0.N) (e : Fin 128) : iblk m c 10 t (ix2 0 e) = ((m ((c : Thread nD τ).loc main_arg7) : FVec Ideal S1x128 .f32) (ix2 0 e) : EReal) := by
  unfold iblk
  rw [at10]
  refine (read10 _ t e).trans ?_
  exact vector_apply _ _ _ e

theorem cell11 (c : Dev nD) (t : Fin cfg0.N) (q : Fin 128) (j : Fin 1024) : iblk m c 11 t (ix2 q j) = (if h : j.val < 512 then (m ((c : Thread nD τ).loc main_arg8) : FVec Ideal S1x128x1024 .f32) (ix3 0 q ⟨256 * (j.val / 128) + j.val % 128, by omega⟩)
      else (m ((c : Thread nD τ).loc main_arg8) : FVec Ideal S1x128x1024 .f32) (ix3 0 q ⟨256 * ((j.val - 512) / 128) + 128 + j.val % 128, by omega⟩) : EReal) := by
  unfold iblk
  rw [at11]
  refine (read11 _ t q j).trans ?_
  exact keyWeights_apply _ q j

theorem cell12 (c : Dev nD) (t : Fin cfg0.N) (l : Fin 128) : iblk m c 12 t (ix2 0 l) = ((m ((c : Thread nD τ).loc main_arg9) : FVec Ideal S1x192 .f32) (ix2 0 ⟨l.val, by omega⟩) : EReal) := by
  unfold iblk
  rw [at12]
  refine (read12 _ t l).trans ?_
  exact gainFirst_apply _ l

theorem cell13 (c : Dev nD) (t : Fin cfg0.N) (l : Fin 128) : iblk m c 13 t (ix2 0 l) = (if h : l.val < 64 then (m ((c : Thread nD τ).loc main_arg9) : FVec Ideal S1x192 .f32) (ix2 0 ⟨128 + l.val, by omega⟩) else 0 : EReal) := by
  unfold iblk
  rw [at13]
  refine (read13 _ t l).trans ?_
  exact gainLast_apply _ l

theorem cell14 (c : Dev nD) (t : Fin cfg0.N) (l : Fin 128) : iblk m c 14 t (ix2 0 l) = ((m ((c : Thread nD τ).loc main_arg10) : FVec Ideal S1x192 .f32) (ix2 0 ⟨l.val, by omega⟩) : EReal) := by
  unfold iblk
  rw [at14]
  refine (read14 _ t l).trans ?_
  exact gainFirst_apply _ l

theorem cell15 (c : Dev nD) (t : Fin cfg0.N) (l : Fin 128) : iblk m c 15 t (ix2 0 l) = (if h : l.val < 64 then (m ((c : Thread nD τ).loc main_arg10) : FVec Ideal S1x192 .f32) (ix2 0 ⟨128 + l.val, by omega⟩) else 0 : EReal) := by
  unfold iblk
  rw [at15]
  refine (read15 _ t l).trans ?_
  exact gainLast_apply _ l

theorem cell16 (c : Dev nD) (t : Fin cfg0.N) (i : Fin 512) (l : Fin 128) : iblk m c 16 t (ix2 i l) = (Ideal.cos (angle (position (rowOf t i)) ⟨l.val % 32, by omega⟩) : EReal) := by
  unfold iblk
  rw [at16]
  refine (read16 _ t i l).trans ?_
  rw [place_eq]
  exact cosines_apply _ l

theorem cell17 (c : Dev nD) (t : Fin cfg0.N) (i : Fin 512) (l : Fin 128) : iblk m c 17 t (ix2 i l) = (if l.val % 64 < 32 then -Ideal.sin (angle (position (rowOf t i)) ⟨l.val % 32, by omega⟩) else Ideal.sin (angle (position (rowOf t i)) ⟨l.val % 32, by omega⟩) : EReal) := by
  unfold iblk
  rw [at17]
  refine (read17 _ t i l).trans ?_
  rw [place_eq]
  exact sines_apply _ l

/-- The batch entry of a point, and the row among a residue's rows. -/
def batchOf (t : Fin cfg0.N) : Fin 2 := ⟨t.val / 16, by have h : t.val < 32 := t.isLt; omega⟩
def residueRow (t : Fin cfg0.N) (p : Fin 32) : Fin 512 := ⟨32 * (t.val % 16) + p.val, by omega⟩

theorem emb18 (t : Fin cfg0.N) (r : Fin 16) (p : Fin 32) (j : Fin 512) :
    ((cfg0.win 18).blk t).view.emb (ix4 0 r p j : S1x16x32x512.Idx) = ix4 (batchOf t) r (residueRow t p) j := by
  refine funext fun a => Fin.ext ?_
  refine (Pipeline.Window.rect_emb_val (w := win0_18) t (ix4 0 r p j) a).trans ?_
  rw [(idx_all t).2.2.2.2.2.2.2.2.2.2.2.2.2.2.2.2.2.2.1]
  fin_cases a
  · show t.val / 16 * 1 + 0 = t.val / 16
    omega
  · show 0 * 16 + r.val = r.val
    omega
  · show t.val % 16 * 32 + p.val = 32 * (t.val % 16) + p.val
    omega
  · show 0 * 512 + j.val = j.val
    omega

theorem emb19 (t : Fin cfg0.N) (r : Fin 16) (p : Fin 32) (j : Fin 512) :
    ((cfg0.win 19).blk t).view.emb (ix4 0 r p j : S1x16x32x512.Idx) = ix4 (batchOf t) r (residueRow t p) j := by
  refine funext fun a => Fin.ext ?_
  refine (Pipeline.Window.rect_emb_val (w := win0_19) t (ix4 0 r p j) a).trans ?_
  rw [(idx_all t).2.2.2.2.2.2.2.2.2.2.2.2.2.2.2.2.2.2.2.1]
  fin_cases a
  · show t.val / 16 * 1 + 0 = t.val / 16
    omega
  · show 0 * 16 + r.val = r.val
    omega
  · show t.val % 16 * 32 + p.val = 32 * (t.val % 16) + p.val
    omega
  · show 0 * 512 + j.val = j.val
    omega

theorem emb20 (t : Fin cfg0.N) (r : Fin 16) (p : Fin 32) (j : Fin 512) :
    ((cfg0.win 20).blk t).view.emb (ix4 0 r p j : S1x16x32x512.Idx) = ix4 (batchOf t) r (residueRow t p) j := by
  refine funext fun a => Fin.ext ?_
  refine (Pipeline.Window.rect_emb_val (w := win0_20) t (ix4 0 r p j) a).trans ?_
  rw [(idx_all t).2.2.2.2.2.2.2.2.2.2.2.2.2.2.2.2.2.2.2.2.1]
  fin_cases a
  · show t.val / 16 * 1 + 0 = t.val / 16
    omega
  · show 0 * 16 + r.val = r.val
    omega
  · show t.val % 16 * 32 + p.val = 32 * (t.val % 16) + p.val
    omega
  · show 0 * 512 + j.val = j.val
    omega

theorem emb21 (t : Fin cfg0.N) (i : Fin 512) (e : Fin 1024) :
    ((cfg0.win 21).blk t).view.emb (ix2 i e : S512x1024.Idx) = ix2 (rowOf t i) e := by
  refine funext fun a => Fin.ext ?_
  refine (Pipeline.Window.rect_emb_val (w := win0_21) t (ix2 i e) a).trans ?_
  rw [(idx_all t).2.2.2.2.2.2.2.2.2.2.2.2.2.2.2.2.2.2.2.2.2.1]
  fin_cases a
  · show t.val * 512 + i.val = 512 * t.val + i.val
    omega
  · show 0 * 1024 + e.val = e.val
    omega

theorem emb22 (t : Fin cfg0.N) (i : Fin 512) (e : Fin 1024) :
    ((cfg0.win 22).blk t).view.emb (ix2 i e : S512x1024.Idx) = ix2 (rowOf t i) e := by
  refine funext fun a => Fin.ext ?_
  refine (Pipeline.Window.rect_emb_val (w := win0_22) t (ix2 i e) a).trans ?_
  rw [(idx_all t).2.2.2.2.2.2.2.2.2.2.2.2.2.2.2.2.2.2.2.2.2.2.1]
  fin_cases a
  · show t.val * 512 + i.val = 512 * t.val + i.val
    omega
  · show 0 * 1024 + e.val = e.val
    omega

theorem emb23 (t : Fin cfg0.N) (i : Fin 512) (e : Fin 512) :
    ((cfg0.win 23).blk t).view.emb (ix2 i e : S512x512.Idx) = ix2 (rowOf t i) e := by
  refine funext fun a => Fin.ext ?_
  refine (Pipeline.Window.rect_emb_val (w := win0_23) t (ix2 i e) a).trans ?_
  rw [(idx_all t).2.2.2.2.2.2.2.2.2.2.2.2.2.2.2.2.2.2.2.2.2.2.2]
  fin_cases a
  · show t.val * 512 + i.val = 512 * t.val + i.val
    omega
  · show 0 * 512 + e.val = e.val
    omega

end Cert.ProjKernelIdeal.Block

end
-- ==== Proof.ProjTarget.lean ====
module

public import proofs.«01_k».proof.Proof.ProjRows

/-! The six arrays that `proj` leaves, entry by entry in the arguments, and a latent head from its two halves. -/

@[expose] public section

noncomputable section

namespace Cert.Projection

open Idealize.ShloMosaic Cert.Swiglu

/-! A latent head, whose last 64 columns fill 128 lanes with zeros. -/

section
variable (q g : Fin 192 → EReal) (a b ga gb c s : Fin 128 → EReal) (cs sn : Fin 32 → EReal)

theorem head_first
    (ha : ∀ d : Fin 128, a d = q ⟨d.val, by omega⟩)
    (hb : ∀ d : Fin 128, b d = if h : d.val < 64 then q ⟨128 + d.val, by omega⟩ else 0)
    (hga : ∀ d : Fin 128, ga d = g ⟨d.val, by omega⟩)
    (d : Fin 128) : a d * root (∑ e, a e * a e) (∑ e, b e * b e) * ga d = turned (normed len192 q g) cs sn ⟨d.val, by omega⟩ := by
  rw [root_eq q a b ha hb, ha, hga]
  unfold turned normed
  rw [dif_pos d.isLt]

theorem head_last
    (ha : ∀ d : Fin 128, a d = q ⟨d.val, by omega⟩)
    (hb : ∀ d : Fin 128, b d = if h : d.val < 64 then q ⟨128 + d.val, by omega⟩ else 0)
    (hgb : ∀ d : Fin 128, gb d = if h : d.val < 64 then g ⟨128 + d.val, by omega⟩ else 0)
    (hc : ∀ l : Fin 128, c l = cs ⟨l.val % 32, by omega⟩)
    (hs : ∀ l : Fin 128, s l = if l.val % 64 < 32 then -sn ⟨l.val % 32, by omega⟩ else sn ⟨l.val % 32, by omega⟩)
    (d : Fin 128) : rotated (fun l => b l * root (∑ e, a e * a e) (∑ e, b e * b e) * gb l) c s d
    = turned (normed len192 q g) cs sn ⟨128 + d.val, by omega⟩ := by
  refine rotated_eq (normed len192 q g) _ c s cs sn (fun l => ?_) hc hs d
  show b l * root (∑ e, a e * a e) (∑ e, b e * b e) * gb l = _
  rw [root_eq q a b ha hb, hb, hgb]
  by_cases h : l.val < 64
  · rw [dif_pos h, dif_pos h, dif_pos h]
    rfl
  · rw [dif_neg h, dif_neg h, dif_neg h, mul_zero]

theorem head_last'
    (ha : ∀ d : Fin 128, a d = q ⟨d.val, by omega⟩)
    (hb : ∀ d : Fin 128, b d = if h : d.val < 64 then q ⟨128 + d.val, by omega⟩ else 0)
    (hgb : ∀ d : Fin 128, gb d = if h : d.val < 64 then g ⟨128 + d.val, by omega⟩ else 0)
    (hc : ∀ l : Fin 128, c l = cs ⟨l.val % 32, by omega⟩)
    (hs : ∀ l : Fin 128, s l = if l.val % 64 < 32 then -sn ⟨l.val % 32, by omega⟩ else sn ⟨l.val % 32, by omega⟩)
    (d : Fin 128) : rotated (fun l => b l * gb l) c s d * root (∑ e, a e * a e) (∑ e, b e * b e)
    = turned (normed len192 q g) cs sn ⟨128 + d.val, by omega⟩ := by
  have hr := root_bounds (∑ e, a e * a e) (∑ e, b e * b e) (Finset.sum_nonneg fun e _ => mul_self_nonneg' (a e)) (Finset.sum_nonneg fun e _ => mul_self_nonneg' (b e))
  rw [rotated_mul _ _ _ _ hr.1 hr.2, ← head_last q g a b gb c s cs sn ha hb hgb hc hs d]
  exact congrArg (fun t => rotated t c s d) (funext fun l => mul_right_comm _ _ _)

end

/-! A dilated head, whose sum of squares goes through a table of ones and zeros. -/

theorem head_sum (f : Fin 256 → EReal) (k : Fin 4) : ∑ q : Fin 256, f q * (if q.val / 64 = k.val then 1 else 0) = ∑ a : Fin 64, f ⟨64 * k.val + a.val, by omega⟩ := by
  simp only [mul_ite, mul_one, mul_zero]
  rw [← Finset.sum_filter]
  symm
  refine Finset.sum_bij (fun (a : Fin 64) _ => (⟨64 * k.val + a.val, by omega⟩ : Fin 256)) (fun a _ => ?_) (fun a _ b _ h => ?_) (fun q hq => ?_) (fun a _ => rfl)
  · simp only [Finset.mem_filter, Finset.mem_univ, true_and]
    omega
  · have := Fin.mk.inj h
    exact Fin.ext (by omega)
  · simp only [Finset.mem_filter, Finset.mem_univ, true_and] at hq
    exact ⟨⟨q.val - 64 * k.val, by omega⟩, Finset.mem_univ _, Fin.ext (by show 64 * k.val + (q.val - 64 * k.val) = q.val; omega)⟩

theorem dilated_eq (u : Fin 512 → EReal) (g : Fin 64 → EReal) (j : Fin 512) :
    u j * Ideal.rsqrt
      ((if h : j.val < 256 then ∑ q : Fin 256, u ⟨q.val, by omega⟩ * u ⟨q.val, by omega⟩ * (if q.val / 64 = j.val / 64 then 1 else 0)
        else ∑ q : Fin 256, u ⟨256 + q.val, by omega⟩ * u ⟨256 + q.val, by omega⟩ * (if q.val / 64 = (j.val - 256) / 64 then 1 else 0)) * inv64 + eps)
      * g ⟨j.val % 64, by omega⟩ = dilated u g j := by
  have hs : (if h : j.val < 256 then ∑ q : Fin 256, u ⟨q.val, by omega⟩ * u ⟨q.val, by omega⟩ * (if q.val / 64 = j.val / 64 then 1 else 0)
        else ∑ q : Fin 256, u ⟨256 + q.val, by omega⟩ * u ⟨256 + q.val, by omega⟩ * (if q.val / 64 = (j.val - 256) / 64 then 1 else 0))
      = ∑ a : Fin 64, u ⟨64 * (j.val / 64) + a.val, by omega⟩ * u ⟨64 * (j.val / 64) + a.val, by omega⟩ := by
    by_cases h : j.val < 256
    · rw [dif_pos h]
      exact head_sum (fun q : Fin 256 => u ⟨q.val, by omega⟩ * u ⟨q.val, by omega⟩) ⟨j.val / 64, by omega⟩
    · rw [dif_neg h]
      refine (head_sum (fun q : Fin 256 => u ⟨256 + q.val, by omega⟩ * u ⟨256 + q.val, by omega⟩) ⟨(j.val - 256) / 64, by omega⟩).trans ?_
      refine Finset.sum_congr rfl fun a _ => ?_
      have e : (⟨256 + (64 * ((j.val - 256) / 64) + a.val), by omega⟩ : Fin 512) = ⟨64 * (j.val / 64) + a.val, by omega⟩ := Fin.ext (by
        show 256 + (64 * ((j.val - 256) / 64) + a.val) = 64 * (j.val / 64) + a.val
        omega)
      show u _ * u _ = _
      rw [e]
  rw [hs, inv64_eq]
  unfold dilated normed
  rw [len64_eq, Ideal.div_coe (by norm_num)]
  have e : (⟨64 * (j.val / 64) + j.val % 64, by omega⟩ : Fin 512) = j := Fin.ext (by show 64 * (j.val / 64) + j.val % 64 = j.val; omega)
  simp only [e]

/-- A sum through a row of ones and zeros with a single one. -/
theorem one_row {n : ℕ} (f : Fin n → EReal) (k : Fin n) : ∑ r : Fin n, (if r.val = k.val then 1 else 0) * f r = f k := by
  simp only [ite_mul, one_mul, zero_mul]
  rw [Finset.sum_eq_single k (fun b _ hb => if_neg fun h => hb (Fin.ext h)) (fun h => absurd (Finset.mem_univ k) h), if_pos rfl]

/-! The arrays. -/

section
variable (x : FVec Ideal ⟨3, ![2, 8192, 1024]⟩ .f32) (gm : FVec Ideal ⟨2, ![1, 1024]⟩ .f32) (w : FVec Ideal ⟨3, ![1, 1024, 1984]⟩ .f32)

/-- A projected row. -/
def projected (b : Fin 2) (s : Fin 8192) : Fin 1984 → EReal := inner (fun e => x (ix3 b s e)) (fun e => gm (ix2 0 e)) fun e j => w (ix3 0 e j)

/-- The columns from an offset on, by the residue of their rows. -/
def byResidue (f : (Fin 512 → EReal) → Fin 512 → EReal) (o : ℕ) (ho : o + 512 ≤ 1984) : FVec Ideal ⟨4, ![2, 16, 512, 512]⟩ .f32 := fun y =>
  f (fun j => projected x gm w (y 0) ⟨16 * (show Fin 512 from y 2).val + (show Fin 16 from y 1).val, by omega⟩ ⟨o + j.val, by omega⟩) (y 3)

/-- The dilated queries or keys, and the dilated values. -/
def dilatedArray (g : FVec Ideal ⟨2, ![1, 64]⟩ .f32) (o : ℕ) (ho : o + 512 ≤ 1984) : FVec Ideal ⟨4, ![2, 16, 512, 512]⟩ .f32 :=
  byResidue x gm w (fun u => dilated u fun a => g (ix2 0 a)) o ho
def valueArray : FVec Ideal ⟨4, ![2, 16, 512, 512]⟩ .f32 := byResidue x gm w (fun u => u) 1024 (by norm_num)

/-- A latent query and a latent key, before their norms. -/
def queryOf (gq : FVec Ideal ⟨2, ![1, 256]⟩ .f32) (wq : FVec Ideal ⟨3, ![1, 256, 768]⟩ .f32) (b : Fin 2) (s : Fin 8192) (h : Fin 4) : Fin 192 → EReal :=
  query (fun a => projected x gm w b s ⟨1536 + a.val, by omega⟩) (fun a => gq (ix2 0 a)) (fun a j => wq (ix3 0 a j)) h
def keyValueOf (gk : FVec Ideal ⟨2, ![1, 128]⟩ .f32) (wk : FVec Ideal ⟨3, ![1, 128, 1024]⟩ .f32) (b : Fin 2) (s : Fin 8192) (h : Fin 4) : Fin 256 → EReal :=
  keyValue (fun a => projected x gm w b s ⟨1792 + a.val, by omega⟩) (fun a => gk (ix2 0 a)) (fun a j => wk (ix3 0 a j)) h
def keyOf (gk : FVec Ideal ⟨2, ![1, 128]⟩ .f32) (wk : FVec Ideal ⟨3, ![1, 128, 1024]⟩ .f32) (b : Fin 2) (s : Fin 8192) (h : Fin 4) : Fin 192 → EReal :=
  key (keyValueOf x gm w gk wk b s h) fun a => projected x gm w b s ⟨1920 + a.val, by omega⟩

/-- A latent row through its norm and the rotary embedding. -/
def embedded (s : Fin 8192) (q : Fin 192 → EReal) (g : FVec Ideal ⟨2, ![1, 192]⟩ .f32) : Fin 256 → EReal :=
  turned (normed len192 q fun d => g (ix2 0 d)) (fun f => Ideal.cos (angle s f)) fun f => Ideal.sin (angle s f)

/-- The latent queries, the latent keys, the latent values. -/
def queryArray (gq : FVec Ideal ⟨2, ![1, 256]⟩ .f32) (wq : FVec Ideal ⟨3, ![1, 256, 768]⟩ .f32) (g : FVec Ideal ⟨2, ![1, 192]⟩ .f32) : FVec Ideal ⟨2, ![16384, 1024]⟩ .bf16 := fun y =>
  embedded (position (y 0)) (queryOf x gm w gq wq (entry (y 0)) (position (y 0)) ⟨(show Fin 1024 from y 1).val / 256, by omega⟩) g ⟨(show Fin 1024 from y 1).val % 256, by omega⟩
def keyArray (gk : FVec Ideal ⟨2, ![1, 128]⟩ .f32) (wk : FVec Ideal ⟨3, ![1, 128, 1024]⟩ .f32) (g : FVec Ideal ⟨2, ![1, 192]⟩ .f32) : FVec Ideal ⟨2, ![16384, 1024]⟩ .bf16 := fun y =>
  embedded (position (y 0)) (keyOf x gm w gk wk (entry (y 0)) (position (y 0)) ⟨(show Fin 1024 from y 1).val / 256, by omega⟩) g ⟨(show Fin 1024 from y 1).val % 256, by omega⟩
def latentValueArray (gk : FVec Ideal ⟨2, ![1, 128]⟩ .f32) (wk : FVec Ideal ⟨3, ![1, 128, 1024]⟩ .f32) : FVec Ideal ⟨2, ![16384, 512]⟩ .bf16 := fun y =>
  keyValueOf x gm w gk wk (entry (y 0)) (position (y 0)) ⟨(show Fin 512 from y 1).val / 128, by omega⟩ ⟨128 + (show Fin 512 from y 1).val % 128, by omega⟩

end

/-! Equal arguments give equal arrays. -/

section
variable {x x' : FVec Ideal ⟨3, ![2, 8192, 1024]⟩ .f32} {gm gm' : FVec Ideal ⟨2, ![1, 1024]⟩ .f32} {w w' : FVec Ideal ⟨3, ![1, 1024, 1984]⟩ .f32}

theorem dilatedArray_congr {g g' : FVec Ideal ⟨2, ![1, 64]⟩ .f32} {o : ℕ} {ho : o + 512 ≤ 1984} (hx : x = x') (hm : gm = gm') (hw : w = w') (hg : g = g') :
    dilatedArray x gm w g o ho = dilatedArray x' gm' w' g' o ho := by
  subst hx hm hw hg
  rfl

theorem valueArray_congr (hx : x = x') (hm : gm = gm') (hw : w = w') :
    valueArray x gm w = valueArray x' gm' w' := by
  subst hx hm hw
  rfl

theorem queryArray_congr {gq gq' : FVec Ideal ⟨2, ![1, 256]⟩ .f32} {wq wq' : FVec Ideal ⟨3, ![1, 256, 768]⟩ .f32} {g g' : FVec Ideal ⟨2, ![1, 192]⟩ .f32} (hx : x = x') (hm : gm = gm') (hw : w = w') (hgq : gq = gq') (hwq : wq = wq') (hg : g = g') :
    queryArray x gm w gq wq g = queryArray x' gm' w' gq' wq' g' := by
  subst hx hm hw hgq hwq hg
  rfl

theorem keyArray_congr {gk gk' : FVec Ideal ⟨2, ![1, 128]⟩ .f32} {wk wk' : FVec Ideal ⟨3, ![1, 128, 1024]⟩ .f32} {g g' : FVec Ideal ⟨2, ![1, 192]⟩ .f32} (hx : x = x') (hm : gm = gm') (hw : w = w') (hgk : gk = gk') (hwk : wk = wk') (hg : g = g') :
    keyArray x gm w gk wk g = keyArray x' gm' w' gk' wk' g' := by
  subst hx hm hw hgk hwk hg
  rfl

theorem latentValueArray_congr {gk gk' : FVec Ideal ⟨2, ![1, 128]⟩ .f32} {wk wk' : FVec Ideal ⟨3, ![1, 128, 1024]⟩ .f32} (hx : x = x') (hm : gm = gm') (hw : w = w') (hgk : gk = gk') (hwk : wk = wk') :
    latentValueArray x gm w gk wk = latentValueArray x' gm' w' gk' wk' := by
  subst hx hm hw hgk hwk
  rfl

end

end Cert.Projection

end
-- ==== Proof.ProjValues.lean ====
module

public import proofs.«01_k».proof.Proof.ProjBlock
public import proofs.«01_k».proof.Proof.ProjTarget

/-! The blocks that a point of `proj` writes, in the arguments' entries, when the blocks that it reads are the arguments' entries. -/

@[expose] public section

set_option maxRecDepth 16384

noncomputable section

namespace Cert.ProjKernelIdeal.Block

open Cert.ProjKernelIdeal Cert.ProjKernelIdeal.Gen Cert.ProjKernelIdeal.Launched Cert.Projection Cert.Swiglu
open Idealize.ShloMosaic Idealize.ShloMosaic.TcCoe Idealize.ShloMosaic.Tactic

variable {x0 : Vec Ideal S512x1024 .f32} {x1 : Vec Ideal S1x1024 .f32} {x2 : Vec Ideal S1984x1024 .f32} {x3 : Vec Ideal S128x1024 .bf16} {x4 : Vec Ideal S256x256 .bf16} {x5 : Vec Ideal S512x512 .bf16} {x6 : Vec Ideal S1x512 .f32} {x7 : Vec Ideal S1x512 .f32} {x8 : Vec Ideal S1x256 .f32} {x9 : Vec Ideal S256x1024 .bf16} {x10 : Vec Ideal S1x128 .f32} {x11 : Vec Ideal S128x1024 .bf16} {x12 : Vec Ideal S1x128 .f32} {x13 : Vec Ideal S1x128 .f32} {x14 : Vec Ideal S1x128 .f32} {x15 : Vec Ideal S1x128 .f32} {x16 : Vec Ideal S512x128 .f32} {x17 : Vec Ideal S512x128 .f32}
  {a0 : FVec Ideal S2x8192x1024 .f32} {a1 : FVec Ideal S1x1024 .f32} {a2 : FVec Ideal S1x1024x1984 .f32} {a3 : FVec Ideal S1x64 .f32} {a4 : FVec Ideal S1x64 .f32} {a5 : FVec Ideal S1x256 .f32} {a6 : FVec Ideal S1x256x768 .f32} {a7 : FVec Ideal S1x128 .f32} {a8 : FVec Ideal S1x128x1024 .f32} {a9 : FVec Ideal S1x192 .f32} {a10 : FVec Ideal S1x192 .f32}
  (b : Fin 512 → Fin 2) (s : Fin 512 → Fin 8192)

theorem normRow_eq
    (h0 : ∀ (i : Fin 512) (e : Fin 1024), x0 (ix2 i e) = a0 (ix3 (b i) (s i) e))
    (h1 : ∀ e : Fin 1024, x1 (ix2 0 e) = a1 (ix2 0 e))
    (i : Fin 512) : normRow x0 x1 i = normed len1024 (fun e => a0 (ix3 (b i) (s i) e)) fun e => a1 (ix2 0 e) := by
  unfold normRow
  simp only [h0, h1]

theorem latent_eq
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (i j : Fin 512) : latent x0 x1 x2 x3 (ix2 i j) = if h : j.val < 448 then projected a0 a1 a2 (b i) (s i) ⟨1536 + j.val, by omega⟩ else 0 := by
  rw [latent_apply, normRow_eq b s h0 h1]
  simp only [h2, h3]
  by_cases h : j.val < 384
  · rw [dif_pos h, dif_pos (by omega)]
    rfl
  · rw [dif_neg h]
    by_cases h' : j.val < 448
    · rw [dif_pos h']
      unfold projected Projection.inner
      refine Finset.sum_congr rfl fun e _ => ?_
      rw [dif_pos (show j.val - 384 < 64 by omega)]
      exact congrArg (fun k : Fin 1984 => normed len1024 (fun e => a0 (ix3 (b i) (s i) e)) (fun e => a1 (ix2 0 e)) e * a2 (ix3 0 e k)) (Fin.ext (by show 1920 + (j.val - 384) = 1536 + j.val; omega))
    · rw [dif_neg h']
      refine Finset.sum_eq_zero fun e _ => ?_
      rw [dif_neg (show ¬ j.val - 384 < 64 by omega), mul_zero]

theorem upQ_eq
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h8 : ∀ q : Fin 256, x8 (ix2 0 q) = a5 (ix2 0 q))
    (i : Fin 512) (j : Fin 1024) : upQ x0 x1 x2 x3 x4 x5 x6 x7 x8 x9 x10 x11 x12 x13 x14 x15 x16 x17 (ix2 i j)
    = ∑ q : Fin 256, normed len256 (fun q : Fin 256 => projected a0 a1 a2 (b i) (s i) ⟨1536 + q.val, by omega⟩) (fun q => a5 (ix2 0 q)) q * x9 (ix2 q j) := by
  rw [upQ_apply]
  have e : (fun q : Fin 256 => latent x0 x1 x2 x3 (ix2 i ⟨q.val, by omega⟩)) = fun q : Fin 256 => projected a0 a1 a2 (b i) (s i) ⟨1536 + q.val, by omega⟩ := funext fun q => by
    rw [latent_eq b s h0 h1 h2 h3, dif_pos (show q.val < 448 by omega)]
  rw [e]
  simp only [h8]

theorem side_upQ
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h8 : ∀ q : Fin 256, x8 (ix2 0 q) = a5 (ix2 0 q))
    (h9 : ∀ (q : Fin 256) (j : Fin 1024), x9 (ix2 q j) = if h : j.val < 512 then a6 (ix3 0 q ⟨192 * (j.val / 128) + j.val % 128, by omega⟩)
      else if h : j.val % 128 < 64 then a6 (ix3 0 q ⟨192 * ((j.val - 512) / 128) + 128 + j.val % 128, by omega⟩) else 0)
    (h : Fin 4) (i : Fin 512) (d : Fin 128) : side (upQ x0 x1 x2 x3 x4 x5 x6 x7 x8 x9 x10 x11 x12 x13 x14 x15 x16 x17) h i d = queryOf a0 a1 a2 a5 a6 (b i) (s i) h ⟨d.val, by omega⟩ := by
  unfold side queryOf query
  rw [upQ_eq b s h0 h1 h2 h3 h8]
  refine Finset.sum_congr rfl fun q _ => congrArg _ ?_
  rw [h9, dif_pos (show 128 * h.val + d.val < 512 by omega)]
  exact congrArg (fun k => a6 (ix3 0 q k)) (Fin.ext (by show 192 * ((128 * h.val + d.val) / 128) + (128 * h.val + d.val) % 128 = 192 * h.val + d.val; omega))

theorem late_upQ
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h8 : ∀ q : Fin 256, x8 (ix2 0 q) = a5 (ix2 0 q))
    (h9 : ∀ (q : Fin 256) (j : Fin 1024), x9 (ix2 q j) = if h : j.val < 512 then a6 (ix3 0 q ⟨192 * (j.val / 128) + j.val % 128, by omega⟩)
      else if h : j.val % 128 < 64 then a6 (ix3 0 q ⟨192 * ((j.val - 512) / 128) + 128 + j.val % 128, by omega⟩) else 0)
    (h : Fin 4) (i : Fin 512) (d : Fin 128) : late (upQ x0 x1 x2 x3 x4 x5 x6 x7 x8 x9 x10 x11 x12 x13 x14 x15 x16 x17) h i d
    = if hd : d.val < 64 then queryOf a0 a1 a2 a5 a6 (b i) (s i) h ⟨128 + d.val, by omega⟩ else 0 := by
  unfold late
  rw [upQ_eq b s h0 h1 h2 h3 h8]
  by_cases hd : d.val < 64
  · rw [dif_pos hd]
    unfold queryOf query
    refine Finset.sum_congr rfl fun q _ => congrArg _ ?_
    rw [h9, dif_neg (show ¬ 512 + 128 * h.val + d.val < 512 by omega), dif_pos (show (512 + 128 * h.val + d.val) % 128 < 64 by omega)]
    exact congrArg (fun k => a6 (ix3 0 q k)) (Fin.ext (by show 192 * ((512 + 128 * h.val + d.val - 512) / 128) + 128 + (512 + 128 * h.val + d.val) % 128 = 192 * h.val + (128 + d.val); omega))
  · rw [dif_neg hd]
    refine Finset.sum_eq_zero fun q _ => ?_
    rw [h9, dif_neg (show ¬ 512 + 128 * h.val + d.val < 512 by omega), dif_neg (show ¬ (512 + 128 * h.val + d.val) % 128 < 64 by omega), mul_zero]

theorem upK_eq
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h10 : ∀ q : Fin 128, x10 (ix2 0 q) = a7 (ix2 0 q))
    (i : Fin 512) (j : Fin 1024) : upK x0 x1 x2 x3 x4 x5 x6 x7 x8 x9 x10 x11 x12 x13 x14 x15 x16 x17 (ix2 i j)
    = ∑ q : Fin 128, normed len128 (fun q : Fin 128 => projected a0 a1 a2 (b i) (s i) ⟨1792 + q.val, by omega⟩) (fun q => a7 (ix2 0 q)) q * x11 (ix2 q j) := by
  rw [upK_apply]
  have e : (fun q : Fin 128 => latent x0 x1 x2 x3 (ix2 i ⟨256 + q.val, by omega⟩)) = fun q : Fin 128 => projected a0 a1 a2 (b i) (s i) ⟨1792 + q.val, by omega⟩ := funext fun q => by
    rw [latent_eq b s h0 h1 h2 h3, dif_pos (show 256 + q.val < 448 by omega)]
    exact congrArg (projected a0 a1 a2 (b i) (s i)) (Fin.ext (by show 1536 + (256 + q.val) = 1792 + q.val; omega))
  rw [e]
  simp only [h10]

theorem side_upK
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h10 : ∀ q : Fin 128, x10 (ix2 0 q) = a7 (ix2 0 q))
    (h11 : ∀ (q : Fin 128) (j : Fin 1024), x11 (ix2 q j) = if h : j.val < 512 then a8 (ix3 0 q ⟨256 * (j.val / 128) + j.val % 128, by omega⟩)
      else a8 (ix3 0 q ⟨256 * ((j.val - 512) / 128) + 128 + j.val % 128, by omega⟩))
    (h : Fin 4) (i : Fin 512) (d : Fin 128) : side (upK x0 x1 x2 x3 x4 x5 x6 x7 x8 x9 x10 x11 x12 x13 x14 x15 x16 x17) h i d = keyOf a0 a1 a2 a7 a8 (b i) (s i) h ⟨d.val, by omega⟩ := by
  unfold side keyOf key keyValueOf keyValue
  rw [upK_eq b s h0 h1 h2 h3 h10, dif_pos d.isLt]
  refine Finset.sum_congr rfl fun q _ => congrArg _ ?_
  rw [h11, dif_pos (show 128 * h.val + d.val < 512 by omega)]
  exact congrArg (fun k => a8 (ix3 0 q k)) (Fin.ext (by show 256 * ((128 * h.val + d.val) / 128) + (128 * h.val + d.val) % 128 = 256 * h.val + d.val; omega))

theorem shared_lane
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h : Fin 4) (i : Fin 512) (d : Fin 128) : sharedLanes x0 x1 x2 x3 i d
    = if hd : d.val < 64 then keyOf a0 a1 a2 a7 a8 (b i) (s i) h ⟨128 + d.val, by omega⟩ else 0 := by
  unfold sharedLanes
  rw [latent_eq b s h0 h1 h2 h3]
  by_cases hd : d.val < 64
  · rw [dif_pos hd, dif_pos (show 384 + d.val < 448 by omega)]
    unfold keyOf key
    rw [dif_neg (show ¬ 128 + d.val < 128 by omega)]
    exact congrArg (projected a0 a1 a2 (b i) (s i)) (Fin.ext (by show 1536 + (384 + d.val) = 1920 + (128 + d.val - 128); omega))
  · rw [dif_neg hd, dif_neg (show ¬ 384 + d.val < 448 by omega)]

theorem query_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h8 : ∀ q : Fin 256, x8 (ix2 0 q) = a5 (ix2 0 q))
    (h9 : ∀ (q : Fin 256) (j : Fin 1024), x9 (ix2 q j) = if h : j.val < 512 then a6 (ix3 0 q ⟨192 * (j.val / 128) + j.val % 128, by omega⟩)
      else if h : j.val % 128 < 64 then a6 (ix3 0 q ⟨192 * ((j.val - 512) / 128) + 128 + j.val % 128, by omega⟩) else 0)
    (h12 : ∀ l : Fin 128, x12 (ix2 0 l) = a9 (ix2 0 ⟨l.val, by omega⟩))
    (h13 : ∀ l : Fin 128, x13 (ix2 0 l) = if h : l.val < 64 then a9 (ix2 0 ⟨128 + l.val, by omega⟩) else 0)
    (h16 : ∀ (i : Fin 512) (l : Fin 128), x16 (ix2 i l) = Ideal.cos (angle (s i) ⟨l.val % 32, by omega⟩))
    (h17 : ∀ (i : Fin 512) (l : Fin 128), x17 (ix2 i l) = if l.val % 64 < 32 then -Ideal.sin (angle (s i) ⟨l.val % 32, by omega⟩) else Ideal.sin (angle (s i) ⟨l.val % 32, by omega⟩))
    (i : Fin 512) (j : Fin 1024) : out0_21 x0 x1 x2 x3 x4 x5 x6 x7 x8 x9 x10 x11 x12 x13 x14 x15 x16 x17 (ix2 i j)
    = embedded (s i) (queryOf a0 a1 a2 a5 a6 (b i) (s i) ⟨j.val / 256, by omega⟩) a9 ⟨j.val % 256, by omega⟩ := by
  rw [query_block, heads_apply]
  unfold embedded
  by_cases h : j.val % 256 < 128
  · rw [dif_pos h]
    exact head_first _ (fun d => a9 (ix2 0 d)) _ _ (fun l => x12 (ix2 0 l)) (fun f => Ideal.cos (angle (s i) f)) (fun f => Ideal.sin (angle (s i) f)) (side_upQ b s h0 h1 h2 h3 h8 h9 ⟨j.val / 256, by omega⟩ i) (late_upQ b s h0 h1 h2 h3 h8 h9 ⟨j.val / 256, by omega⟩ i) h12 ⟨j.val % 256, h⟩
  · rw [dif_neg h]
    refine (head_last _ (fun d => a9 (ix2 0 d)) _ _ (fun l => x13 (ix2 0 l)) (lane x16 i) (lane x17 i) (fun f => Ideal.cos (angle (s i) f)) (fun f => Ideal.sin (angle (s i) f)) (side_upQ b s h0 h1 h2 h3 h8 h9 ⟨j.val / 256, by omega⟩ i) (late_upQ b s h0 h1 h2 h3 h8 h9 ⟨j.val / 256, by omega⟩ i) h13 (h16 i) (h17 i) ⟨j.val % 256 - 128, by omega⟩).trans ?_
    exact congrArg _ (Fin.ext (by show 128 + (j.val % 256 - 128) = j.val % 256; omega))

theorem key_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h10 : ∀ q : Fin 128, x10 (ix2 0 q) = a7 (ix2 0 q))
    (h11 : ∀ (q : Fin 128) (j : Fin 1024), x11 (ix2 q j) = if h : j.val < 512 then a8 (ix3 0 q ⟨256 * (j.val / 128) + j.val % 128, by omega⟩)
      else a8 (ix3 0 q ⟨256 * ((j.val - 512) / 128) + 128 + j.val % 128, by omega⟩))
    (h14 : ∀ l : Fin 128, x14 (ix2 0 l) = a10 (ix2 0 ⟨l.val, by omega⟩))
    (h15 : ∀ l : Fin 128, x15 (ix2 0 l) = if h : l.val < 64 then a10 (ix2 0 ⟨128 + l.val, by omega⟩) else 0)
    (h16 : ∀ (i : Fin 512) (l : Fin 128), x16 (ix2 i l) = Ideal.cos (angle (s i) ⟨l.val % 32, by omega⟩))
    (h17 : ∀ (i : Fin 512) (l : Fin 128), x17 (ix2 i l) = if l.val % 64 < 32 then -Ideal.sin (angle (s i) ⟨l.val % 32, by omega⟩) else Ideal.sin (angle (s i) ⟨l.val % 32, by omega⟩))
    (i : Fin 512) (j : Fin 1024) : out0_22 x0 x1 x2 x3 x4 x5 x6 x7 x8 x9 x10 x11 x12 x13 x14 x15 x16 x17 (ix2 i j)
    = embedded (s i) (keyOf a0 a1 a2 a7 a8 (b i) (s i) ⟨j.val / 256, by omega⟩) a10 ⟨j.val % 256, by omega⟩ := by
  rw [key_block, heads_apply]
  unfold embedded keyRoot
  rw [val83_apply]
  by_cases h : j.val % 256 < 128
  · rw [dif_pos h]
    exact head_first _ (fun d => a10 (ix2 0 d)) _ _ (fun l => x14 (ix2 0 l)) (fun f => Ideal.cos (angle (s i) f)) (fun f => Ideal.sin (angle (s i) f)) (side_upK b s h0 h1 h2 h3 h10 h11 ⟨j.val / 256, by omega⟩ i) (shared_lane b s h0 h1 h2 h3 ⟨j.val / 256, by omega⟩ i) h14 ⟨j.val % 256, h⟩
  · rw [dif_neg h, val84_apply]
    refine (head_last' _ (fun d => a10 (ix2 0 d)) _ _ (fun l => x15 (ix2 0 l)) (lane x16 i) (lane x17 i) (fun f => Ideal.cos (angle (s i) f)) (fun f => Ideal.sin (angle (s i) f)) (side_upK b s h0 h1 h2 h3 h10 h11 ⟨j.val / 256, by omega⟩ i) (shared_lane b s h0 h1 h2 h3 ⟨j.val / 256, by omega⟩ i) h15 (h16 i) (h17 i) ⟨j.val % 256 - 128, by omega⟩).trans ?_
    exact congrArg _ (Fin.ext (by show 128 + (j.val % 256 - 128) = j.val % 256; omega))

theorem latentValue_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h3 : ∀ (j : Fin 128) (e : Fin 1024), x3 (ix2 j e) = if h : j.val < 64 then a2 (ix3 0 e ⟨1920 + j.val, by omega⟩) else 0)
    (h10 : ∀ q : Fin 128, x10 (ix2 0 q) = a7 (ix2 0 q))
    (h11 : ∀ (q : Fin 128) (j : Fin 1024), x11 (ix2 q j) = if h : j.val < 512 then a8 (ix3 0 q ⟨256 * (j.val / 128) + j.val % 128, by omega⟩)
      else a8 (ix3 0 q ⟨256 * ((j.val - 512) / 128) + 128 + j.val % 128, by omega⟩))
    (i j : Fin 512) : out0_23 x0 x1 x2 x3 x4 x5 x6 x7 x8 x9 x10 x11 x12 x13 x14 x15 x16 x17 (ix2 i j)
    = keyValueOf a0 a1 a2 a7 a8 (b i) (s i) ⟨j.val / 128, by omega⟩ ⟨128 + j.val % 128, by omega⟩ := by
  rw [value_block, upK_eq b s h0 h1 h2 h3 h10]
  unfold keyValueOf keyValue
  refine Finset.sum_congr rfl fun q _ => congrArg _ ?_
  rw [h11, dif_neg (show ¬ 512 + j.val < 512 by omega)]
  exact congrArg (fun k => a8 (ix3 0 q k)) (Fin.ext (by show 256 * ((512 + j.val - 512) / 128) + 128 + (512 + j.val) % 128 = 256 * (j.val / 128) + (128 + j.val % 128); omega))

/-- The row that a residue's row is. -/
def placed (r : Fin 16) (p : Fin 32) : Fin 512 := ⟨16 * p.val + r.val, by omega⟩

theorem product_eq
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h5 : ∀ i r : Fin 512, x5 (ix2 i r) = if r.val = 16 * (i.val % 32) + i.val / 32 then 1 else 0)
    (o : ℕ) (ho : o + 512 ≤ 1984) (r : Fin 16) (p : Fin 32) (j : Fin 512) : product x0 x1 x2 x3 x4 x5 x6 x7 x8 x9 x10 x11 x12 x13 x14 x15 x16 x17 o ho ⟨r.val * 32 + p.val, by omega⟩ j
    = projected a0 a1 a2 (b (placed r p)) (s (placed r p)) ⟨o + j.val, by omega⟩ := by
  unfold product projected Projection.inner
  refine Finset.sum_congr rfl fun e _ => ?_
  rw [h2, ← normRow_eq b s h0 h1]
  refine congrArg (· * a2 (ix3 0 e ⟨o + j.val, by omega⟩)) ?_
  rw [movedRows_apply]
  refine Eq.trans (Finset.sum_congr rfl fun q _ => ?_) (one_row (fun q => normRow x0 x1 q e) (placed r p))
  refine congrArg (· * normRow x0 x1 q e) ?_
  rw [h5]
  have e1 : 16 * ((r.val * 32 + p.val) % 32) + (r.val * 32 + p.val) / 32 = 16 * p.val + r.val := by omega
  show (if q.val = 16 * ((r.val * 32 + p.val) % 32) + (r.val * 32 + p.val) / 32 then (1 : EReal) else 0) = if q.val = 16 * p.val + r.val then 1 else 0
  rw [e1]

theorem first_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h4 : ∀ q j : Fin 256, x4 (ix2 q j) = if q.val / 64 = j.val / 64 then 1 else 0)
    (h5 : ∀ i r : Fin 512, x5 (ix2 i r) = if r.val = 16 * (i.val % 32) + i.val / 32 then 1 else 0)
    (h6 : ∀ j : Fin 512, x6 (ix2 0 j) = a3 (ix2 0 ⟨j.val % 64, by omega⟩))
    (r : Fin 16) (p : Fin 32) (j : Fin 512) : out0_18 x0 x1 x2 x3 x4 x5 x6 x7 x8 x9 x10 x11 x12 x13 x14 x15 x16 x17 (ix4 0 r p j)
    = dilated (fun j => projected a0 a1 a2 (b (placed r p)) (s (placed r p)) ⟨0 + j.val, by omega⟩) (fun a => a3 (ix2 0 a)) j := by
  rw [first_block]
  have e : product x0 x1 x2 x3 x4 x5 x6 x7 x8 x9 x10 x11 x12 x13 x14 x15 x16 x17 0 (by norm_num) ⟨r.val * 32 + p.val, by omega⟩ = fun j => projected a0 a1 a2 (b (placed r p)) (s (placed r p)) ⟨0 + j.val, by omega⟩ :=
    funext fun j => product_eq b s h0 h1 h2 h5 0 (by norm_num) r p j
  rw [e, ← dilated_eq]
  unfold headed
  simp only [h4, h6]

theorem second_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h4 : ∀ q j : Fin 256, x4 (ix2 q j) = if q.val / 64 = j.val / 64 then 1 else 0)
    (h5 : ∀ i r : Fin 512, x5 (ix2 i r) = if r.val = 16 * (i.val % 32) + i.val / 32 then 1 else 0)
    (h7 : ∀ j : Fin 512, x7 (ix2 0 j) = a4 (ix2 0 ⟨j.val % 64, by omega⟩))
    (r : Fin 16) (p : Fin 32) (j : Fin 512) : out0_19 x0 x1 x2 x3 x4 x5 x6 x7 x8 x9 x10 x11 x12 x13 x14 x15 x16 x17 (ix4 0 r p j)
    = dilated (fun j => projected a0 a1 a2 (b (placed r p)) (s (placed r p)) ⟨512 + j.val, by omega⟩) (fun a => a4 (ix2 0 a)) j := by
  rw [second_block]
  have e : product x0 x1 x2 x3 x4 x5 x6 x7 x8 x9 x10 x11 x12 x13 x14 x15 x16 x17 512 (by norm_num) ⟨r.val * 32 + p.val, by omega⟩ = fun j => projected a0 a1 a2 (b (placed r p)) (s (placed r p)) ⟨512 + j.val, by omega⟩ :=
    funext fun j => product_eq b s h0 h1 h2 h5 512 (by norm_num) r p j
  rw [e, ← dilated_eq]
  unfold headed
  simp only [h4, h7]

theorem third_value
    (h0 : ∀ (i : Fin 512) (e : Fin 1024), x0 (ix2 i e) = a0 (ix3 (b i) (s i) e))
    (h1 : ∀ e : Fin 1024, x1 (ix2 0 e) = a1 (ix2 0 e))
    (h2 : ∀ (j : Fin 1984) (e : Fin 1024), x2 (ix2 j e) = a2 (ix3 0 e j))
    (h5 : ∀ i r : Fin 512, x5 (ix2 i r) = if r.val = 16 * (i.val % 32) + i.val / 32 then 1 else 0)
    (r : Fin 16) (p : Fin 32) (j : Fin 512) : out0_20 x0 x1 x2 x3 x4 x5 x6 x7 x8 x9 x10 x11 x12 x13 x14 x15 x16 x17 (ix4 0 r p j)
    = projected a0 a1 a2 (b (placed r p)) (s (placed r p)) ⟨1024 + j.val, by omega⟩ := by
  rw [third_block]
  exact product_eq b s h0 h1 h2 h5 1024 (by norm_num) r p j

end Cert.ProjKernelIdeal.Block

end
-- ==== Proof.ProjArray.lean ====
module

public import proofs.«01_k».proof.Proof.ProjCells
public import proofs.«01_k».proof.Proof.ProjValues

/-! The six arrays that the points of `proj` write. -/

@[expose] public section

set_option maxRecDepth 16384

noncomputable section

namespace Cert.ProjKernelIdeal.Block

open Cert.ProjKernelIdeal Cert.ProjKernelIdeal.Gen Cert.ProjKernelIdeal.Launched Cert.Swiglu Cert.Projection
open Idealize.ShloMosaic Idealize.ShloMosaic.TcCoe Idealize.ShloMosaic.Tactic

theorem batch_eq (t : Fin cfg0.N) (i : Fin 512) : entry (rowOf t i) = batchOf t :=
  Fin.ext (by show (512 * t.val + i.val) / 8192 = t.val / 16; omega)

theorem position_eq (t : Fin cfg0.N) (r : Fin 16) (p : Fin 32) : position (rowOf t (placed r p)) = ⟨16 * (residueRow t p).val + r.val, by omega⟩ :=
  Fin.ext (by show (512 * t.val + (16 * p.val + r.val)) % 8192 = 16 * (32 * (t.val % 16) + p.val) + r.val; omega)

/-- A residue's row is the row of its position. -/
theorem residue_eq (x : FVec Ideal S2x8192x1024 .f32) (gm : FVec Ideal S1x1024 .f32) (w : FVec Ideal S1x1024x1984 .f32) (f : (Fin 512 → EReal) → Fin 512 → EReal)
    (o : ℕ) (ho : o + 512 ≤ 1984) (t : Fin cfg0.N) (r : Fin 16) (p : Fin 32) (j : Fin 512) :
    f (fun j => projected x gm w (entry (rowOf t (placed r p))) (position (rowOf t (placed r p))) ⟨o + j.val, by omega⟩) j
      = byResidue x gm w f o ho (ix4 (batchOf t) r (residueRow t p) j) := by
  rw [batch_eq, position_eq]
  rfl

theorem residue_index (y : S1x16x32x512.Idx) : ∃ (r : Fin 16) (p : Fin 32) (j : Fin 512), y = (ix4 0 r p j : S1x16x32x512.Idx) :=
  ⟨y 1, y 2, y 3, (eq_ix4 (n0 := 1) (n1 := 16) (n2 := 32) (n3 := 512) y).trans
    (congrArg (fun a : Fin 1 => (ix4 a (y 1) (y 2) (y 3) : S1x16x32x512.Idx)) (Subsingleton.elim (α := Fin 1) (y 0) 0))⟩

variable (m : (ℓ : Loc nD τ sig) → Buf (Elt Ideal) ℓ)

theorem step18 (c : Dev nD) (G : FVec Ideal S2x16x512x512 .f32)
    (h : ∀ (t : Fin cfg0.N) (r : Fin 16) (p : Fin 32) (j : Fin 512), out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix4 0 r p j) = G (ix4 (batchOf t) r (residueRow t p) j))
    (t : Fin cfg0.N) (y : S1x16x32x512.Idx) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 18).blk t).view.emb y) := by
  obtain ⟨r, p, j, rfl⟩ := residue_index y
  exact (h t r p j).trans (congrArg G (emb18 t r p j)).symm

theorem array18 (c : Dev nD) (G : FVec Ideal S2x16x512x512 .f32)
    (h : ∀ (t : Fin cfg0.N) (y : S1x16x32x512.Idx), out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 18).blk t).view.emb y)) : (dats m 0 c).arrAt 18 cfg0.N = G :=
  (dats m 0 c).arrAt_eq_of_covers 18 _ (by decide +kernel) fun t hf y => (congrFun (after0_18 m c t) y).trans (h t y)

theorem final18 (c : Dev nD) : (dats m 0 c).arrAt 18 cfg0.N = dilatedArray (m ((c : Thread nD τ).loc main_arg0)) (m ((c : Thread nD τ).loc main_arg1)) (m ((c : Thread nD τ).loc main_arg2)) (m ((c : Thread nD τ).loc main_arg3)) 0 (by norm_num) :=
  array18 m c _ (step18 m c _ fun t r p j =>
    (first_value (fun i => entry (rowOf t i)) (fun i => position (rowOf t i)) (cell0 m c t) (cell1 m c t) (cell2 m c t) (cell4 m c t) (cell5 m c t) (cell6 m c t) r p j).trans (residue_eq _ _ _ (fun u => dilated u fun a => (m ((c : Thread nD τ).loc main_arg3) : FVec Ideal S1x64 .f32) (ix2 0 a)) 0 (by norm_num) t r p j))

theorem step19 (c : Dev nD) (G : FVec Ideal S2x16x512x512 .f32)
    (h : ∀ (t : Fin cfg0.N) (r : Fin 16) (p : Fin 32) (j : Fin 512), out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix4 0 r p j) = G (ix4 (batchOf t) r (residueRow t p) j))
    (t : Fin cfg0.N) (y : S1x16x32x512.Idx) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 19).blk t).view.emb y) := by
  obtain ⟨r, p, j, rfl⟩ := residue_index y
  exact (h t r p j).trans (congrArg G (emb19 t r p j)).symm

theorem array19 (c : Dev nD) (G : FVec Ideal S2x16x512x512 .f32)
    (h : ∀ (t : Fin cfg0.N) (y : S1x16x32x512.Idx), out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 19).blk t).view.emb y)) : (dats m 0 c).arrAt 19 cfg0.N = G :=
  (dats m 0 c).arrAt_eq_of_covers 19 _ (by decide +kernel) fun t hf y => (congrFun (after0_19 m c t) y).trans (h t y)

theorem final19 (c : Dev nD) : (dats m 0 c).arrAt 19 cfg0.N = dilatedArray (m ((c : Thread nD τ).loc main_arg0)) (m ((c : Thread nD τ).loc main_arg1)) (m ((c : Thread nD τ).loc main_arg2)) (m ((c : Thread nD τ).loc main_arg4)) 512 (by norm_num) :=
  array19 m c _ (step19 m c _ fun t r p j =>
    (second_value (fun i => entry (rowOf t i)) (fun i => position (rowOf t i)) (cell0 m c t) (cell1 m c t) (cell2 m c t) (cell4 m c t) (cell5 m c t) (cell7 m c t) r p j).trans (residue_eq _ _ _ (fun u => dilated u fun a => (m ((c : Thread nD τ).loc main_arg4) : FVec Ideal S1x64 .f32) (ix2 0 a)) 512 (by norm_num) t r p j))

theorem step20 (c : Dev nD) (G : FVec Ideal S2x16x512x512 .f32)
    (h : ∀ (t : Fin cfg0.N) (r : Fin 16) (p : Fin 32) (j : Fin 512), out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix4 0 r p j) = G (ix4 (batchOf t) r (residueRow t p) j))
    (t : Fin cfg0.N) (y : S1x16x32x512.Idx) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 20).blk t).view.emb y) := by
  obtain ⟨r, p, j, rfl⟩ := residue_index y
  exact (h t r p j).trans (congrArg G (emb20 t r p j)).symm

theorem array20 (c : Dev nD) (G : FVec Ideal S2x16x512x512 .f32)
    (h : ∀ (t : Fin cfg0.N) (y : S1x16x32x512.Idx), out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 20).blk t).view.emb y)) : (dats m 0 c).arrAt 20 cfg0.N = G :=
  (dats m 0 c).arrAt_eq_of_covers 20 _ (by decide +kernel) fun t hf y => (congrFun (after0_20 m c t) y).trans (h t y)

theorem final20 (c : Dev nD) : (dats m 0 c).arrAt 20 cfg0.N = valueArray (m ((c : Thread nD τ).loc main_arg0)) (m ((c : Thread nD τ).loc main_arg1)) (m ((c : Thread nD τ).loc main_arg2)) :=
  array20 m c _ (step20 m c _ fun t r p j =>
    (third_value (fun i => entry (rowOf t i)) (fun i => position (rowOf t i)) (cell0 m c t) (cell1 m c t) (cell2 m c t) (cell5 m c t) r p j).trans (residue_eq _ _ _ (fun u => u) 1024 (by norm_num) t r p j))

theorem step21 (c : Dev nD) (G : FVec Ideal S16384x1024 .bf16)
    (h : ∀ (t : Fin cfg0.N) (i : Fin 512) (j : Fin 1024), out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 i j) = G (ix2 (rowOf t i) j))
    (t : Fin cfg0.N) (y : S512x1024.Idx) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 21).blk t).view.emb y) := by
  obtain ⟨i, e, rfl⟩ : ∃ (i : Fin 512) (e : Fin 1024), y = (ix2 i e : S512x1024.Idx) := ⟨y 0, y 1, eq_ix2 (n0 := 512) (n1 := 1024) y⟩
  exact (h t i e).trans (congrArg G (emb21 t i e)).symm

theorem array21 (c : Dev nD) (G : FVec Ideal S16384x1024 .bf16)
    (h : ∀ (t : Fin cfg0.N) (y : S512x1024.Idx), out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 21).blk t).view.emb y)) : (dats m 0 c).arrAt 21 cfg0.N = G :=
  (dats m 0 c).arrAt_eq_of_covers 21 _ (by decide +kernel) fun t hf y => (congrFun (after0_21 m c t) y).trans (h t y)

theorem final21 (c : Dev nD) : (dats m 0 c).arrAt 21 cfg0.N = queryArray (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9)) :=
  array21 m c _ (step21 m c _ fun t i e => query_value (fun i => entry (rowOf t i)) (fun i => position (rowOf t i)) (cell0 m c t) (cell1 m c t) (cell2 m c t) (cell3 m c t) (cell8 m c t) (cell9 m c t) (cell12 m c t) (cell13 m c t) (cell16 m c t) (cell17 m c t) i e)

theorem step22 (c : Dev nD) (G : FVec Ideal S16384x1024 .bf16)
    (h : ∀ (t : Fin cfg0.N) (i : Fin 512) (j : Fin 1024), out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 i j) = G (ix2 (rowOf t i) j))
    (t : Fin cfg0.N) (y : S512x1024.Idx) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 22).blk t).view.emb y) := by
  obtain ⟨i, e, rfl⟩ : ∃ (i : Fin 512) (e : Fin 1024), y = (ix2 i e : S512x1024.Idx) := ⟨y 0, y 1, eq_ix2 (n0 := 512) (n1 := 1024) y⟩
  exact (h t i e).trans (congrArg G (emb22 t i e)).symm

theorem array22 (c : Dev nD) (G : FVec Ideal S16384x1024 .bf16)
    (h : ∀ (t : Fin cfg0.N) (y : S512x1024.Idx), out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 22).blk t).view.emb y)) : (dats m 0 c).arrAt 22 cfg0.N = G :=
  (dats m 0 c).arrAt_eq_of_covers 22 _ (by decide +kernel) fun t hf y => (congrFun (after0_22 m c t) y).trans (h t y)

theorem final22 (c : Dev nD) : (dats m 0 c).arrAt 22 cfg0.N = keyArray (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg10)) :=
  array22 m c _ (step22 m c _ fun t i e => key_value (fun i => entry (rowOf t i)) (fun i => position (rowOf t i)) (cell0 m c t) (cell1 m c t) (cell2 m c t) (cell3 m c t) (cell10 m c t) (cell11 m c t) (cell14 m c t) (cell15 m c t) (cell16 m c t) (cell17 m c t) i e)

theorem step23 (c : Dev nD) (G : FVec Ideal S16384x512 .bf16)
    (h : ∀ (t : Fin cfg0.N) (i : Fin 512) (j : Fin 512), out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 i j) = G (ix2 (rowOf t i) j))
    (t : Fin cfg0.N) (y : S512x512.Idx) : out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 23).blk t).view.emb y) := by
  obtain ⟨i, e, rfl⟩ : ∃ (i : Fin 512) (e : Fin 512), y = (ix2 i e : S512x512.Idx) := ⟨y 0, y 1, eq_ix2 (n0 := 512) (n1 := 512) y⟩
  exact (h t i e).trans (congrArg G (emb23 t i e)).symm

theorem array23 (c : Dev nD) (G : FVec Ideal S16384x512 .bf16)
    (h : ∀ (t : Fin cfg0.N) (y : S512x512.Idx), out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y = G (((cfg0.win 23).blk t).view.emb y)) : (dats m 0 c).arrAt 23 cfg0.N = G :=
  (dats m 0 c).arrAt_eq_of_covers 23 _ (by decide +kernel) fun t hf y => (congrFun (after0_23 m c t) y).trans (h t y)

theorem final23 (c : Dev nD) : (dats m 0 c).arrAt 23 cfg0.N = latentValueArray (m ((c : Thread nD τ).loc main_arg0)) (m ((c : Thread nD τ).loc main_arg1)) (m ((c : Thread nD τ).loc main_arg2)) (m ((c : Thread nD τ).loc main_arg7)) (m ((c : Thread nD τ).loc main_arg8)) :=
  array23 m c _ (step23 m c _ fun t i e => latentValue_value (fun i => entry (rowOf t i)) (fun i => position (rowOf t i)) (cell0 m c t) (cell1 m c t) (cell2 m c t) (cell3 m c t) (cell10 m c t) (cell11 m c t) i e)

end Cert.ProjKernelIdeal.Block

end
-- ==== Proof.ProjReference.lean ====
module

public import proofs.«01_k».proof.Proof.Gen.ProjReferenceIdeal.Run
public import proofs.«01_k».proof.Proof.ProjTarget
public import Idealize.ShloMosaic.Lib.Pipeline.ValueKit

/-! The results of the plain projections, a row at a time. -/

@[expose] public section

set_option maxRecDepth 16384

noncomputable section

namespace Cert.ProjReferenceIdeal.Rows

open Cert.ProjReferenceIdeal Cert.ProjReferenceIdeal.Gen Cert.Swiglu Cert.Projection
open Idealize.ShloMosaic Idealize.ShloMosaic.TcCoe Idealize.ShloMosaic.Tactic Idealize.SL.Sem

/-- The normalised rows' products with the weights. -/
def projectV (x : FVec Ideal S2x8192x1024 .f32) (g : FVec Ideal S1x1024 .f32) (w : FVec Ideal S1x1024x1984 .f32) : FVec Ideal S2x8192x1984 .f32 :=
  Host.dotGeneral dot_S2x8192x1024_S1024x1984_S2x8192x1984_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x1984_S1024x1984)

theorem project_apply (x : FVec Ideal S2x8192x1024 .f32) (g : FVec Ideal S1x1024 .f32) (w : FVec Ideal S1x1024x1984 .f32) (b : Fin 2) (s : Fin 8192) (j : Fin 1984) :
    projectV x g w (ix3 b s j) = projected x g w b s j := by
  unfold projected Projection.inner normed len1024 eps
  pointwise [projectV]

/-- The eight heads that 512 columns hold. -/
def headsV (u : FVec Ideal S2x8192x512 .f32) : FVec Ideal S2x8192x8x64 .f32 := shapeCast _ u shapeCasts_S2x8192x512_S2x8192x8x64

/-- The normalised heads. -/
def headNormV (v : FVec Ideal S2x8192x8x64 .f32) (g : FVec Ideal S1x64 .f32) : FVec Ideal S2x8192x8x64 .f32 :=
  mulf (mulf v (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf v v) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 (shapeCast _ g shapeCasts_S1x64_S64)))

/-- The rows by their residue modulo 16. -/
def residuesV (u : FVec Ideal S2x8192x512 .f32) : FVec Ideal S2x16x512x512 .f32 :=
  transpose S2x16x512x512 [0, 2, 1, 3] (shapeCast _ u shapeCasts_S2x8192x512_S2x512x16x512) transposes_S2x512x16x512_S2x16x512x512_0_2_1_3

theorem residues_apply (u : FVec Ideal S2x8192x512 .f32) (b : Fin 2) (r : Fin 16) (n : Fin 512) (j : Fin 512) :
    residuesV u (ix4 b r n j) = u (ix3 b ⟨n.val * 16 + r.val, by omega⟩ j) := by
  pointwise [residuesV]

theorem heads_apply (u : FVec Ideal S2x8192x512 .f32) (b : Fin 2) (s : Fin 8192) (h : Fin 8) (d : Fin 64) :
    headsV u (ix4 b s h d) = u (ix3 b s ⟨h.val * 64 + d.val, by omega⟩) := by
  pointwise [headsV]

theorem joined_apply (v : FVec Ideal S2x8192x8x64 .f32) (b : Fin 2) (s : Fin 8192) (j : Fin 512) :
    shapeCast S2x8192x512 v shapeCasts_S2x8192x8x64_S2x8192x512 (ix3 b s j) = v (ix4 b s ⟨j.val / 64, by omega⟩ ⟨j.val % 64, by omega⟩) := by
  pointwise

theorem headNorm_apply (v : FVec Ideal S2x8192x8x64 .f32) (g : FVec Ideal S1x64 .f32) (b : Fin 2) (s : Fin 8192) (h : Fin 8) (d : Fin 64) :
    headNormV v g (ix4 b s h d) = normed len64 (fun d => v (ix4 b s h d)) (fun d => g (ix2 0 d)) d := by
  unfold normed len64 eps
  pointwise [headNormV]

/-! Columns of the products. -/

theorem columns0_apply (p : FVec Ideal S2x8192x1984 .f32) (b : Fin 2) (s : Fin 8192) (j : Fin 512) :
    extractStridedSlice S2x8192x512 ![0, 0, 0] p slices_S2x8192x1984_S2x8192x512_0_0_0 (ix3 b s j) = p (ix3 b s ⟨0 + j.val, by omega⟩) := by
  pointwise

theorem columns512_apply (p : FVec Ideal S2x8192x1984 .f32) (b : Fin 2) (s : Fin 8192) (j : Fin 512) :
    extractStridedSlice S2x8192x512 ![0, 0, 512] p slices_S2x8192x1984_S2x8192x512_0_0_512 (ix3 b s j) = p (ix3 b s ⟨512 + j.val, by omega⟩) := by
  pointwise

theorem columns1024_apply (p : FVec Ideal S2x8192x1984 .f32) (b : Fin 2) (s : Fin 8192) (j : Fin 512) :
    extractStridedSlice S2x8192x512 ![0, 0, 1024] p slices_S2x8192x1984_S2x8192x512_0_0_1024 (ix3 b s j) = p (ix3 b s ⟨1024 + j.val, by omega⟩) := by
  pointwise

theorem columns1536_apply (p : FVec Ideal S2x8192x1984 .f32) (b : Fin 2) (s : Fin 8192) (j : Fin 256) :
    extractStridedSlice S2x8192x256 ![0, 0, 1536] p slices_S2x8192x1984_S2x8192x256_0_0_1536 (ix3 b s j) = p (ix3 b s ⟨1536 + j.val, by omega⟩) := by
  pointwise

theorem columns1792_apply (p : FVec Ideal S2x8192x1984 .f32) (b : Fin 2) (s : Fin 8192) (j : Fin 128) :
    extractStridedSlice S2x8192x128 ![0, 0, 1792] p slices_S2x8192x1984_S2x8192x128_0_0_1792 (ix3 b s j) = p (ix3 b s ⟨1792 + j.val, by omega⟩) := by
  pointwise

theorem columns1920_apply (p : FVec Ideal S2x8192x1984 .f32) (b : Fin 2) (s : Fin 8192) (j : Fin 64) :
    extractStridedSlice S2x8192x64 ![0, 0, 1920] p slices_S2x8192x1984_S2x8192x64_0_0_1920 (ix3 b s j) = p (ix3 b s ⟨1920 + j.val, by omega⟩) := by
  pointwise

/-- The normalised latent rows' products with their weights, by heads. -/
def queryUpV (u : FVec Ideal S2x8192x256 .f32) (g : FVec Ideal S1x256 .f32) (w : FVec Ideal S1x256x768 .f32) : FVec Ideal S2x8192x4x192 .f32 :=
  shapeCast _ (Host.dotGeneral dot_S2x8192x256_S256x768_S2x8192x768_2_0_01_1_n_n none (mulf (mulf u (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf u u) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 (shapeCast _ g shapeCasts_S1x256_S256)))) (shapeCast _ w shapeCasts_S1x256x768_S256x768)) shapeCasts_S2x8192x768_S2x8192x4x192

theorem queryUp_apply (u : FVec Ideal S2x8192x256 .f32) (g : FVec Ideal S1x256 .f32) (w : FVec Ideal S1x256x768 .f32) (b : Fin 2) (s : Fin 8192) (h : Fin 4) (d : Fin 192) :
    queryUpV u g w (ix4 b s h d) = ∑ a : Fin 256, normed len256 (fun e => u (ix3 b s e)) (fun e => g (ix2 0 e)) a * w (ix3 0 a ⟨h.val * 192 + d.val, by omega⟩) := by
  unfold normed len256 eps
  pointwise [queryUpV]

/-- The normalised latent rows' products with their weights, by heads. -/
def keyUpV (u : FVec Ideal S2x8192x128 .f32) (g : FVec Ideal S1x128 .f32) (w : FVec Ideal S1x128x1024 .f32) : FVec Ideal S2x8192x4x256 .f32 :=
  shapeCast _ (Host.dotGeneral dot_S2x8192x128_S128x1024_S2x8192x1024_2_0_01_1_n_n none (mulf (mulf u (broadcastInDim S2x8192x128 ![0, 1, 2] bcast_S2x8192x1_S2x8192x128_0_1_2 (Host.rsqrt (addf (Host.divf (broadcastInDim S2x8192x1 ![0, 1] bcast_S2x8192_S2x8192x1_0_1 (Host.reduceAdd (mulf u u) (constant S_ .f32 0x00000000#32) reducesTo_S2x8192x128_S2x8192_d2 h_S_)) (broadcastInDim S2x8192x1 ![] bcast_S_S2x8192x1 (constant S_ .f32 0x43000000#32))) (broadcastInDim S2x8192x1 ![] bcast_S_S2x8192x1 (constant S_ .f32 0x358637BD#32)))))) (broadcastInDim S2x8192x128 ![0, 1, 2] bcast_S1x1x128_S2x8192x128_0_1_2 (broadcastInDim S1x1x128 ![2] bcast_S128_S1x1x128_2 (shapeCast _ g shapeCasts_S1x128_S128)))) (shapeCast _ w shapeCasts_S1x128x1024_S128x1024)) shapeCasts_S2x8192x1024_S2x8192x4x256

theorem keyUp_apply (u : FVec Ideal S2x8192x128 .f32) (g : FVec Ideal S1x128 .f32) (w : FVec Ideal S1x128x1024 .f32) (b : Fin 2) (s : Fin 8192) (h : Fin 4) (d : Fin 256) :
    keyUpV u g w (ix4 b s h d) = ∑ a : Fin 128, normed len128 (fun e => u (ix3 b s e)) (fun e => g (ix2 0 e)) a * w (ix3 0 a ⟨h.val * 256 + d.val, by omega⟩) := by
  unfold normed len128 eps
  pointwise [keyUpV]

/-- The keys' rows: a head's own columns, then the shared ones. -/
def keysV (v : FVec Ideal S2x8192x4x256 .f32) (p : FVec Ideal S2x8192x64 .f32) : FVec Ideal S2x8192x4x192 .f32 :=
  concatenate S2x8192x4x192 3 [⟨S2x8192x4x128, (extractStridedSlice S2x8192x4x128 ![0, 0, 0, 0] v slices_S2x8192x4x256_S2x8192x4x128_0_0_0_0)⟩, ⟨S2x8192x4x64, (broadcastInDim S2x8192x4x64 ![0, 1, 2, 3] bcast_S2x8192x1x64_S2x8192x4x64_0_1_2_3 (broadcastInDim S2x8192x1x64 ![0, 1, 3] bcast_S2x8192x64_S2x8192x1x64_0_1_3 p))⟩] concatenates_S2x8192x4x128_S2x8192x4x64_S2x8192x4x192_d3

theorem keys_apply (v : FVec Ideal S2x8192x4x256 .f32) (p : FVec Ideal S2x8192x64 .f32) (b : Fin 2) (s : Fin 8192) (h : Fin 4) (d : Fin 192) :
    keysV v p (ix4 b s h d) = Projection.key (fun e => v (ix4 b s h e)) (fun e => p (ix3 b s e)) d := by
  unfold Projection.key
  pointwise [keysV]

/-- The normalised latent heads. -/
def latentNormV (v : FVec Ideal S2x8192x4x192 .f32) (g : FVec Ideal S1x192 .f32) : FVec Ideal S2x8192x4x192 .f32 :=
  mulf (mulf v (broadcastInDim S2x8192x4x192 ![0, 1, 2, 3] bcast_S2x8192x4x1_S2x8192x4x192_0_1_2_3 (Host.rsqrt (addf (Host.divf (broadcastInDim S2x8192x4x1 ![0, 1, 2] bcast_S2x8192x4_S2x8192x4x1_0_1_2 (Host.reduceAdd (mulf v v) (constant S_ .f32 0x00000000#32) reducesTo_S2x8192x4x192_S2x8192x4_d3 h_S_)) (broadcastInDim S2x8192x4x1 ![] bcast_S_S2x8192x4x1 (constant S_ .f32 0x43400000#32))) (broadcastInDim S2x8192x4x1 ![] bcast_S_S2x8192x4x1 (constant S_ .f32 0x358637BD#32)))))) (broadcastInDim S2x8192x4x192 ![0, 1, 2, 3] bcast_S1x1x1x192_S2x8192x4x192_0_1_2_3 (broadcastInDim S1x1x1x192 ![3] bcast_S192_S1x1x1x192_3 (shapeCast _ g shapeCasts_S1x192_S192)))

theorem latentNorm_apply (v : FVec Ideal S2x8192x4x192 .f32) (g : FVec Ideal S1x192 .f32) (b : Fin 2) (s : Fin 8192) (h : Fin 4) (d : Fin 192) :
    latentNormV v g (ix4 b s h d) = normed len192 (fun d => v (ix4 b s h d)) (fun d => g (ix2 0 d)) d := by
  unfold normed len192 eps
  pointwise [latentNormV]

/-- The rotary angles. -/
def anglesV : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- A table for all batch entries and heads. -/
def tableV (a : FVec Ideal S8192x32 .f32) : FVec Ideal S2x8192x4x32 .f32 :=
  broadcastInDim S2x8192x4x32 ![0, 1, 2, 3] bcast_S1x8192x1x32_S2x8192x4x32_0_1_2_3 (broadcastInDim S1x8192x1x32 ![1, 3] bcast_S8192x32_S1x8192x1x32_1_3 a)

theorem table_apply (a : FVec Ideal S8192x32 .f32) (b : Fin 2) (s : Fin 8192) (h : Fin 4) (f : Fin 32) : tableV a (ix4 b s h f) = a (ix2 s f) := by
  pointwise [tableV]

/-- The halves of the columns that turn. -/
def leftV (y : FVec Ideal S2x8192x4x192 .f32) : FVec Ideal S2x8192x4x32 .f32 :=
  extractStridedSlice S2x8192x4x32 ![0, 0, 0, 0] (extractStridedSlice S2x8192x4x64 ![0, 0, 0, 128] y slices_S2x8192x4x192_S2x8192x4x64_0_0_0_128) slices_S2x8192x4x64_S2x8192x4x32_0_0_0_0
def rightV (y : FVec Ideal S2x8192x4x192 .f32) : FVec Ideal S2x8192x4x32 .f32 :=
  extractStridedSlice S2x8192x4x32 ![0, 0, 0, 32] (extractStridedSlice S2x8192x4x64 ![0, 0, 0, 128] y slices_S2x8192x4x192_S2x8192x4x64_0_0_0_128) slices_S2x8192x4x64_S2x8192x4x32_0_0_0_32

theorem left_apply (y : FVec Ideal S2x8192x4x192 .f32) (b : Fin 2) (s : Fin 8192) (h : Fin 4) (f : Fin 32) : leftV y (ix4 b s h f) = y (ix4 b s h ⟨128 + f.val, by omega⟩) := by
  pointwise [leftV]

theorem right_apply (y : FVec Ideal S2x8192x4x192 .f32) (b : Fin 2) (s : Fin 8192) (h : Fin 4) (f : Fin 32) : rightV y (ix4 b s h f) = y (ix4 b s h ⟨128 + (32 + f.val), by omega⟩) := by
  pointwise [rightV]

/-- A head's columns that stay, the turned ones, and zeros. -/
def laidV (y : FVec Ideal S2x8192x4x192 .f32) (l r : FVec Ideal S2x8192x4x32 .f32) : FVec Ideal S16384x1024 .bf16 :=
  truncf .bf16 (shapeCast _ (pad S2x8192x4x256 ![0, 0, 0, 0] ![0, 0, 0, 64] ![0, 0, 0, 0] (concatenate S2x8192x4x192 3 [⟨S2x8192x4x128, (extractStridedSlice S2x8192x4x128 ![0, 0, 0, 0] y slices_S2x8192x4x192_S2x8192x4x128_0_0_0_0)⟩, ⟨S2x8192x4x64, (concatenate S2x8192x4x64 3 [⟨S2x8192x4x32, l⟩, ⟨S2x8192x4x32, r⟩] concatenates_S2x8192x4x32_S2x8192x4x32_S2x8192x4x64_d3)⟩] concatenates_S2x8192x4x128_S2x8192x4x64_S2x8192x4x192_d3) (sitofp .f32 (constantI S_ 32 0#32)) pads_S2x8192x4x192_S2x8192x4x256_000_000_000_0640 h_S_) shapeCasts_S2x8192x4x256_S16384x1024) bitsLt_bf16_f32

theorem laid_columns (p q : Prop) [Decidable p] [Decidable q] (hp : p) (hq : q) (f : Fin 192 → EReal) (l r cs sn : Fin 32 → EReal) (z : EReal) (hz : z = 0)
    (hl : ∀ a : Fin 32, l a = f ⟨128 + a.val, by omega⟩ * cs a - f ⟨128 + (32 + a.val), by omega⟩ * sn a)
    (hr : ∀ a : Fin 32, r a = f ⟨128 + (32 + a.val), by omega⟩ * cs a + f ⟨128 + a.val, by omega⟩ * sn a) (j : Fin 1024) :
    (if h : p ∧ q ∧ j.val / 256 < 4 ∧ j.val % 256 < 192 then
      if h1 : j.val % 256 < 128 then f ⟨j.val % 256, h.2.2.2⟩
      else if h2 : j.val % 256 - 128 < 32 then l ⟨j.val % 256 - 128, h2⟩ else r ⟨j.val % 256 - 128 - 32, by omega⟩
    else z) = turned f cs sn ⟨j.val % 256, by omega⟩ := by
  unfold turned
  by_cases h192 : j.val % 256 < 192
  · rw [dif_pos ⟨hp, hq, by omega, h192⟩]
    by_cases h128 : j.val % 256 < 128
    · rw [dif_pos h128, dif_pos h128]
    · rw [dif_neg h128, dif_neg h128]
      by_cases h160 : j.val % 256 < 160
      · rw [dif_pos (show j.val % 256 - 128 < 32 by omega), dif_pos h160, hl]
        refine congrArg₂ (fun a b => f a * cs _ - f b * sn _) (Fin.ext ?_) (Fin.ext ?_)
        · show 128 + (j.val % 256 - 128) = j.val % 256
          omega
        · show 128 + (32 + (j.val % 256 - 128)) = j.val % 256 + 32
          omega
      · rw [dif_neg (show ¬ j.val % 256 - 128 < 32 by omega), dif_neg h160, dif_pos h192, hr]
        have e : (⟨j.val % 256 - 128 - 32, by omega⟩ : Fin 32) = ⟨j.val % 256 - 160, by omega⟩ := Fin.ext (by show j.val % 256 - 128 - 32 = j.val % 256 - 160; omega)
        rw [e]
        refine congrArg₂ (fun a b => f a * cs _ + f b * sn _) (Fin.ext ?_) (Fin.ext ?_)
        · show 128 + (32 + (j.val % 256 - 160)) = j.val % 256
          omega
        · show 128 + (j.val % 256 - 160) = j.val % 256 - 32
          omega
  · rw [dif_neg (fun h => h192 h.2.2.2), hz, dif_neg (show ¬ j.val % 256 < 128 by omega), dif_neg (show ¬ j.val % 256 < 160 by omega), dif_neg h192]

theorem zero_eq : (FloatOps.sitofp .f32 (0#32) : Ideal .f32) = (0 : EReal) := by
  show (((0#32).toInt : ℝ) : EReal) = 0
  simp

theorem laid_apply (y : FVec Ideal S2x8192x4x192 .f32) (l r : FVec Ideal S2x8192x4x32 .f32) (cs sn : Fin 32 → EReal) (i : Fin 16384) (j : Fin 1024)
    (hl : ∀ a : Fin 32, l (ix4 (entry i) (position i) ⟨j.val / 256, by omega⟩ a) = y (ix4 (entry i) (position i) ⟨j.val / 256, by omega⟩ ⟨128 + a.val, by omega⟩) * cs a
      - y (ix4 (entry i) (position i) ⟨j.val / 256, by omega⟩ ⟨128 + (32 + a.val), by omega⟩) * sn a)
    (hr : ∀ a : Fin 32, r (ix4 (entry i) (position i) ⟨j.val / 256, by omega⟩ a) = y (ix4 (entry i) (position i) ⟨j.val / 256, by omega⟩ ⟨128 + (32 + a.val), by omega⟩) * cs a
      + y (ix4 (entry i) (position i) ⟨j.val / 256, by omega⟩ ⟨128 + a.val, by omega⟩) * sn a) :
    laidV y l r (ix2 i j) = turned (fun d => y (ix4 (entry i) (position i) ⟨j.val / 256, by omega⟩ d)) cs sn ⟨j.val % 256, by omega⟩ := by
  pointwise [laidV]
  exact laid_columns (i.val / 8192 < 2) (i.val % 8192 < 8192) (by omega) (by omega) (fun d => y (ix4 (entry i) (position i) ⟨j.val / 256, by omega⟩ d))
    (fun a => l (ix4 (entry i) (position i) ⟨j.val / 256, by omega⟩ a)) (fun a => r (ix4 (entry i) (position i) ⟨j.val / 256, by omega⟩ a)) cs sn _ zero_eq hl hr j

theorem angles_apply (s : Fin 8192) (f : Fin 32) : anglesV (ix2 s f) = angle s f := by
  unfold angle len64
  pointwise [anglesV]
  rfl

/-- A latent head's row, normalised and turned. -/
def embedV (y : FVec Ideal S2x8192x4x192 .f32) : FVec Ideal S16384x1024 .bf16 :=
  laidV y (subf (mulf (leftV y) (tableV (Host.cos anglesV))) (mulf (rightV y) (tableV (Host.sin anglesV))))
    (addf (mulf (rightV y) (tableV (Host.cos anglesV))) (mulf (leftV y) (tableV (Host.sin anglesV))))

theorem embed_apply (y : FVec Ideal S2x8192x4x192 .f32) (i : Fin 16384) (j : Fin 1024) :
    embedV y (ix2 i j) = turned (fun d => y (ix4 (entry i) (position i) ⟨j.val / 256, by omega⟩ d)) (fun f => Ideal.cos (angle (position i) f)) (fun f => Ideal.sin (angle (position i) f))
      ⟨j.val % 256, by omega⟩ := by
  have hc : ∀ a : Fin 32, tableV (Host.cos anglesV) (ix4 (entry i) (position i) ⟨j.val / 256, by omega⟩ a) = Ideal.cos (angle (position i) a) := fun a =>
    (table_apply _ _ _ _ a).trans (congrArg Ideal.cos (angles_apply _ a))
  have hs : ∀ a : Fin 32, tableV (Host.sin anglesV) (ix4 (entry i) (position i) ⟨j.val / 256, by omega⟩ a) = Ideal.sin (angle (position i) a) := fun a =>
    (table_apply _ _ _ _ a).trans (congrArg Ideal.sin (angles_apply _ a))
  unfold embedV
  refine laid_apply y _ _ (fun f => Ideal.cos (angle (position i) f)) (fun f => Ideal.sin (angle (position i) f)) i j (fun a => ?_) fun a => ?_
  · show leftV y (ix4 _ _ _ a) * tableV _ (ix4 _ _ _ a) - rightV y (ix4 _ _ _ a) * tableV _ (ix4 _ _ _ a) = _
    rw [hc, hs, left_apply, right_apply]
  · show rightV y (ix4 _ _ _ a) * tableV _ (ix4 _ _ _ a) + leftV y (ix4 _ _ _ a) * tableV _ (ix4 _ _ _ a) = _
    rw [hc, hs, left_apply, right_apply]

/-- A latent head's values. -/
def valuesV (v : FVec Ideal S2x8192x4x256 .f32) : FVec Ideal S16384x512 .bf16 :=
  truncf .bf16 (shapeCast _ (extractStridedSlice S2x8192x4x128 ![0, 0, 0, 128] v slices_S2x8192x4x256_S2x8192x4x128_0_0_0_128) shapeCasts_S2x8192x4x128_S16384x512) bitsLt_bf16_f32

theorem values_apply (v : FVec Ideal S2x8192x4x256 .f32) (i : Fin 16384) (j : Fin 512) :
    valuesV v (ix2 i j) = v (ix4 (entry i) (position i) ⟨j.val / 128, by omega⟩ ⟨128 + j.val % 128, by omega⟩) := by
  unfold entry position
  pointwise [valuesV]

/-! The six results. -/

section
variable (x : FVec Ideal S2x8192x1024 .f32) (gm : FVec Ideal S1x1024 .f32) (w : FVec Ideal S1x1024x1984 .f32)

theorem first_eq (g : FVec Ideal S1x64 .f32) :
    residuesV (shapeCast S2x8192x512 (headNormV (headsV (extractStridedSlice S2x8192x512 ![0, 0, 0] (projectV x gm w) slices_S2x8192x1984_S2x8192x512_0_0_0)) g) shapeCasts_S2x8192x8x64_S2x8192x512) = dilatedArray x gm w g 0 (by norm_num) := by
  funext y
  obtain ⟨b, r, n, j, rfl⟩ : ∃ (b : Fin 2) (r : Fin 16) (n j : Fin 512), y = ix4 b r n j := ⟨y 0, y 1, y 2, y 3, eq_ix4 y⟩
  rw [residues_apply, joined_apply, headNorm_apply]
  simp only [heads_apply, columns0_apply, project_apply]
  have e1 : (⟨n.val * 16 + r.val, by omega⟩ : Fin 8192) = ⟨16 * n.val + r.val, by omega⟩ := Fin.ext (by show n.val * 16 + r.val = 16 * n.val + r.val; omega)
  have e2 : ∀ d : Fin 64, (⟨0 + (j.val / 64 * 64 + d.val), by omega⟩ : Fin 1984) = ⟨0 + (64 * (j.val / 64) + d.val), by omega⟩ := fun d =>
    Fin.ext (by show 0 + (j.val / 64 * 64 + d.val) = 0 + (64 * (j.val / 64) + d.val); omega)
  rw [e1]
  simp only [e2]
  rfl

theorem second_eq (g : FVec Ideal S1x64 .f32) :
    residuesV (shapeCast S2x8192x512 (headNormV (headsV (extractStridedSlice S2x8192x512 ![0, 0, 512] (projectV x gm w) slices_S2x8192x1984_S2x8192x512_0_0_512)) g) shapeCasts_S2x8192x8x64_S2x8192x512) = dilatedArray x gm w g 512 (by norm_num) := by
  funext y
  obtain ⟨b, r, n, j, rfl⟩ : ∃ (b : Fin 2) (r : Fin 16) (n j : Fin 512), y = ix4 b r n j := ⟨y 0, y 1, y 2, y 3, eq_ix4 y⟩
  rw [residues_apply, joined_apply, headNorm_apply]
  simp only [heads_apply, columns512_apply, project_apply]
  have e1 : (⟨n.val * 16 + r.val, by omega⟩ : Fin 8192) = ⟨16 * n.val + r.val, by omega⟩ := Fin.ext (by show n.val * 16 + r.val = 16 * n.val + r.val; omega)
  have e2 : ∀ d : Fin 64, (⟨512 + (j.val / 64 * 64 + d.val), by omega⟩ : Fin 1984) = ⟨512 + (64 * (j.val / 64) + d.val), by omega⟩ := fun d =>
    Fin.ext (by show 512 + (j.val / 64 * 64 + d.val) = 512 + (64 * (j.val / 64) + d.val); omega)
  rw [e1]
  simp only [e2]
  rfl

theorem third_eq : residuesV (extractStridedSlice S2x8192x512 ![0, 0, 1024] (projectV x gm w) slices_S2x8192x1984_S2x8192x512_0_0_1024) = valueArray x gm w := by
  funext y
  obtain ⟨b, r, n, j, rfl⟩ : ∃ (b : Fin 2) (r : Fin 16) (n j : Fin 512), y = ix4 b r n j := ⟨y 0, y 1, y 2, y 3, eq_ix4 y⟩
  rw [residues_apply, columns1024_apply, project_apply]
  have e1 : (⟨n.val * 16 + r.val, by omega⟩ : Fin 8192) = ⟨16 * n.val + r.val, by omega⟩ := Fin.ext (by show n.val * 16 + r.val = 16 * n.val + r.val; omega)
  rw [e1]
  rfl

theorem queryRow_eq (gq : FVec Ideal S1x256 .f32) (wq : FVec Ideal S1x256x768 .f32) (b : Fin 2) (s : Fin 8192) (h : Fin 4) (d : Fin 192) :
    queryUpV (extractStridedSlice S2x8192x256 ![0, 0, 1536] (projectV x gm w) slices_S2x8192x1984_S2x8192x256_0_0_1536) gq wq (ix4 b s h d) = queryOf x gm w gq wq b s h d := by
  rw [queryUp_apply]
  simp only [columns1536_apply, project_apply]
  unfold queryOf query
  refine Finset.sum_congr rfl fun q _ => congrArg _ ?_
  exact congrArg (fun k => wq (ix3 0 q k)) (Fin.ext (by show h.val * 192 + d.val = 192 * h.val + d.val; omega))

theorem keyRow_eq (gk : FVec Ideal S1x128 .f32) (wk : FVec Ideal S1x128x1024 .f32) (b : Fin 2) (s : Fin 8192) (h : Fin 4) (d : Fin 256) :
    keyUpV (extractStridedSlice S2x8192x128 ![0, 0, 1792] (projectV x gm w) slices_S2x8192x1984_S2x8192x128_0_0_1792) gk wk (ix4 b s h d) = keyValueOf x gm w gk wk b s h d := by
  rw [keyUp_apply]
  simp only [columns1792_apply, project_apply]
  unfold keyValueOf keyValue
  refine Finset.sum_congr rfl fun q _ => congrArg _ ?_
  exact congrArg (fun k => wk (ix3 0 q k)) (Fin.ext (by show h.val * 256 + d.val = 256 * h.val + d.val; omega))

theorem query_eq (gq : FVec Ideal S1x256 .f32) (wq : FVec Ideal S1x256x768 .f32) (g : FVec Ideal S1x192 .f32) :
    embedV (latentNormV (queryUpV (extractStridedSlice S2x8192x256 ![0, 0, 1536] (projectV x gm w) slices_S2x8192x1984_S2x8192x256_0_0_1536) gq wq) g) = queryArray x gm w gq wq g := by
  funext y
  obtain ⟨i, j, rfl⟩ : ∃ (i : Fin 16384) (j : Fin 1024), y = ix2 i j := ⟨y 0, y 1, eq_ix2 y⟩
  rw [embed_apply]
  simp only [latentNorm_apply, queryRow_eq]
  rfl

theorem key_eq (gk : FVec Ideal S1x128 .f32) (wk : FVec Ideal S1x128x1024 .f32) (g : FVec Ideal S1x192 .f32) :
    embedV (latentNormV (keysV (keyUpV (extractStridedSlice S2x8192x128 ![0, 0, 1792] (projectV x gm w) slices_S2x8192x1984_S2x8192x128_0_0_1792) gk wk) (extractStridedSlice S2x8192x64 ![0, 0, 1920] (projectV x gm w) slices_S2x8192x1984_S2x8192x64_0_0_1920)) g) = keyArray x gm w gk wk g := by
  funext y
  obtain ⟨i, j, rfl⟩ : ∃ (i : Fin 16384) (j : Fin 1024), y = ix2 i j := ⟨y 0, y 1, eq_ix2 y⟩
  rw [embed_apply]
  simp only [latentNorm_apply, keys_apply, keyRow_eq, columns1920_apply, project_apply]
  rfl

theorem value_eq (gk : FVec Ideal S1x128 .f32) (wk : FVec Ideal S1x128x1024 .f32) : valuesV (keyUpV (extractStridedSlice S2x8192x128 ![0, 0, 1792] (projectV x gm w) slices_S2x8192x1984_S2x8192x128_0_0_1792) gk wk) = latentValueArray x gm w gk wk := by
  funext y
  obtain ⟨i, j, rfl⟩ : ∃ (i : Fin 16384) (j : Fin 512), y = ix2 i j := ⟨y 0, y 1, eq_ix2 y⟩
  rw [values_apply, keyRow_eq]
  rfl

end

/-- The run's results, and the arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193) = dilatedArray (m ((c.tc : Thread nD τ).loc main_arg0)) (m ((c.tc : Thread nD τ).loc main_arg1)) (m ((c.tc : Thread nD τ).loc main_arg2)) (m ((c.tc : Thread nD τ).loc main_arg3)) 0 (by norm_num)
      ∧ r.2.mem ((c.tc : Thread nD τ).loc main_v195) = dilatedArray (m ((c.tc : Thread nD τ).loc main_arg0)) (m ((c.tc : Thread nD τ).loc main_arg1)) (m ((c.tc : Thread nD τ).loc main_arg2)) (m ((c.tc : Thread nD τ).loc main_arg4)) 512 (by norm_num)
      ∧ r.2.mem ((c.tc : Thread nD τ).loc main_v197) = valueArray (m ((c.tc : Thread nD τ).loc main_arg0)) (m ((c.tc : Thread nD τ).loc main_arg1)) (m ((c.tc : Thread nD τ).loc main_arg2))
      ∧ r.2.mem ((c.tc : Thread nD τ).loc main_v200) = queryArray (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9))
      ∧ r.2.mem ((c.tc : Thread nD τ).loc main_v203) = keyArray (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10))
      ∧ r.2.mem ((c.tc : Thread nD τ).loc main_v205) = latentValueArray (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (first_eq (m ((c.tc : Thread nD τ).loc main_arg0)) (m ((c.tc : Thread nD τ).loc main_arg1)) (m ((c.tc : Thread nD τ).loc main_arg2)) (m ((c.tc : Thread nD τ).loc main_arg3))),
      (h c).2.1.trans (second_eq (m ((c.tc : Thread nD τ).loc main_arg0)) (m ((c.tc : Thread nD τ).loc main_arg1)) (m ((c.tc : Thread nD τ).loc main_arg2)) (m ((c.tc : Thread nD τ).loc main_arg4))),
      (h c).2.2.1.trans (third_eq (m ((c.tc : Thread nD τ).loc main_arg0)) (m ((c.tc : Thread nD τ).loc main_arg1)) (m ((c.tc : Thread nD τ).loc main_arg2))),
      (h c).2.2.2.1.trans (query_eq (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg9))),
      (h c).2.2.2.2.1.trans (key_eq (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg10))),
      (h c).2.2.2.2.2.1.trans (value_eq (m ((c.tc : Thread nD τ).loc main_arg0)) (m ((c.tc : Thread nD τ).loc main_arg1)) (m ((c.tc : Thread nD τ).loc main_arg2)) (m ((c.tc : Thread nD τ).loc main_arg7)) (m ((c.tc : Thread nD τ).loc main_arg8))),
      (h c).2.2.2.2.2.2⟩) (Value.run m ρ)

end Cert.ProjReferenceIdeal.Rows

end
-- ==== Proof.lean ====
/- The five claims of each of the four calls. The latent attention's come from its value run (Proof/ValueRun.lean), the
   blocks it reads and writes (Proof/Blocks.lean) and the equality of the two results (Proof/Equal.lean); the two
   feed-forward calls' come from the array each kernel's blocks make (Proof/OutArray.lean, Proof/FfnArray.lean) and the
   same array read off the reference (Proof/OutReference.lean, Proof/FfnReference.lean); the projections' likewise, from
   six arrays (Proof/ProjArray.lean, Proof/ProjReference.lean), with the frames of Proof/ProjKept.lean. -/
module

public import proofs.«01_k».proof.Defs
public import proofs.«01_k».proof.Proof.Gen.KernelIdeal.Value
public import proofs.«01_k».proof.Proof.Gen.ReferenceIdeal.Run
public import proofs.«01_k».proof.Proof.Gen.OutKernelIdeal.Value
public import proofs.«01_k».proof.Proof.Gen.OutReferenceIdeal.Run
public import proofs.«01_k».proof.Proof.Gen.FfnKernelIdeal.Value
public import proofs.«01_k».proof.Proof.Gen.FfnReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Equal
public import proofs.«01_k».proof.Proof.OutArray
public import proofs.«01_k».proof.Proof.OutReference
public import proofs.«01_k».proof.Proof.FfnArray
public import proofs.«01_k».proof.Proof.FfnReference
public import proofs.«01_k».proof.Proof.Finite
public import proofs.«01_k».proof.Proof.ProjKept
public import proofs.«01_k».proof.Proof.ProjRun
public import proofs.«01_k».proof.Proof.ProjArray
public import proofs.«01_k».proof.Proof.ProjReference
public import Idealize.ShloMosaic.Adequacy
public import Idealize.ShloMosaic.Init

@[expose] public section

noncomputable section

namespace Cert.Proof

open Idealize.ShloMosaic Idealize.SL.Sem Cert.Kernel

/-- The run of the reference, with its result forgotten: its arguments end unchanged, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

open Cert.KernelIdeal.Flash (attnArray scaled tame arrays_eq query_block key_block out_array attn_run) in
open Cert.ReferenceIdeal.Softmax (res_eq) in
/-- From finite queries and keys the kernel and the reference end with one array. -/
theorem equal_results : Cert.algebraic_KernelIdeal_ReferenceIdeal_pre_finite := by
  intro m g m' g' hpre hargs
  have hreal := fun c => Cert.Pre_finite.reals _ _ _ (hpre c)
  refine ⟨fun c => attnArray (scaled (m ((c.tc : Thread Cert.KernelIdeal.nD Cert.KernelIdeal.τ).loc Cert.KernelIdeal.main_arg0)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans (out_array m c), (h c).2⟩) (attn_run m g fun c t => ?_)
    rw [query_block, key_block]
    exact tame (hreal c).1 (hreal c).2 _ _
  · refine (θ_run Cert.ReferenceIdeal.defs _ _).mono (fun r h c => ⟨(h c).1.trans ?_, (h c).2⟩)
      (Cert.ReferenceIdeal.Value.run (F := Ideal) m' g')
    rw [res_eq, (hargs c).1, (hargs c).2.1, (hargs c).2.2]
    exact (arrays_eq (hreal c).1 (hreal c).2 _).symm

/-- The run of the plain projection and second feed-forward, with its result forgotten. -/
theorem frame_out_reference : Cert.quiescent_OutReferenceIdeal := fun m ρ _ =>
  (θ_run Cert.OutReferenceIdeal.defs _ _).mono
    (fun r h => ⟨fun c => (h c).2, sem_eq_zero_of_no_sems (by decide) r.2⟩)
    (Cert.OutReferenceIdeal.Value.run (F := Ideal) m ρ)

/-- The run of the plain first feed-forward, with its result forgotten. -/
theorem frame_ffn_reference : Cert.quiescent_FfnReferenceIdeal := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

/-- The output projection and second feed-forward end with one array, the layer's result. -/
theorem equal_out : Cert.algebraic_OutKernelIdeal_OutReferenceIdeal := by
  intro m g m' g' _ hargs
  refine ⟨fun c => Cert.Swiglu.outArray
    (m ((c.tc : Thread Cert.OutKernelIdeal.nD Cert.OutKernelIdeal.τ).loc Cert.OutKernelIdeal.main_arg0))
    (m ((c.tc : Thread Cert.OutKernelIdeal.nD Cert.OutKernelIdeal.τ).loc Cert.OutKernelIdeal.main_arg1))
    (m ((c.tc : Thread Cert.OutKernelIdeal.nD Cert.OutKernelIdeal.τ).loc Cert.OutKernelIdeal.main_arg2))
    (m ((c.tc : Thread Cert.OutKernelIdeal.nD Cert.OutKernelIdeal.τ).loc Cert.OutKernelIdeal.main_arg3))
    (m ((c.tc : Thread Cert.OutKernelIdeal.nD Cert.OutKernelIdeal.τ).loc Cert.OutKernelIdeal.main_arg4))
    (m ((c.tc : Thread Cert.OutKernelIdeal.nD Cert.OutKernelIdeal.τ).loc Cert.OutKernelIdeal.main_arg5))
    (m ((c.tc : Thread Cert.OutKernelIdeal.nD Cert.OutKernelIdeal.τ).loc Cert.OutKernelIdeal.main_arg6))
    (m ((c.tc : Thread Cert.OutKernelIdeal.nD Cert.OutKernelIdeal.τ).loc Cert.OutKernelIdeal.main_arg7))
    (m ((c.tc : Thread Cert.OutKernelIdeal.nD Cert.OutKernelIdeal.τ).loc Cert.OutKernelIdeal.main_arg8))
    (m ((c.tc : Thread Cert.OutKernelIdeal.nD Cert.OutKernelIdeal.τ).loc Cert.OutKernelIdeal.main_arg9)), ?_, ?_⟩
  · exact (θ_run Cert.OutKernelIdeal.defs _ _).mono (fun r h c => ⟨(h c).1.trans (Cert.OutKernelIdeal.Block.final m c), (h c).2⟩)
      (Cert.OutKernelIdeal.Value.run_blocks (F := Ideal) m g)
  · refine (θ_run Cert.OutReferenceIdeal.defs _ _).mono (fun r h c => ⟨(h c).1.trans ?_, (h c).2⟩)
      (Cert.OutReferenceIdeal.Value.run (F := Ideal) m' g')
    obtain ⟨h0, h1, h2, h3, h4, h5, h6, h7, h8, h9⟩ := hargs c
    refine (Cert.OutReferenceIdeal.Rows.res_eq m' c).trans ?_
    rw [h0, h1, h2, h3, h4, h5, h6, h7, h8, h9]

/-- The first feed-forward and its reference end with one array. -/
theorem equal_ffn : Cert.algebraic_FfnKernelIdeal_FfnReferenceIdeal := by
  intro m g m' g' _ hargs
  refine ⟨fun c => Cert.Swiglu.ffnArray
    (m ((c.tc : Thread Cert.FfnKernelIdeal.nD Cert.FfnKernelIdeal.τ).loc Cert.FfnKernelIdeal.main_arg0))
    (m ((c.tc : Thread Cert.FfnKernelIdeal.nD Cert.FfnKernelIdeal.τ).loc Cert.FfnKernelIdeal.main_arg1))
    (m ((c.tc : Thread Cert.FfnKernelIdeal.nD Cert.FfnKernelIdeal.τ).loc Cert.FfnKernelIdeal.main_arg2))
    (m ((c.tc : Thread Cert.FfnKernelIdeal.nD Cert.FfnKernelIdeal.τ).loc Cert.FfnKernelIdeal.main_arg3))
    (m ((c.tc : Thread Cert.FfnKernelIdeal.nD Cert.FfnKernelIdeal.τ).loc Cert.FfnKernelIdeal.main_arg4)), ?_, ?_⟩
  · exact (θ_run Cert.FfnKernelIdeal.defs _ _).mono (fun r h c => ⟨(h c).1.trans (Cert.FfnKernelIdeal.Block.final m c), (h c).2⟩)
      (Cert.FfnKernelIdeal.Value.run_blocks (F := Ideal) m g)
  · refine (θ_run Cert.FfnReferenceIdeal.defs _ _).mono (fun r h c => ⟨(h c).1.trans ?_, (h c).2⟩)
      (Cert.FfnReferenceIdeal.Value.run (F := Ideal) m' g')
    obtain ⟨h0, h1, h2, h3, h4⟩ := hargs c
    refine (Cert.FfnReferenceIdeal.Rows.result_eq _ _ _ _ _).trans ?_
    rw [h0, h1, h2, h3, h4]

/-- The run of the plain projections, with its results forgotten. -/
theorem frame_proj_reference : Cert.quiescent_ProjReferenceIdeal := fun m ρ _ =>
  (θ_run Cert.ProjReferenceIdeal.defs _ _).mono
    (fun r h => ⟨fun c => (h c).2.2.2.2.2.2, sem_eq_zero_of_no_sems (by decide) r.2⟩)
    (Cert.ProjReferenceIdeal.Value.run (F := Ideal) m ρ)

/-- The projections and their reference end with the same six arrays. -/
theorem equal_proj : Cert.algebraic_ProjKernelIdeal_ProjReferenceIdeal := by
  intro m g m' g' _ hargs
  refine ⟨fun c => Cert.Projection.dilatedArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2))
      (m ((c.tc : Thread Cert.ProjKernelIdeal.nD Cert.ProjKernelIdeal.τ).loc Cert.ProjKernelIdeal.main_arg3)) 0 (by norm_num),
    fun c => Cert.Projection.dilatedArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2))
      (m ((c.tc : Thread Cert.ProjKernelIdeal.nD Cert.ProjKernelIdeal.τ).loc Cert.ProjKernelIdeal.main_arg4)) 512 (by norm_num),
    fun c => Cert.Projection.valueArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2)),
    fun c => Cert.Projection.queryArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2))
      (m ((c.tc : Thread Cert.ProjKernelIdeal.nD Cert.ProjKernelIdeal.τ).loc Cert.ProjKernelIdeal.main_arg5))
      (m ((c.tc : Thread Cert.ProjKernelIdeal.nD Cert.ProjKernelIdeal.τ).loc Cert.ProjKernelIdeal.main_arg6))
      (m ((c.tc : Thread Cert.ProjKernelIdeal.nD Cert.ProjKernelIdeal.τ).loc Cert.ProjKernelIdeal.main_arg9)),
    fun c => Cert.Projection.keyArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2))
      (m ((c.tc : Thread Cert.ProjKernelIdeal.nD Cert.ProjKernelIdeal.τ).loc Cert.ProjKernelIdeal.main_arg7))
      (m ((c.tc : Thread Cert.ProjKernelIdeal.nD Cert.ProjKernelIdeal.τ).loc Cert.ProjKernelIdeal.main_arg8))
      (m ((c.tc : Thread Cert.ProjKernelIdeal.nD Cert.ProjKernelIdeal.τ).loc Cert.ProjKernelIdeal.main_arg10)),
    fun c => Cert.Projection.latentValueArray
      (m ((c.tc : Thread Cert.ProjKernelIdeal.nD Cert.ProjKernelIdeal.τ).loc Cert.ProjKernelIdeal.main_arg0))
      (m ((c.tc : Thread Cert.ProjKernelIdeal.nD Cert.ProjKernelIdeal.τ).loc Cert.ProjKernelIdeal.main_arg1))
      (m ((c.tc : Thread Cert.ProjKernelIdeal.nD Cert.ProjKernelIdeal.τ).loc Cert.ProjKernelIdeal.main_arg2))
      (m ((c.tc : Thread Cert.ProjKernelIdeal.nD Cert.ProjKernelIdeal.τ).loc Cert.ProjKernelIdeal.main_arg7))
      (m ((c.tc : Thread Cert.ProjKernelIdeal.nD Cert.ProjKernelIdeal.τ).loc Cert.ProjKernelIdeal.main_arg8)), ?_, ?_⟩
  · exact (θ_run Cert.ProjKernelIdeal.defs _ _).mono (fun r h c => ⟨(h c).1.trans (Cert.ProjKernelIdeal.Block.final18 m c),
      (h c).2.1.trans (Cert.ProjKernelIdeal.Block.final19 m c),
      (h c).2.2.1.trans (Cert.ProjKernelIdeal.Block.final20 m c),
      (h c).2.2.2.1.trans (Cert.ProjKernelIdeal.Block.final21 m c),
      (h c).2.2.2.2.1.trans (Cert.ProjKernelIdeal.Block.final22 m c),
      (h c).2.2.2.2.2.1.trans (Cert.ProjKernelIdeal.Block.final23 m c),
      (h c).2.2.2.2.2.2⟩) (Cert.ProjKernelIdeal.Launched.run_blocks (F := Ideal) m g)
  · refine (θ_run Cert.ProjReferenceIdeal.defs _ _).mono (fun r h c => ?_) (Cert.ProjReferenceIdeal.Rows.run_values m' g')
    obtain ⟨h0, h1, h2, h3, h4, h5, h6, h7, h8, h9, h10⟩ := hargs c
    obtain ⟨e0, e1, e2, e3, e4, e5, hkept⟩ := h c
    exact ⟨e0.trans (Cert.Projection.dilatedArray_congr h0 h1 h2 h3), e1.trans (Cert.Projection.dilatedArray_congr h0 h1 h2 h4),
      e2.trans (Cert.Projection.valueArray_congr h0 h1 h2), e3.trans (Cert.Projection.queryArray_congr h0 h1 h2 h5 h6 h9),
      e4.trans (Cert.Projection.keyArray_congr h0 h1 h2 h7 h8 h10), e5.trans (Cert.Projection.latentValueArray_congr h0 h1 h2 h7 h8),
      hkept⟩

theorem claim : Cert.Claim :=
  ⟨Cert.Kernel.Gen.facts, Cert.KernelIdeal.Gen.facts, Cert.ReferenceIdeal.Gen.facts, Cert.OutKernel.Gen.facts,
    Cert.OutKernelIdeal.Gen.facts, Cert.OutReferenceIdeal.Gen.facts, Cert.FfnKernel.Gen.facts, Cert.FfnKernelIdeal.Gen.facts,
    Cert.FfnReferenceIdeal.Gen.facts, Cert.ProjKernel.Gen.facts, Cert.ProjKernelIdeal.Gen.facts, Cert.ProjReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.OutKernel.Gen.frame m ρ, fun m ρ _ => Cert.OutKernelIdeal.Gen.frame m ρ, frame_out_reference,
    fun m ρ _ => Cert.FfnKernel.Gen.frame m ρ, fun m ρ _ => Cert.FfnKernelIdeal.Gen.frame m ρ, frame_ffn_reference,
    fun m ρ _ => Cert.ProjKernel.Launched.frame m ρ, fun m ρ _ => Cert.ProjKernelIdeal.Launched.frame m ρ, frame_proj_reference,
    trivial, equal_results, trivial, equal_out, trivial, equal_ffn, IdealRules.named_const.statement Cert.ProjKernelIdeal.κ _ _ _ _ rfl, equal_proj⟩

end Cert.Proof

end
